-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_p" .f32 0x3AA72F05#32 ((784⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512x28x28 : Shape := ⟨4, ![16, 512, 28, 28]⟩
abbrev S16x28x28 : Shape := ⟨3, ![16, 28, 28]⟩
abbrev S1x512x28x28 : Shape := ⟨4, ![1, 512, 28, 28]⟩
abbrev S1x28x28 : Shape := ⟨3, ![1, 28, 28]⟩
abbrev S784x784 : Shape := ⟨2, ![784, 784]⟩
abbrev S32x16x784 : Shape := ⟨3, ![32, 16, 784]⟩
abbrev S32x16x16x784 : Shape := ⟨4, ![32, 16, 16, 784]⟩
abbrev S1x1x28x28 : Shape := ⟨4, ![1, 1, 28, 28]⟩
abbrev S28x28 : Shape := ⟨2, ![28, 28]⟩
abbrev S1x28 : Shape := ⟨2, ![1, 28]⟩
abbrev S1x784 : Shape := ⟨2, ![1, 784]⟩
abbrev S1x1x784 : Shape := ⟨3, ![1, 1, 784]⟩
abbrev S1x2x784 : Shape := ⟨3, ![1, 2, 784]⟩
abbrev S16x784 : Shape := ⟨2, ![16, 784]⟩
abbrev S1x1x16x784 : Shape := ⟨4, ![1, 1, 16, 784]⟩
abbrev S64x784 : Shape := ⟨2, ![64, 784]⟩
abbrev S1x16x64 : Shape := ⟨3, ![1, 16, 64]⟩
abbrev S16x64 : Shape := ⟨2, ![16, 64]⟩
abbrev S64x16 : Shape := ⟨2, ![64, 16]⟩
abbrev S64x1 : Shape := ⟨2, ![64, 1]⟩
abbrev S784 : Shape := ⟨1, ![784]⟩
abbrev S1x16x16 : Shape := ⟨3, ![1, 16, 16]⟩
abbrev S16x16 : Shape := ⟨2, ![16, 16]⟩
abbrev S16x1 : Shape := ⟨2, ![16, 1]⟩
abbrev S8x784 : Shape := ⟨2, ![8, 784]⟩
abbrev S8x112 : Shape := ⟨2, ![8, 112]⟩
abbrev S112x784 : Shape := ⟨2, ![112, 784]⟩
abbrev S1x1x28 : Shape := ⟨3, ![1, 1, 28]⟩

abbrev nBuf : Space → Nat
  | .hbm => 2
  | .vmem => 7
  | .smem => 0
  | _ => 0

abbrev bufTy : (tb : Table) → Fin (tcTables nBuf tb) → BufTy
  | .hbm, ⟨0, _⟩ => ⟨S16x512x28x28, .f32⟩
  | .hbm, ⟨1, _⟩ => ⟨S16x28x28, .f32⟩
  | .local _ .vmem, ⟨0, _⟩ => ⟨S1x512x28x28, .f32⟩
  | .local _ .vmem, ⟨1, _⟩ => ⟨S1x512x28x28, .f32⟩
  | .local _ .vmem, ⟨2, _⟩ => ⟨S1x28x28, .f32⟩
  | .local _ .vmem, ⟨3, _⟩ => ⟨S1x28x28, .f32⟩
  | .local _ .vmem, ⟨4, _⟩ => ⟨S784x784, .f32⟩
  | .local _ .vmem, ⟨5, _⟩ => ⟨S32x16x784, .bf16⟩
  | .local _ .vmem, ⟨6, _⟩ => ⟨S32x16x16x784, .bf16⟩
  | _, _ => ⟨S16x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) (c0_i32_678 : BitVec 32) : Fin 4 → Nat :=
  let c0_679 : Index := 0#32
  let c0_i32 : BitVec 32 := 0#32
  let c1_i32 : BitVec 32 := 1#32
  let arg6 : BitVec 32 := Scf.iv c0_i32 c1_i32 k0_t1
  let c16_i32 : BitVec 32 := 16#32
  let v871 : BitVec 32 := Scalar.muli arg6 c16_i32
  let v872 : BitVec 32 := Scalar.addi v871 c0_i32_678
  let v873 : Index := Scalar.indexCast v872
  let c0_680 : Index := 0#32
  let c0_681 : Index := 0#32
  ![0, v873.toNat, 0, 0]
def k0_off2 (k0_t1 : Fin k0_t1_loop.trips) : Fin 3 → Nat :=
  let c0_i32 : BitVec 32 := 0#32
  let c1_i32 : BitVec 32 := 1#32
  let arg6 : BitVec 32 := Scf.iv c0_i32 c1_i32 k0_t1
  let v906 : Index := Scalar.indexCast arg6
  let c0_682 : Index := 0#32
  let c0_683 : Index := 0#32
  ![v906.toNat, 0, 0]
def k0_off3 (k0_t1 : Fin k0_t1_loop.trips) : Fin 3 → Nat :=
  let c0_i32 : BitVec 32 := 0#32
  let c1_i32 : BitVec 32 := 1#32
  let arg6 : BitVec 32 := Scf.iv c0_i32 c1_i32 k0_t1
  let v906 : Index := Scalar.indexCast arg6
  let c0_682 : Index := 0#32
  let c0_683 : Index := 0#32
  ![v906.toNat, 0, 0]
def k0_off4 (k0_t1 : Fin k0_t1_loop.trips) : Fin 4 → Nat :=
  let c0_i32 : BitVec 32 := 0#32
  let c1_i32 : BitVec 32 := 1#32
  let arg6 : BitVec 32 := Scf.iv c0_i32 c1_i32 k0_t1
  let v912 : Index := Scalar.indexCast arg6
  let c0_684 : Index := 0#32
  let c0_685 : Index := 0#32
  let c0_686 : Index := 0#32
  ![v912.toNat, 0, 0, 0]
def k0_off5 (k0_t1 : Fin k0_t1_loop.trips) : Fin 3 → Nat :=
  let c0_i32 : BitVec 32 := 0#32
  let c1_i32 : BitVec 32 := 1#32
  let arg6 : BitVec 32 := Scf.iv c0_i32 c1_i32 k0_t1
  let v951 : Index := Scalar.indexCast arg6
  let c1_692 : Index := 1#32
  let c0_693 : Index := 0#32
  ![v951.toNat, 1, 0]
def k0_off6 (k0_t1 : Fin k0_t1_loop.trips) : Fin 3 → Nat :=
  let c0_i32 : BitVec 32 := 0#32
  let c1_i32 : BitVec 32 := 1#32
  let arg6 : BitVec 32 := Scf.iv c0_i32 c1_i32 k0_t1
  let v951 : Index := Scalar.indexCast arg6
  let c0_693 : Index := 0#32
  ![v951.toNat, 0, 0]
def k0_off7 (k0_t1 : Fin k0_t1_loop.trips) : Fin 4 → Nat :=
  let c0_i32 : BitVec 32 := 0#32
  let c1_i32 : BitVec 32 := 1#32
  let arg6 : BitVec 32 := Scf.iv c0_i32 c1_i32 k0_t1
  let v957 : Index := Scalar.indexCast arg6
  let c1_694 : Index := 1#32
  let c0_695 : Index := 0#32
  let c0_696 : Index := 0#32
  ![v957.toNat, 1, 0, 0]
def k0_off8 (k0_t1 : Fin k0_t1_loop.trips) : Fin 3 → Nat :=
  let c0_i32 : BitVec 32 := 0#32
  let c1_i32 : BitVec 32 := 1#32
  let arg6 : BitVec 32 := Scf.iv c0_i32 c1_i32 k0_t1
  let v996 : Index := Scalar.indexCast arg6
  let c2_701 : Index := 2#32
  let c0_702 : Index := 0#32
  ![v996.toNat, 2, 0]
def k0_off9 (k0_t1 : Fin k0_t1_loop.trips) : Fin 3 → Nat :=
  let c0_i32 : BitVec 32 := 0#32
  let c1_i32 : BitVec 32 := 1#32
  let arg6 : BitVec 32 := Scf.iv c0_i32 c1_i32 k0_t1
  let v996 : Index := Scalar.indexCast arg6
  let c2_701 : Index := 2#32
  let c0_702 : Index := 0#32
  ![v996.toNat, 2, 0]
def k0_off10 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1002 : Index := Scalar.indexCast arg6
  let c2_703 : Index := 2#32
  let c0_704 : Index := 0#32
  let c0_705 : Index := 0#32
  ![v1002.toNat, 2, 0, 0]
def k0_off11 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1041 : Index := Scalar.indexCast arg6
  let c3_710 : Index := 3#32
  let c0_711 : Index := 0#32
  ![v1041.toNat, 3, 0]
def k0_off12 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1041 : Index := Scalar.indexCast arg6
  let c0_711 : Index := 0#32
  ![v1041.toNat, 2, 0]
def k0_off13 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1047 : Index := Scalar.indexCast arg6
  let c3_712 : Index := 3#32
  let c0_713 : Index := 0#32
  let c0_714 : Index := 0#32
  ![v1047.toNat, 3, 0, 0]
def k0_off14 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1086 : Index := Scalar.indexCast arg6
  let c4_720 : Index := 4#32
  let c0_721 : Index := 0#32
  ![v1086.toNat, 4, 0]
def k0_off15 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1086 : Index := Scalar.indexCast arg6
  let c4_720 : Index := 4#32
  let c0_721 : Index := 0#32
  ![v1086.toNat, 4, 0]
def k0_off16 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1092 : Index := Scalar.indexCast arg6
  let c4_722 : Index := 4#32
  let c0_723 : Index := 0#32
  let c0_724 : Index := 0#32
  ![v1092.toNat, 4, 0, 0]
def k0_off17 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1131 : Index := Scalar.indexCast arg6
  let c5_729 : Index := 5#32
  let c0_730 : Index := 0#32
  ![v1131.toNat, 5, 0]
def k0_off18 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1131 : Index := Scalar.indexCast arg6
  let c0_730 : Index := 0#32
  ![v1131.toNat, 4, 0]
def k0_off19 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1137 : Index := Scalar.indexCast arg6
  let c5_731 : Index := 5#32
  let c0_732 : Index := 0#32
  let c0_733 : Index := 0#32
  ![v1137.toNat, 5, 0, 0]
def k0_off20 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1176 : Index := Scalar.indexCast arg6
  let c6_738 : Index := 6#32
  let c0_739 : Index := 0#32
  ![v1176.toNat, 6, 0]
def k0_off21 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1176 : Index := Scalar.indexCast arg6
  let c6_738 : Index := 6#32
  let c0_739 : Index := 0#32
  ![v1176.toNat, 6, 0]
def k0_off22 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1182 : Index := Scalar.indexCast arg6
  let c6_740 : Index := 6#32
  let c0_741 : Index := 0#32
  let c0_742 : Index := 0#32
  ![v1182.toNat, 6, 0, 0]
def k0_off23 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1221 : Index := Scalar.indexCast arg6
  let c7_747 : Index := 7#32
  let c0_748 : Index := 0#32
  ![v1221.toNat, 7, 0]
def k0_off24 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1221 : Index := Scalar.indexCast arg6
  let c0_748 : Index := 0#32
  ![v1221.toNat, 6, 0]
def k0_off25 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1227 : Index := Scalar.indexCast arg6
  let c7_749 : Index := 7#32
  let c0_750 : Index := 0#32
  let c0_751 : Index := 0#32
  ![v1227.toNat, 7, 0, 0]
def k0_off26 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1266 : Index := Scalar.indexCast arg6
  let c8_756 : Index := 8#32
  let c0_757 : Index := 0#32
  ![v1266.toNat, 8, 0]
def k0_off27 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1266 : Index := Scalar.indexCast arg6
  let c8_756 : Index := 8#32
  let c0_757 : Index := 0#32
  ![v1266.toNat, 8, 0]
def k0_off28 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1272 : Index := Scalar.indexCast arg6
  let c8_758 : Index := 8#32
  let c0_759 : Index := 0#32
  let c0_760 : Index := 0#32
  ![v1272.toNat, 8, 0, 0]
def k0_off29 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1311 : Index := Scalar.indexCast arg6
  let c9_765 : Index := 9#32
  let c0_766 : Index := 0#32
  ![v1311.toNat, 9, 0]
def k0_off30 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1311 : Index := Scalar.indexCast arg6
  let c0_766 : Index := 0#32
  ![v1311.toNat, 8, 0]
def k0_off31 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1317 : Index := Scalar.indexCast arg6
  let c9_767 : Index := 9#32
  let c0_768 : Index := 0#32
  let c0_769 : Index := 0#32
  ![v1317.toNat, 9, 0, 0]
def k0_off32 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1356 : Index := Scalar.indexCast arg6
  let c10_774 : Index := 10#32
  let c0_775 : Index := 0#32
  ![v1356.toNat, 10, 0]
def k0_off33 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1356 : Index := Scalar.indexCast arg6
  let c10_774 : Index := 10#32
  let c0_775 : Index := 0#32
  ![v1356.toNat, 10, 0]
def k0_off34 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1362 : Index := Scalar.indexCast arg6
  let c10_776 : Index := 10#32
  let c0_777 : Index := 0#32
  let c0_778 : Index := 0#32
  ![v1362.toNat, 10, 0, 0]
def k0_off35 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1401 : Index := Scalar.indexCast arg6
  let c11_783 : Index := 11#32
  let c0_784 : Index := 0#32
  ![v1401.toNat, 11, 0]
def k0_off36 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1401 : Index := Scalar.indexCast arg6
  let c0_784 : Index := 0#32
  ![v1401.toNat, 10, 0]
def k0_off37 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1407 : Index := Scalar.indexCast arg6
  let c11_785 : Index := 11#32
  let c0_786 : Index := 0#32
  let c0_787 : Index := 0#32
  ![v1407.toNat, 11, 0, 0]
def k0_off38 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1446 : Index := Scalar.indexCast arg6
  let c12_792 : Index := 12#32
  let c0_793 : Index := 0#32
  ![v1446.toNat, 12, 0]
def k0_off39 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1446 : Index := Scalar.indexCast arg6
  let c12_792 : Index := 12#32
  let c0_793 : Index := 0#32
  ![v1446.toNat, 12, 0]
def k0_off40 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1452 : Index := Scalar.indexCast arg6
  let c12_794 : Index := 12#32
  let c0_795 : Index := 0#32
  let c0_796 : Index := 0#32
  ![v1452.toNat, 12, 0, 0]
def k0_off41 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1491 : Index := Scalar.indexCast arg6
  let c13_801 : Index := 13#32
  let c0_802 : Index := 0#32
  ![v1491.toNat, 13, 0]
def k0_off42 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1491 : Index := Scalar.indexCast arg6
  let c0_802 : Index := 0#32
  ![v1491.toNat, 12, 0]
def k0_off43 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1497 : Index := Scalar.indexCast arg6
  let c13_803 : Index := 13#32
  let c0_804 : Index := 0#32
  let c0_805 : Index := 0#32
  ![v1497.toNat, 13, 0, 0]
def k0_off44 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1536 : Index := Scalar.indexCast arg6
  let c14_810 : Index := 14#32
  let c0_811 : Index := 0#32
  ![v1536.toNat, 14, 0]
def k0_off45 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1536 : Index := Scalar.indexCast arg6
  let c14_810 : Index := 14#32
  let c0_811 : Index := 0#32
  ![v1536.toNat, 14, 0]
def k0_off46 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1542 : Index := Scalar.indexCast arg6
  let c14_812 : Index := 14#32
  let c0_813 : Index := 0#32
  let c0_814 : Index := 0#32
  ![v1542.toNat, 14, 0, 0]
def k0_off47 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1581 : Index := Scalar.indexCast arg6
  let c15_819 : Index := 15#32
  let c0_820 : Index := 0#32
  ![v1581.toNat, 15, 0]
def k0_off48 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1581 : Index := Scalar.indexCast arg6
  let c0_820 : Index := 0#32
  ![v1581.toNat, 14, 0]
def k0_off49 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1587 : Index := Scalar.indexCast arg6
  let c15_821 : Index := 15#32
  let c0_822 : Index := 0#32
  let c0_823 : Index := 0#32
  ![v1587.toNat, 15, 0, 0]
@[reducible] def k0_t2_loop : Scf.Loop 32 :=
  let c0_i32_18 : BitVec 32 := 0#32
  let c4_i32 : BitVec 32 := 4#32
  let v27 : BitVec 32 := Scalar.addi c0_i32_18 c4_i32
  let c1_i32_19 : BitVec 32 := 1#32
  ⟨c0_i32_18, v27, c1_i32_19⟩
def k0_off50 (k0_t2 : Fin k0_t2_loop.trips) (c0_i32_679 : BitVec 32) : Fin 3 → Nat :=
  let c8_i32 : BitVec 32 := 8#32
  let c0_i32_18 : BitVec 32 := 0#32
  let c1_i32_19 : BitVec 32 := 1#32
  let arg6 : BitVec 32 := Scf.iv c0_i32_18 c1_i32_19 k0_t2
  let v871 : BitVec 32 := Scalar.muli c8_i32 arg6
  let c8_i32_678 : BitVec 32 := 8#32
  let v872 : BitVec 32 := Scalar.addi v871 c8_i32_678
  let v873 : BitVec 32 := Scalar.addi v872 c0_i32_679
  let c31_i32 : BitVec 32 := 31#32
  let v874 : BitVec 32 := Scalar.minsi v873 c31_i32
  let v875 : Index := Scalar.indexCast v874
  let c0_680 : Index := 0#32
  let c0_681 : Index := 0#32
  ![v875.toNat, 0, 0]
def k0_off51 (k0_t2 : Fin k0_t2_loop.trips) (c0_i32_720 : BitVec 32) : Fin 4 → Nat :=
  let c8_i32_719 : BitVec 32 := 8#32
  let c0_i32_18 : BitVec 32 := 0#32
  let c1_i32_19 : BitVec 32 := 1#32
  let arg6 : BitVec 32 := Scf.iv c0_i32_18 c1_i32_19 k0_t2
  let v935 : BitVec 32 := Scalar.muli c8_i32_719 arg6
  let v936 : BitVec 32 := Scalar.addi v935 c0_i32_720
  let v937 : Index := Scalar.indexCast v936
  let c0_721 : Index := 0#32
  let c0_722 : Index := 0#32
  let c0_723 : Index := 0#32
  ![v937.toNat, 0, 0, 0]
def k0_off52 (k0_t2 : Fin k0_t2_loop.trips) (c0_i32_725 : BitVec 32) : Fin 4 → Nat :=
  let c8_i32_724 : BitVec 32 := 8#32
  let c0_i32_18 : BitVec 32 := 0#32
  let c1_i32_19 : BitVec 32 := 1#32
  let arg6 : BitVec 32 := Scf.iv c0_i32_18 c1_i32_19 k0_t2
  let v946 : BitVec 32 := Scalar.muli c8_i32_724 arg6
  let v947 : BitVec 32 := Scalar.addi v946 c0_i32_725
  let v948 : Index := Scalar.indexCast v947
  let c1_726 : Index := 1#32
  let c0_727 : Index := 0#32
  let c0_728 : Index := 0#32
  ![v948.toNat, 1, 0, 0]
def k0_off53 (k0_t2 : Fin k0_t2_loop.trips) (c0_i32_730 : BitVec 32) : Fin 4 → Nat :=
  let c8_i32_729 : BitVec 32 := 8#32
  let c0_i32_18 : BitVec 32 := 0#32
  let c1_i32_19 : BitVec 32 := 1#32
  let arg6 : BitVec 32 := Scf.iv c0_i32_18 c1_i32_19 k0_t2
  let v957 : BitVec 32 := Scalar.muli c8_i32_729 arg6
  let v958 : BitVec 32 := Scalar.addi v957 c0_i32_730
  let v959 : Index := Scalar.indexCast v958
  let c2_731 : Index := 2#32
  let c0_732 : Index := 0#32
  let c0_733 : Index := 0#32
  ![v959.toNat, 2, 0, 0]
def k0_off54 (k0_t2 : Fin k0_t2_loop.trips) (c0_i32_735 : BitVec 32) : Fin 4 → Nat :=
  let c8_i32_734 : BitVec 32 := 8#32
  let c0_i32_18 : BitVec 32 := 0#32
  let c1_i32_19 : BitVec 32 := 1#32
  let arg6 : BitVec 32 := Scf.iv c0_i32_18 c1_i32_19 k0_t2
  let v968 : BitVec 32 := Scalar.muli c8_i32_734 arg6
  let v969 : BitVec 32 := Scalar.addi v968 c0_i32_735
  let v970 : Index := Scalar.indexCast v969
  let c3_736 : Index := 3#32
  let c0_737 : Index := 0#32
  let c0_738 : Index := 0#32
  ![v970.toNat, 3, 0, 0]
def k0_off55 (k0_t2 : Fin k0_t2_loop.trips) (c0_i32_740 : BitVec 32) : Fin 4 → Nat :=
  let c8_i32_739 : BitVec 32 := 8#32
  let c0_i32_18 : BitVec 32 := 0#32
  let c1_i32_19 : BitVec 32 := 1#32
  let arg6 : BitVec 32 := Scf.iv c0_i32_18 c1_i32_19 k0_t2
  let v979 : BitVec 32 := Scalar.muli c8_i32_739 arg6
  let v980 : BitVec 32 := Scalar.addi v979 c0_i32_740
  let v981 : Index := Scalar.indexCast v980
  let c4_741 : Index := 4#32
  let c0_742 : Index := 0#32
  let c0_743 : Index := 0#32
  ![v981.toNat, 4, 0, 0]
def k0_off56 (k0_t2 : Fin k0_t2_loop.trips) (c0_i32_745 : BitVec 32) : Fin 4 → Nat :=
  let c8_i32_744 : BitVec 32 := 8#32
  let c0_i32_18 : BitVec 32 := 0#32
  let c1_i32_19 : BitVec 32 := 1#32
  let arg6 : BitVec 32 := Scf.iv c0_i32_18 c1_i32_19 k0_t2
  let v990 : BitVec 32 := Scalar.muli c8_i32_744 arg6
  let v991 : BitVec 32 := Scalar.addi v990 c0_i32_745
  let v992 : Index := Scalar.indexCast v991
  let c5_746 : Index := 5#32
  let c0_747 : Index := 0#32
  let c0_748 : Index := 0#32
  ![v992.toNat, 5, 0, 0]
def k0_off57 (k0_t2 : Fin k0_t2_loop.trips) (c0_i32_750 : BitVec 32) : Fin 4 → Nat :=
  let c8_i32_749 : BitVec 32 := 8#32
  let c0_i32_18 : BitVec 32 := 0#32
  let c1_i32_19 : BitVec 32 := 1#32
  let arg6 : BitVec 32 := Scf.iv c0_i32_18 c1_i32_19 k0_t2
  let v1001 : BitVec 32 := Scalar.muli c8_i32_749 arg6
  let v1002 : BitVec 32 := Scalar.addi v1001 c0_i32_750
  let v1003 : Index := Scalar.indexCast v1002
  let c6_751 : Index := 6#32
  let c0_752 : Index := 0#32
  let c0_753 : Index := 0#32
  ![v1003.toNat, 6, 0, 0]
def k0_off58 (k0_t2 : Fin k0_t2_loop.trips) (c0_i32_755 : BitVec 32) : Fin 4 → Nat :=
  let c8_i32_754 : BitVec 32 := 8#32
  let c0_i32_18 : BitVec 32 := 0#32
  let c1_i32_19 : BitVec 32 := 1#32
  let arg6 : BitVec 32 := Scf.iv c0_i32_18 c1_i32_19 k0_t2
  let v1012 : BitVec 32 := Scalar.muli c8_i32_754 arg6
  let v1013 : BitVec 32 := Scalar.addi v1012 c0_i32_755
  let v1014 : Index := Scalar.indexCast v1013
  let c7_756 : Index := 7#32
  let c0_757 : Index := 0#32
  let c0_758 : Index := 0#32
  ![v1014.toNat, 7, 0, 0]
def k0_off59 (k0_t2 : Fin k0_t2_loop.trips) (c0_i32_760 : BitVec 32) : Fin 4 → Nat :=
  let c8_i32_759 : BitVec 32 := 8#32
  let c0_i32_18 : BitVec 32 := 0#32
  let c1_i32_19 : BitVec 32 := 1#32
  let arg6 : BitVec 32 := Scf.iv c0_i32_18 c1_i32_19 k0_t2
  let v1023 : BitVec 32 := Scalar.muli c8_i32_759 arg6
  let v1024 : BitVec 32 := Scalar.addi v1023 c0_i32_760
  let v1025 : Index := Scalar.indexCast v1024
  let c8_761 : Index := 8#32
  let c0_762 : Index := 0#32
  let c0_763 : Index := 0#32
  ![v1025.toNat, 8, 0, 0]
def k0_off60 (k0_t2 : Fin k0_t2_loop.trips) (c0_i32_765 : BitVec 32) : Fin 4 → Nat :=
  let c8_i32_764 : BitVec 32 := 8#32
  let c0_i32_18 : BitVec 32 := 0#32
  let c1_i32_19 : BitVec 32 := 1#32
  let arg6 : BitVec 32 := Scf.iv c0_i32_18 c1_i32_19 k0_t2
  let v1034 : BitVec 32 := Scalar.muli c8_i32_764 arg6
  let v1035 : BitVec 32 := Scalar.addi v1034 c0_i32_765
  let v1036 : Index := Scalar.indexCast v1035
  let c9_766 : Index := 9#32
  let c0_767 : Index := 0#32
  let c0_768 : Index := 0#32
  ![v1036.toNat, 9, 0, 0]
def k0_off61 (k0_t2 : Fin k0_t2_loop.trips) (c0_i32_770 : BitVec 32) : Fin 4 → Nat :=
  let c8_i32_769 : BitVec 32 := 8#32
  let c0_i32_18 : BitVec 32 := 0#32
  let c1_i32_19 : BitVec 32 := 1#32
  let arg6 : BitVec 32 := Scf.iv c0_i32_18 c1_i32_19 k0_t2
  let v1045 : BitVec 32 := Scalar.muli c8_i32_769 arg6
  let v1046 : BitVec 32 := Scalar.addi v1045 c0_i32_770
  let v1047 : Index := Scalar.indexCast v1046
  let c10_771 : Index := 10#32
  let c0_772 : Index := 0#32
  let c0_773 : Index := 0#32
  ![v1047.toNat, 10, 0, 0]
def k0_off62 (k0_t2 : Fin k0_t2_loop.trips) (c0_i32_775 : BitVec 32) : Fin 4 → Nat :=
  let c8_i32_774 : BitVec 32 := 8#32
  let c0_i32_18 : BitVec 32 := 0#32
  let c1_i32_19 : BitVec 32 := 1#32
  let arg6 : BitVec 32 := Scf.iv c0_i32_18 c1_i32_19 k0_t2
  let v1056 : BitVec 32 := Scalar.muli c8_i32_774 arg6
  let v1057 : BitVec 32 := Scalar.addi v1056 c0_i32_775
  let v1058 : Index := Scalar.indexCast v1057
  let c11_776 : Index := 11#32
  let c0_777 : Index := 0#32
  let c0_778 : Index := 0#32
  ![v1058.toNat, 11, 0, 0]
def k0_off63 (k0_t2 : Fin k0_t2_loop.trips) (c0_i32_780 : BitVec 32) : Fin 4 → Nat :=
  let c8_i32_779 : BitVec 32 := 8#32
  let c0_i32_18 : BitVec 32 := 0#32
  let c1_i32_19 : BitVec 32 := 1#32
  let arg6 : BitVec 32 := Scf.iv c0_i32_18 c1_i32_19 k0_t2
  let v1067 : BitVec 32 := Scalar.muli c8_i32_779 arg6
  let v1068 : BitVec 32 := Scalar.addi v1067 c0_i32_780
  let v1069 : Index := Scalar.indexCast v1068
  let c12_781 : Index := 12#32
  let c0_782 : Index := 0#32
  let c0_783 : Index := 0#32
  ![v1069.toNat, 12, 0, 0]
def k0_off64 (k0_t2 : Fin k0_t2_loop.trips) (c0_i32_785 : BitVec 32) : Fin 4 → Nat :=
  let c8_i32_784 : BitVec 32 := 8#32
  let c0_i32_18 : BitVec 32 := 0#32
  let c1_i32_19 : BitVec 32 := 1#32
  let arg6 : BitVec 32 := Scf.iv c0_i32_18 c1_i32_19 k0_t2
  let v1078 : BitVec 32 := Scalar.muli c8_i32_784 arg6
  let v1079 : BitVec 32 := Scalar.addi v1078 c0_i32_785
  let v1080 : Index := Scalar.indexCast v1079
  let c13_786 : Index := 13#32
  let c0_787 : Index := 0#32
  let c0_788 : Index := 0#32
  ![v1080.toNat, 13, 0, 0]
def k0_off65 (k0_t2 : Fin k0_t2_loop.trips) (c0_i32_790 : BitVec 32) : Fin 4 → Nat :=
  let c8_i32_789 : BitVec 32 := 8#32
  let c0_i32_18 : BitVec 32 := 0#32
  let c1_i32_19 : BitVec 32 := 1#32
  let arg6 : BitVec 32 := Scf.iv c0_i32_18 c1_i32_19 k0_t2
  let v1089 : BitVec 32 := Scalar.muli c8_i32_789 arg6
  let v1090 : BitVec 32 := Scalar.addi v1089 c0_i32_790
  let v1091 : Index := Scalar.indexCast v1090
  let c14_791 : Index := 14#32
  let c0_792 : Index := 0#32
  let c0_793 : Index := 0#32
  ![v1091.toNat, 14, 0, 0]
def k0_off66 (k0_t2 : Fin k0_t2_loop.trips) (c0_i32_795 : BitVec 32) : Fin 4 → Nat :=
  let c8_i32_794 : BitVec 32 := 8#32
  let c0_i32_18 : BitVec 32 := 0#32
  let c1_i32_19 : BitVec 32 := 1#32
  let arg6 : BitVec 32 := Scf.iv c0_i32_18 c1_i32_19 k0_t2
  let v1100 : BitVec 32 := Scalar.muli c8_i32_794 arg6
  let v1101 : BitVec 32 := Scalar.addi v1100 c0_i32_795
  let v1102 : Index := Scalar.indexCast v1101
  let c15_796 : Index := 15#32
  let c0_797 : Index := 0#32
  let c0_798 : Index := 0#32
  ![v1102.toNat, 15, 0, 0]
@[reducible] def k0_t3_loop : Scf.Loop 32 :=
  let c0_i32_48 : BitVec 32 := 0#32
  let c4_i32_49 : BitVec 32 := 4#32
  let v61 : BitVec 32 := Scalar.addi c0_i32_48 c4_i32_49
  let c1_i32_50 : BitVec 32 := 1#32
  ⟨c0_i32_48, v61, c1_i32_50⟩
def k0_off67 (k0_t3 : Fin k0_t3_loop.trips) (c0_i32_679 : BitVec 32) : Fin 3 → Nat :=
  let c8_i32 : BitVec 32 := 8#32
  let c0_i32_48 : BitVec 32 := 0#32
  let c1_i32_50 : BitVec 32 := 1#32
  let arg6 : BitVec 32 := Scf.iv c0_i32_48 c1_i32_50 k0_t3
  let v871 : BitVec 32 := Scalar.muli c8_i32 arg6
  let c8_i32_678 : BitVec 32 := 8#32
  let v872 : BitVec 32 := Scalar.addi v871 c8_i32_678
  let v873 : BitVec 32 := Scalar.addi v872 c0_i32_679
  let c31_i32 : BitVec 32 := 31#32
  let v874 : BitVec 32 := Scalar.minsi v873 c31_i32
  let v875 : Index := Scalar.indexCast v874
  let c0_680 : Index := 0#32
  let c64_681 : Index := 64#32
  ![v875.toNat, 0, 64]
def k0_off68 (k0_t3 : Fin k0_t3_loop.trips) (c0_i32_720 : BitVec 32) : Fin 4 → Nat :=
  let c8_i32_719 : BitVec 32 := 8#32
  let c0_i32_48 : BitVec 32 := 0#32
  let c1_i32_50 : BitVec 32 := 1#32
  let arg6 : BitVec 32 := Scf.iv c0_i32_48 c1_i32_50 k0_t3
  let v935 : BitVec 32 := Scalar.muli c8_i32_719 arg6
  let v936 : BitVec 32 := Scalar.addi v935 c0_i32_720
  let v937 : Index := Scalar.indexCast v936
  let c0_721 : Index := 0#32
  let c0_722 : Index := 0#32
  let c0_723 : Index := 0#32
  ![v937.toNat, 0, 0, 0]
def k0_off69 (k0_t3 : Fin k0_t3_loop.trips) (c0_i32_725 : BitVec 32) : Fin 4 → Nat :=
  let c8_i32_724 : BitVec 32 := 8#32
  let c0_i32_48 : BitVec 32 := 0#32
  let c1_i32_50 : BitVec 32 := 1#32
  let arg6 : BitVec 32 := Scf.iv c0_i32_48 c1_i32_50 k0_t3
  let v946 : BitVec 32 := Scalar.muli c8_i32_724 arg6
  let v947 : BitVec 32 := Scalar.addi v946 c0_i32_725
  let v948 : Index := Scalar.indexCast v947
  let c1_726 : Index := 1#32
  let c0_727 : Index := 0#32
  let c0_728 : Index := 0#32
  ![v948.toNat, 1, 0, 0]
def k0_off70 (k0_t3 : Fin k0_t3_loop.trips) (c0_i32_730 : BitVec 32) : Fin 4 → Nat :=
  let c8_i32_729 : BitVec 32 := 8#32
  let c0_i32_48 : BitVec 32 := 0#32
  let c1_i32_50 : BitVec 32 := 1#32
  let arg6 : BitVec 32 := Scf.iv c0_i32_48 c1_i32_50 k0_t3
  let v957 : BitVec 32 := Scalar.muli c8_i32_729 arg6
  let v958 : BitVec 32 := Scalar.addi v957 c0_i32_730
  let v959 : Index := Scalar.indexCast v958
  let c2_731 : Index := 2#32
  let c0_732 : Index := 0#32
  let c0_733 : Index := 0#32
  ![v959.toNat, 2, 0, 0]
def k0_off71 (k0_t3 : Fin k0_t3_loop.trips) (c0_i32_735 : BitVec 32) : Fin 4 → Nat :=
  let c8_i32_734 : BitVec 32 := 8#32
  let c0_i32_48 : BitVec 32 := 0#32
  let c1_i32_50 : BitVec 32 := 1#32
  let arg6 : BitVec 32 := Scf.iv c0_i32_48 c1_i32_50 k0_t3
  let v968 : BitVec 32 := Scalar.muli c8_i32_734 arg6
  let v969 : BitVec 32 := Scalar.addi v968 c0_i32_735
  let v970 : Index := Scalar.indexCast v969
  let c3_736 : Index := 3#32
  let c0_737 : Index := 0#32
  let c0_738 : Index := 0#32
  ![v970.toNat, 3, 0, 0]
def k0_off72 (k0_t3 : Fin k0_t3_loop.trips) (c0_i32_740 : BitVec 32) : Fin 4 → Nat :=
  let c8_i32_739 : BitVec 32 := 8#32
  let c0_i32_48 : BitVec 32 := 0#32
  let c1_i32_50 : BitVec 32 := 1#32
  let arg6 : BitVec 32 := Scf.iv c0_i32_48 c1_i32_50 k0_t3
  let v979 : BitVec 32 := Scalar.muli c8_i32_739 arg6
  let v980 : BitVec 32 := Scalar.addi v979 c0_i32_740
  let v981 : Index := Scalar.indexCast v980
  let c4_741 : Index := 4#32
  let c0_742 : Index := 0#32
  let c0_743 : Index := 0#32
  ![v981.toNat, 4, 0, 0]
def k0_off73 (k0_t3 : Fin k0_t3_loop.trips) (c0_i32_745 : BitVec 32) : Fin 4 → Nat :=
  let c8_i32_744 : BitVec 32 := 8#32
  let c0_i32_48 : BitVec 32 := 0#32
  let c1_i32_50 : BitVec 32 := 1#32
  let arg6 : BitVec 32 := Scf.iv c0_i32_48 c1_i32_50 k0_t3
  let v990 : BitVec 32 := Scalar.muli c8_i32_744 arg6
  let v991 : BitVec 32 := Scalar.addi v990 c0_i32_745
  let v992 : Index := Scalar.indexCast v991
  let c5_746 : Index := 5#32
  let c0_747 : Index := 0#32
  let c0_748 : Index := 0#32
  ![v992.toNat, 5, 0, 0]
def k0_off74 (k0_t3 : Fin k0_t3_loop.trips) (c0_i32_750 : BitVec 32) : Fin 4 → Nat :=
  let c8_i32_749 : BitVec 32 := 8#32
  let c0_i32_48 : BitVec 32 := 0#32
  let c1_i32_50 : BitVec 32 := 1#32
  let arg6 : BitVec 32 := Scf.iv c0_i32_48 c1_i32_50 k0_t3
  let v1001 : BitVec 32 := Scalar.muli c8_i32_749 arg6
  let v1002 : BitVec 32 := Scalar.addi v1001 c0_i32_750
  let v1003 : Index := Scalar.indexCast v1002
  let c6_751 : Index := 6#32
  let c0_752 : Index := 0#32
  let c0_753 : Index := 0#32
  ![v1003.toNat, 6, 0, 0]
def k0_off75 (k0_t3 : Fin k0_t3_loop.trips) (c0_i32_755 : BitVec 32) : Fin 4 → Nat :=
  let c8_i32_754 : BitVec 32 := 8#32
  let c0_i32_48 : BitVec 32 := 0#32
  let c1_i32_50 : BitVec 32 := 1#32
  let arg6 : BitVec 32 := Scf.iv c0_i32_48 c1_i32_50 k0_t3
  let v1012 : BitVec 32 := Scalar.muli c8_i32_754 arg6
  let v1013 : BitVec 32 := Scalar.addi v1012 c0_i32_755
  let v1014 : Index := Scalar.indexCast v1013
  let c7_756 : Index := 7#32
  let c0_757 : Index := 0#32
  let c0_758 : Index := 0#32
  ![v1014.toNat, 7, 0, 0]
def k0_off76 (k0_t3 : Fin k0_t3_loop.trips) (c0_i32_760 : BitVec 32) : Fin 4 → Nat :=
  let c8_i32_759 : BitVec 32 := 8#32
  let c0_i32_48 : BitVec 32 := 0#32
  let c1_i32_50 : BitVec 32 := 1#32
  let arg6 : BitVec 32 := Scf.iv c0_i32_48 c1_i32_50 k0_t3
  let v1023 : BitVec 32 := Scalar.muli c8_i32_759 arg6
  let v1024 : BitVec 32 := Scalar.addi v1023 c0_i32_760
  let v1025 : Index := Scalar.indexCast v1024
  let c8_761 : Index := 8#32
  let c0_762 : Index := 0#32
  let c0_763 : Index := 0#32
  ![v1025.toNat, 8, 0, 0]
def k0_off77 (k0_t3 : Fin k0_t3_loop.trips) (c0_i32_765 : BitVec 32) : Fin 4 → Nat :=
  let c8_i32_764 : BitVec 32 := 8#32
  let c0_i32_48 : BitVec 32 := 0#32
  let c1_i32_50 : BitVec 32 := 1#32
  let arg6 : BitVec 32 := Scf.iv c0_i32_48 c1_i32_50 k0_t3
  let v1034 : BitVec 32 := Scalar.muli c8_i32_764 arg6
  let v1035 : BitVec 32 := Scalar.addi v1034 c0_i32_765
  let v1036 : Index := Scalar.indexCast v1035
  let c9_766 : Index := 9#32
  let c0_767 : Index := 0#32
  let c0_768 : Index := 0#32
  ![v1036.toNat, 9, 0, 0]
def k0_off78 (k0_t3 : Fin k0_t3_loop.trips) (c0_i32_770 : BitVec 32) : Fin 4 → Nat :=
  let c8_i32_769 : BitVec 32 := 8#32
  let c0_i32_48 : BitVec 32 := 0#32
  let c1_i32_50 : BitVec 32 := 1#32
  let arg6 : BitVec 32 := Scf.iv c0_i32_48 c1_i32_50 k0_t3
  let v1045 : BitVec 32 := Scalar.muli c8_i32_769 arg6
  let v1046 : BitVec 32 := Scalar.addi v1045 c0_i32_770
  let v1047 : Index := Scalar.indexCast v1046
  let c10_771 : Index := 10#32
  let c0_772 : Index := 0#32
  let c0_773 : Index := 0#32
  ![v1047.toNat, 10, 0, 0]
def k0_off79 (k0_t3 : Fin k0_t3_loop.trips) (c0_i32_775 : BitVec 32) : Fin 4 → Nat :=
  let c8_i32_774 : BitVec 32 := 8#32
  let c0_i32_48 : BitVec 32 := 0#32
  let c1_i32_50 : BitVec 32 := 1#32
  let arg6 : BitVec 32 := Scf.iv c0_i32_48 c1_i32_50 k0_t3
  let v1056 : BitVec 32 := Scalar.muli c8_i32_774 arg6
  let v1057 : BitVec 32 := Scalar.addi v1056 c0_i32_775
  let v1058 : Index := Scalar.indexCast v1057
  let c11_776 : Index := 11#32
  let c0_777 : Index := 0#32
  let c0_778 : Index := 0#32
  ![v1058.toNat, 11, 0, 0]
def k0_off80 (k0_t3 : Fin k0_t3_loop.trips) (c0_i32_780 : BitVec 32) : Fin 4 → Nat :=
  let c8_i32_779 : BitVec 32 := 8#32
  let c0_i32_48 : BitVec 32 := 0#32
  let c1_i32_50 : BitVec 32 := 1#32
  let arg6 : BitVec 32 := Scf.iv c0_i32_48 c1_i32_50 k0_t3
  let v1067 : BitVec 32 := Scalar.muli c8_i32_779 arg6
  let v1068 : BitVec 32 := Scalar.addi v1067 c0_i32_780
  let v1069 : Index := Scalar.indexCast v1068
  let c12_781 : Index := 12#32
  let c0_782 : Index := 0#32
  let c0_783 : Index := 0#32
  ![v1069.toNat, 12, 0, 0]
def k0_off81 (k0_t3 : Fin k0_t3_loop.trips) (c0_i32_785 : BitVec 32) : Fin 4 → Nat :=
  let c8_i32_784 : BitVec 32 := 8#32
  let c0_i32_48 : BitVec 32 := 0#32
  let c1_i32_50 : BitVec 32 := 1#32
  let arg6 : BitVec 32 := Scf.iv c0_i32_48 c1_i32_50 k0_t3
  let v1078 : BitVec 32 := Scalar.muli c8_i32_784 arg6
  let v1079 : BitVec 32 := Scalar.addi v1078 c0_i32_785
  let v1080 : Index := Scalar.indexCast v1079
  let c13_786 : Index := 13#32
  let c0_787 : Index := 0#32
  let c0_788 : Index := 0#32
  ![v1080.toNat, 13, 0, 0]
def k0_off82 (k0_t3 : Fin k0_t3_loop.trips) (c0_i32_790 : BitVec 32) : Fin 4 → Nat :=
  let c8_i32_789 : BitVec 32 := 8#32
  let c0_i32_48 : BitVec 32 := 0#32
  let c1_i32_50 : BitVec 32 := 1#32
  let arg6 : BitVec 32 := Scf.iv c0_i32_48 c1_i32_50 k0_t3
  let v1089 : BitVec 32 := Scalar.muli c8_i32_789 arg6
  let v1090 : BitVec 32 := Scalar.addi v1089 c0_i32_790
  let v1091 : Index := Scalar.indexCast v1090
  let c14_791 : Index := 14#32
  let c0_792 : Index := 0#32
  let c0_793 : Index := 0#32
  ![v1091.toNat, 14, 0, 0]
def k0_off83 (k0_t3 : Fin k0_t3_loop.trips) (c0_i32_795 : BitVec 32) : Fin 4 → Nat :=
  let c8_i32_794 : BitVec 32 := 8#32
  let c0_i32_48 : BitVec 32 := 0#32
  let c1_i32_50 : BitVec 32 := 1#32
  let arg6 : BitVec 32 := Scf.iv c0_i32_48 c1_i32_50 k0_t3
  let v1100 : BitVec 32 := Scalar.muli c8_i32_794 arg6
  let v1101 : BitVec 32 := Scalar.addi v1100 c0_i32_795
  let v1102 : Index := Scalar.indexCast v1101
  let c15_796 : Index := 15#32
  let c0_797 : Index := 0#32
  let c0_798 : Index := 0#32
  ![v1102.toNat, 15, 0, 0]
@[reducible] def k0_t4_loop : Scf.Loop 32 :=
  let c0_i32_79 : BitVec 32 := 0#32
  let c4_i32_80 : BitVec 32 := 4#32
  let v95 : BitVec 32 := Scalar.addi c0_i32_79 c4_i32_80
  let c1_i32_81 : BitVec 32 := 1#32
  ⟨c0_i32_79, v95, c1_i32_81⟩
def k0_off84 (k0_t4 : Fin k0_t4_loop.trips) (c0_i32_679 : BitVec 32) : Fin 3 → Nat :=
  let c8_i32 : BitVec 32 := 8#32
  let c0_i32_79 : BitVec 32 := 0#32
  let c1_i32_81 : BitVec 32 := 1#32
  let arg6 : BitVec 32 := Scf.iv c0_i32_79 c1_i32_81 k0_t4
  let v871 : BitVec 32 := Scalar.muli c8_i32 arg6
  let c8_i32_678 : BitVec 32 := 8#32
  let v872 : BitVec 32 := Scalar.addi v871 c8_i32_678
  let v873 : BitVec 32 := Scalar.addi v872 c0_i32_679
  let c31_i32 : BitVec 32 := 31#32
  let v874 : BitVec 32 := Scalar.minsi v873 c31_i32
  let v875 : Index := Scalar.indexCast v874
  let c0_680 : Index := 0#32
  let c128_681 : Index := 128#32
  ![v875.toNat, 0, 128]
def k0_off85 (k0_t4 : Fin k0_t4_loop.trips) (c0_i32_720 : BitVec 32) : Fin 4 → Nat :=
  let c8_i32_719 : BitVec 32 := 8#32
  let c0_i32_79 : BitVec 32 := 0#32
  let c1_i32_81 : BitVec 32 := 1#32
  let arg6 : BitVec 32 := Scf.iv c0_i32_79 c1_i32_81 k0_t4
  let v935 : BitVec 32 := Scalar.muli c8_i32_719 arg6
  let v936 : BitVec 32 := Scalar.addi v935 c0_i32_720
  let v937 : Index := Scalar.indexCast v936
  let c0_721 : Index := 0#32
  let c0_722 : Index := 0#32
  let c0_723 : Index := 0#32
  ![v937.toNat, 0, 0, 0]
def k0_off86 (k0_t4 : Fin k0_t4_loop.trips) (c0_i32_725 : BitVec 32) : Fin 4 → Nat :=
  let c8_i32_724 : BitVec 32 := 8#32
  let c0_i32_79 : BitVec 32 := 0#32
  let c1_i32_81 : BitVec 32 := 1#32
  let arg6 : BitVec 32 := Scf.iv c0_i32_79 c1_i32_81 k0_t4
  let v946 : BitVec 32 := Scalar.muli c8_i32_724 arg6
  let v947 : BitVec 32 := Scalar.addi v946 c0_i32_725
  let v948 : Index := Scalar.indexCast v947
  let c1_726 : Index := 1#32
  let c0_727 : Index := 0#32
  let c0_728 : Index := 0#32
  ![v948.toNat, 1, 0, 0]
def k0_off87 (k0_t4 : Fin k0_t4_loop.trips) (c0_i32_730 : BitVec 32) : Fin 4 → Nat :=
  let c8_i32_729 : BitVec 32 := 8#32
  let c0_i32_79 : BitVec 32 := 0#32
  let c1_i32_81 : BitVec 32 := 1#32
  let arg6 : BitVec 32 := Scf.iv c0_i32_79 c1_i32_81 k0_t4
  let v957 : BitVec 32 := Scalar.muli c8_i32_729 arg6
  let v958 : BitVec 32 := Scalar.addi v957 c0_i32_730
  let v959 : Index := Scalar.indexCast v958
  let c2_731 : Index := 2#32
  let c0_732 : Index := 0#32
  let c0_733 : Index := 0#32
  ![v959.toNat, 2, 0, 0]
def k0_off88 (k0_t4 : Fin k0_t4_loop.trips) (c0_i32_735 : BitVec 32) : Fin 4 → Nat :=
  let c8_i32_734 : BitVec 32 := 8#32
  let c0_i32_79 : BitVec 32 := 0#32
  let c1_i32_81 : BitVec 32 := 1#32
  let arg6 : BitVec 32 := Scf.iv c0_i32_79 c1_i32_81 k0_t4
  let v968 : BitVec 32 := Scalar.muli c8_i32_734 arg6
  let v969 : BitVec 32 := Scalar.addi v968 c0_i32_735
  let v970 : Index := Scalar.indexCast v969
  let c3_736 : Index := 3#32
  let c0_737 : Index := 0#32
  let c0_738 : Index := 0#32
  ![v970.toNat, 3, 0, 0]
def k0_off89 (k0_t4 : Fin k0_t4_loop.trips) (c0_i32_740 : BitVec 32) : Fin 4 → Nat :=
  let c8_i32_739 : BitVec 32 := 8#32
  let c0_i32_79 : BitVec 32 := 0#32
  let c1_i32_81 : BitVec 32 := 1#32
  let arg6 : BitVec 32 := Scf.iv c0_i32_79 c1_i32_81 k0_t4
  let v979 : BitVec 32 := Scalar.muli c8_i32_739 arg6
  let v980 : BitVec 32 := Scalar.addi v979 c0_i32_740
  let v981 : Index := Scalar.indexCast v980
  let c4_741 : Index := 4#32
  let c0_742 : Index := 0#32
  let c0_743 : Index := 0#32
  ![v981.toNat, 4, 0, 0]
def k0_off90 (k0_t4 : Fin k0_t4_loop.trips) (c0_i32_745 : BitVec 32) : Fin 4 → Nat :=
  let c8_i32_744 : BitVec 32 := 8#32
  let c0_i32_79 : BitVec 32 := 0#32
  let c1_i32_81 : BitVec 32 := 1#32
  let arg6 : BitVec 32 := Scf.iv c0_i32_79 c1_i32_81 k0_t4
  let v990 : BitVec 32 := Scalar.muli c8_i32_744 arg6
  let v991 : BitVec 32 := Scalar.addi v990 c0_i32_745
  let v992 : Index := Scalar.indexCast v991
  let c5_746 : Index := 5#32
  let c0_747 : Index := 0#32
  let c0_748 : Index := 0#32
  ![v992.toNat, 5, 0, 0]
def k0_off91 (k0_t4 : Fin k0_t4_loop.trips) (c0_i32_750 : BitVec 32) : Fin 4 → Nat :=
  let c8_i32_749 : BitVec 32 := 8#32
  let c0_i32_79 : BitVec 32 := 0#32
  let c1_i32_81 : BitVec 32 := 1#32
  let arg6 : BitVec 32 := Scf.iv c0_i32_79 c1_i32_81 k0_t4
  let v1001 : BitVec 32 := Scalar.muli c8_i32_749 arg6
  let v1002 : BitVec 32 := Scalar.addi v1001 c0_i32_750
  let v1003 : Index := Scalar.indexCast v1002
  let c6_751 : Index := 6#32
  let c0_752 : Index := 0#32
  let c0_753 : Index := 0#32
  ![v1003.toNat, 6, 0, 0]
def k0_off92 (k0_t4 : Fin k0_t4_loop.trips) (c0_i32_755 : BitVec 32) : Fin 4 → Nat :=
  let c8_i32_754 : BitVec 32 := 8#32
  let c0_i32_79 : BitVec 32 := 0#32
  let c1_i32_81 : BitVec 32 := 1#32
  let arg6 : BitVec 32 := Scf.iv c0_i32_79 c1_i32_81 k0_t4
  let v1012 : BitVec 32 := Scalar.muli c8_i32_754 arg6
  let v1013 : BitVec 32 := Scalar.addi v1012 c0_i32_755
  let v1014 : Index := Scalar.indexCast v1013
  let c7_756 : Index := 7#32
  let c0_757 : Index := 0#32
  let c0_758 : Index := 0#32
  ![v1014.toNat, 7, 0, 0]
def k0_off93 (k0_t4 : Fin k0_t4_loop.trips) (c0_i32_760 : BitVec 32) : Fin 4 → Nat :=
  let c8_i32_759 : BitVec 32 := 8#32
  let c0_i32_79 : BitVec 32 := 0#32
  let c1_i32_81 : BitVec 32 := 1#32
  let arg6 : BitVec 32 := Scf.iv c0_i32_79 c1_i32_81 k0_t4
  let v1023 : BitVec 32 := Scalar.muli c8_i32_759 arg6
  let v1024 : BitVec 32 := Scalar.addi v1023 c0_i32_760
  let v1025 : Index := Scalar.indexCast v1024
  let c8_761 : Index := 8#32
  let c0_762 : Index := 0#32
  let c0_763 : Index := 0#32
  ![v1025.toNat, 8, 0, 0]
def k0_off94 (k0_t4 : Fin k0_t4_loop.trips) (c0_i32_765 : BitVec 32) : Fin 4 → Nat :=
  let c8_i32_764 : BitVec 32 := 8#32
  let c0_i32_79 : BitVec 32 := 0#32
  let c1_i32_81 : BitVec 32 := 1#32
  let arg6 : BitVec 32 := Scf.iv c0_i32_79 c1_i32_81 k0_t4
  let v1034 : BitVec 32 := Scalar.muli c8_i32_764 arg6
  let v1035 : BitVec 32 := Scalar.addi v1034 c0_i32_765
  let v1036 : Index := Scalar.indexCast v1035
  let c9_766 : Index := 9#32
  let c0_767 : Index := 0#32
  let c0_768 : Index := 0#32
  ![v1036.toNat, 9, 0, 0]
def k0_off95 (k0_t4 : Fin k0_t4_loop.trips) (c0_i32_770 : BitVec 32) : Fin 4 → Nat :=
  let c8_i32_769 : BitVec 32 := 8#32
  let c0_i32_79 : BitVec 32 := 0#32
  let c1_i32_81 : BitVec 32 := 1#32
  let arg6 : BitVec 32 := Scf.iv c0_i32_79 c1_i32_81 k0_t4
  let v1045 : BitVec 32 := Scalar.muli c8_i32_769 arg6
  let v1046 : BitVec 32 := Scalar.addi v1045 c0_i32_770
  let v1047 : Index := Scalar.indexCast v1046
  let c10_771 : Index := 10#32
  let c0_772 : Index := 0#32
  let c0_773 : Index := 0#32
  ![v1047.toNat, 10, 0, 0]
def k0_off96 (k0_t4 : Fin k0_t4_loop.trips) (c0_i32_775 : BitVec 32) : Fin 4 → Nat :=
  let c8_i32_774 : BitVec 32 := 8#32
  let c0_i32_79 : BitVec 32 := 0#32
  let c1_i32_81 : BitVec 32 := 1#32
  let arg6 : BitVec 32 := Scf.iv c0_i32_79 c1_i32_81 k0_t4
  let v1056 : BitVec 32 := Scalar.muli c8_i32_774 arg6
  let v1057 : BitVec 32 := Scalar.addi v1056 c0_i32_775
  let v1058 : Index := Scalar.indexCast v1057
  let c11_776 : Index := 11#32
  let c0_777 : Index := 0#32
  let c0_778 : Index := 0#32
  ![v1058.toNat, 11, 0, 0]
def k0_off97 (k0_t4 : Fin k0_t4_loop.trips) (c0_i32_780 : BitVec 32) : Fin 4 → Nat :=
  let c8_i32_779 : BitVec 32 := 8#32
  let c0_i32_79 : BitVec 32 := 0#32
  let c1_i32_81 : BitVec 32 := 1#32
  let arg6 : BitVec 32 := Scf.iv c0_i32_79 c1_i32_81 k0_t4
  let v1067 : BitVec 32 := Scalar.muli c8_i32_779 arg6
  let v1068 : BitVec 32 := Scalar.addi v1067 c0_i32_780
  let v1069 : Index := Scalar.indexCast v1068
  let c12_781 : Index := 12#32
  let c0_782 : Index := 0#32
  let c0_783 : Index := 0#32
  ![v1069.toNat, 12, 0, 0]
def k0_off98 (k0_t4 : Fin k0_t4_loop.trips) (c0_i32_785 : BitVec 32) : Fin 4 → Nat :=
  let c8_i32_784 : BitVec 32 := 8#32
  let c0_i32_79 : BitVec 32 := 0#32
  let c1_i32_81 : BitVec 32 := 1#32
  let arg6 : BitVec 32 := Scf.iv c0_i32_79 c1_i32_81 k0_t4
  let v1078 : BitVec 32 := Scalar.muli c8_i32_784 arg6
  let v1079 : BitVec 32 := Scalar.addi v1078 c0_i32_785
  let v1080 : Index := Scalar.indexCast v1079
  let c13_786 : Index := 13#32
  let c0_787 : Index := 0#32
  let c0_788 : Index := 0#32
  ![v1080.toNat, 13, 0, 0]
def k0_off99 (k0_t4 : Fin k0_t4_loop.trips) (c0_i32_790 : BitVec 32) : Fin 4 → Nat :=
  let c8_i32_789 : BitVec 32 := 8#32
  let c0_i32_79 : BitVec 32 := 0#32
  let c1_i32_81 : BitVec 32 := 1#32
  let arg6 : BitVec 32 := Scf.iv c0_i32_79 c1_i32_81 k0_t4
  let v1089 : BitVec 32 := Scalar.muli c8_i32_789 arg6
  let v1090 : BitVec 32 := Scalar.addi v1089 c0_i32_790
  let v1091 : Index := Scalar.indexCast v1090
  let c14_791 : Index := 14#32
  let c0_792 : Index := 0#32
  let c0_793 : Index := 0#32
  ![v1091.toNat, 14, 0, 0]
def k0_off100 (k0_t4 : Fin k0_t4_loop.trips) (c0_i32_795 : BitVec 32) : Fin 4 → Nat :=
  let c8_i32_794 : BitVec 32 := 8#32
  let c0_i32_79 : BitVec 32 := 0#32
  let c1_i32_81 : BitVec 32 := 1#32
  let arg6 : BitVec 32 := Scf.iv c0_i32_79 c1_i32_81 k0_t4
  let v1100 : BitVec 32 := Scalar.muli c8_i32_794 arg6
  let v1101 : BitVec 32 := Scalar.addi v1100 c0_i32_795
  let v1102 : Index := Scalar.indexCast v1101
  let c15_796 : Index := 15#32
  let c0_797 : Index := 0#32
  let c0_798 : Index := 0#32
  ![v1102.toNat, 15, 0, 0]
@[reducible] def k0_t5_loop : Scf.Loop 32 :=
  let c0_i32_110 : BitVec 32 := 0#32
  let c4_i32_111 : BitVec 32 := 4#32
  let v129 : BitVec 32 := Scalar.addi c0_i32_110 c4_i32_111
  let c1_i32_112 : BitVec 32 := 1#32
  ⟨c0_i32_110, v129, c1_i32_112⟩
def k0_off101 (k0_t5 : Fin k0_t5_loop.trips) (c0_i32_679 : BitVec 32) : Fin 3 → Nat :=
  let c8_i32 : BitVec 32 := 8#32
  let c0_i32_110 : BitVec 32 := 0#32
  let c1_i32_112 : BitVec 32 := 1#32
  let arg6 : BitVec 32 := Scf.iv c0_i32_110 c1_i32_112 k0_t5
  let v871 : BitVec 32 := Scalar.muli c8_i32 arg6
  let c8_i32_678 : BitVec 32 := 8#32
  let v872 : BitVec 32 := Scalar.addi v871 c8_i32_678
  let v873 : BitVec 32 := Scalar.addi v872 c0_i32_679
  let c31_i32 : BitVec 32 := 31#32
  let v874 : BitVec 32 := Scalar.minsi v873 c31_i32
  let v875 : Index := Scalar.indexCast v874
  let c0_680 : Index := 0#32
  let c192_681 : Index := 192#32
  ![v875.toNat, 0, 192]
def k0_off102 (k0_t5 : Fin k0_t5_loop.trips) (c0_i32_720 : BitVec 32) : Fin 4 → Nat :=
  let c8_i32_719 : BitVec 32 := 8#32
  let c0_i32_110 : BitVec 32 := 0#32
  let c1_i32_112 : BitVec 32 := 1#32
  let arg6 : BitVec 32 := Scf.iv c0_i32_110 c1_i32_112 k0_t5
  let v935 : BitVec 32 := Scalar.muli c8_i32_719 arg6
  let v936 : BitVec 32 := Scalar.addi v935 c0_i32_720
  let v937 : Index := Scalar.indexCast v936
  let c0_721 : Index := 0#32
  let c0_722 : Index := 0#32
  let c0_723 : Index := 0#32
  ![v937.toNat, 0, 0, 0]
def k0_off103 (k0_t5 : Fin k0_t5_loop.trips) (c0_i32_725 : BitVec 32) : Fin 4 → Nat :=
  let c8_i32_724 : BitVec 32 := 8#32
  let c0_i32_110 : BitVec 32 := 0#32
  let c1_i32_112 : BitVec 32 := 1#32
  let arg6 : BitVec 32 := Scf.iv c0_i32_110 c1_i32_112 k0_t5
  let v946 : BitVec 32 := Scalar.muli c8_i32_724 arg6
  let v947 : BitVec 32 := Scalar.addi v946 c0_i32_725
  let v948 : Index := Scalar.indexCast v947
  let c1_726 : Index := 1#32
  let c0_727 : Index := 0#32
  let c0_728 : Index := 0#32
  ![v948.toNat, 1, 0, 0]
def k0_off104 (k0_t5 : Fin k0_t5_loop.trips) (c0_i32_730 : BitVec 32) : Fin 4 → Nat :=
  let c8_i32_729 : BitVec 32 := 8#32
  let c0_i32_110 : BitVec 32 := 0#32
  let c1_i32_112 : BitVec 32 := 1#32
  let arg6 : BitVec 32 := Scf.iv c0_i32_110 c1_i32_112 k0_t5
  let v957 : BitVec 32 := Scalar.muli c8_i32_729 arg6
  let v958 : BitVec 32 := Scalar.addi v957 c0_i32_730
  let v959 : Index := Scalar.indexCast v958
  let c2_731 : Index := 2#32
  let c0_732 : Index := 0#32
  let c0_733 : Index := 0#32
  ![v959.toNat, 2, 0, 0]
def k0_off105 (k0_t5 : Fin k0_t5_loop.trips) (c0_i32_735 : BitVec 32) : Fin 4 → Nat :=
  let c8_i32_734 : BitVec 32 := 8#32
  let c0_i32_110 : BitVec 32 := 0#32
  let c1_i32_112 : BitVec 32 := 1#32
  let arg6 : BitVec 32 := Scf.iv c0_i32_110 c1_i32_112 k0_t5
  let v968 : BitVec 32 := Scalar.muli c8_i32_734 arg6
  let v969 : BitVec 32 := Scalar.addi v968 c0_i32_735
  let v970 : Index := Scalar.indexCast v969
  let c3_736 : Index := 3#32
  let c0_737 : Index := 0#32
  let c0_738 : Index := 0#32
  ![v970.toNat, 3, 0, 0]
def k0_off106 (k0_t5 : Fin k0_t5_loop.trips) (c0_i32_740 : BitVec 32) : Fin 4 → Nat :=
  let c8_i32_739 : BitVec 32 := 8#32
  let c0_i32_110 : BitVec 32 := 0#32
  let c1_i32_112 : BitVec 32 := 1#32
  let arg6 : BitVec 32 := Scf.iv c0_i32_110 c1_i32_112 k0_t5
  let v979 : BitVec 32 := Scalar.muli c8_i32_739 arg6
  let v980 : BitVec 32 := Scalar.addi v979 c0_i32_740
  let v981 : Index := Scalar.indexCast v980
  let c4_741 : Index := 4#32
  let c0_742 : Index := 0#32
  let c0_743 : Index := 0#32
  ![v981.toNat, 4, 0, 0]
def k0_off107 (k0_t5 : Fin k0_t5_loop.trips) (c0_i32_745 : BitVec 32) : Fin 4 → Nat :=
  let c8_i32_744 : BitVec 32 := 8#32
  let c0_i32_110 : BitVec 32 := 0#32
  let c1_i32_112 : BitVec 32 := 1#32
  let arg6 : BitVec 32 := Scf.iv c0_i32_110 c1_i32_112 k0_t5
  let v990 : BitVec 32 := Scalar.muli c8_i32_744 arg6
  let v991 : BitVec 32 := Scalar.addi v990 c0_i32_745
  let v992 : Index := Scalar.indexCast v991
  let c5_746 : Index := 5#32
  let c0_747 : Index := 0#32
  let c0_748 : Index := 0#32
  ![v992.toNat, 5, 0, 0]
def k0_off108 (k0_t5 : Fin k0_t5_loop.trips) (c0_i32_750 : BitVec 32) : Fin 4 → Nat :=
  let c8_i32_749 : BitVec 32 := 8#32
  let c0_i32_110 : BitVec 32 := 0#32
  let c1_i32_112 : BitVec 32 := 1#32
  let arg6 : BitVec 32 := Scf.iv c0_i32_110 c1_i32_112 k0_t5
  let v1001 : BitVec 32 := Scalar.muli c8_i32_749 arg6
  let v1002 : BitVec 32 := Scalar.addi v1001 c0_i32_750
  let v1003 : Index := Scalar.indexCast v1002
  let c6_751 : Index := 6#32
  let c0_752 : Index := 0#32
  let c0_753 : Index := 0#32
  ![v1003.toNat, 6, 0, 0]
def k0_off109 (k0_t5 : Fin k0_t5_loop.trips) (c0_i32_755 : BitVec 32) : Fin 4 → Nat :=
  let c8_i32_754 : BitVec 32 := 8#32
  let c0_i32_110 : BitVec 32 := 0#32
  let c1_i32_112 : BitVec 32 := 1#32
  let arg6 : BitVec 32 := Scf.iv c0_i32_110 c1_i32_112 k0_t5
  let v1012 : BitVec 32 := Scalar.muli c8_i32_754 arg6
  let v1013 : BitVec 32 := Scalar.addi v1012 c0_i32_755
  let v1014 : Index := Scalar.indexCast v1013
  let c7_756 : Index := 7#32
  let c0_757 : Index := 0#32
  let c0_758 : Index := 0#32
  ![v1014.toNat, 7, 0, 0]
def k0_off110 (k0_t5 : Fin k0_t5_loop.trips) (c0_i32_760 : BitVec 32) : Fin 4 → Nat :=
  let c8_i32_759 : BitVec 32 := 8#32
  let c0_i32_110 : BitVec 32 := 0#32
  let c1_i32_112 : BitVec 32 := 1#32
  let arg6 : BitVec 32 := Scf.iv c0_i32_110 c1_i32_112 k0_t5
  let v1023 : BitVec 32 := Scalar.muli c8_i32_759 arg6
  let v1024 : BitVec 32 := Scalar.addi v1023 c0_i32_760
  let v1025 : Index := Scalar.indexCast v1024
  let c8_761 : Index := 8#32
  let c0_762 : Index := 0#32
  let c0_763 : Index := 0#32
  ![v1025.toNat, 8, 0, 0]
def k0_off111 (k0_t5 : Fin k0_t5_loop.trips) (c0_i32_765 : BitVec 32) : Fin 4 → Nat :=
  let c8_i32_764 : BitVec 32 := 8#32
  let c0_i32_110 : BitVec 32 := 0#32
  let c1_i32_112 : BitVec 32 := 1#32
  let arg6 : BitVec 32 := Scf.iv c0_i32_110 c1_i32_112 k0_t5
  let v1034 : BitVec 32 := Scalar.muli c8_i32_764 arg6
  let v1035 : BitVec 32 := Scalar.addi v1034 c0_i32_765
  let v1036 : Index := Scalar.indexCast v1035
  let c9_766 : Index := 9#32
  let c0_767 : Index := 0#32
  let c0_768 : Index := 0#32
  ![v1036.toNat, 9, 0, 0]
def k0_off112 (k0_t5 : Fin k0_t5_loop.trips) (c0_i32_770 : BitVec 32) : Fin 4 → Nat :=
  let c8_i32_769 : BitVec 32 := 8#32
  let c0_i32_110 : BitVec 32 := 0#32
  let c1_i32_112 : BitVec 32 := 1#32
  let arg6 : BitVec 32 := Scf.iv c0_i32_110 c1_i32_112 k0_t5
  let v1045 : BitVec 32 := Scalar.muli c8_i32_769 arg6
  let v1046 : BitVec 32 := Scalar.addi v1045 c0_i32_770
  let v1047 : Index := Scalar.indexCast v1046
  let c10_771 : Index := 10#32
  let c0_772 : Index := 0#32
  let c0_773 : Index := 0#32
  ![v1047.toNat, 10, 0, 0]
def k0_off113 (k0_t5 : Fin k0_t5_loop.trips) (c0_i32_775 : BitVec 32) : Fin 4 → Nat :=
  let c8_i32_774 : BitVec 32 := 8#32
  let c0_i32_110 : BitVec 32 := 0#32
  let c1_i32_112 : BitVec 32 := 1#32
  let arg6 : BitVec 32 := Scf.iv c0_i32_110 c1_i32_112 k0_t5
  let v1056 : BitVec 32 := Scalar.muli c8_i32_774 arg6
  let v1057 : BitVec 32 := Scalar.addi v1056 c0_i32_775
  let v1058 : Index := Scalar.indexCast v1057
  let c11_776 : Index := 11#32
  let c0_777 : Index := 0#32
  let c0_778 : Index := 0#32
  ![v1058.toNat, 11, 0, 0]
def k0_off114 (k0_t5 : Fin k0_t5_loop.trips) (c0_i32_780 : BitVec 32) : Fin 4 → Nat :=
  let c8_i32_779 : BitVec 32 := 8#32
  let c0_i32_110 : BitVec 32 := 0#32
  let c1_i32_112 : BitVec 32 := 1#32
  let arg6 : BitVec 32 := Scf.iv c0_i32_110 c1_i32_112 k0_t5
  let v1067 : BitVec 32 := Scalar.muli c8_i32_779 arg6
  let v1068 : BitVec 32 := Scalar.addi v1067 c0_i32_780
  let v1069 : Index := Scalar.indexCast v1068
  let c12_781 : Index := 12#32
  let c0_782 : Index := 0#32
  let c0_783 : Index := 0#32
  ![v1069.toNat, 12, 0, 0]
def k0_off115 (k0_t5 : Fin k0_t5_loop.trips) (c0_i32_785 : BitVec 32) : Fin 4 → Nat :=
  let c8_i32_784 : BitVec 32 := 8#32
  let c0_i32_110 : BitVec 32 := 0#32
  let c1_i32_112 : BitVec 32 := 1#32
  let arg6 : BitVec 32 := Scf.iv c0_i32_110 c1_i32_112 k0_t5
  let v1078 : BitVec 32 := Scalar.muli c8_i32_784 arg6
  let v1079 : BitVec 32 := Scalar.addi v1078 c0_i32_785
  let v1080 : Index := Scalar.indexCast v1079
  let c13_786 : Index := 13#32
  let c0_787 : Index := 0#32
  let c0_788 : Index := 0#32
  ![v1080.toNat, 13, 0, 0]
def k0_off116 (k0_t5 : Fin k0_t5_loop.trips) (c0_i32_790 : BitVec 32) : Fin 4 → Nat :=
  let c8_i32_789 : BitVec 32 := 8#32
  let c0_i32_110 : BitVec 32 := 0#32
  let c1_i32_112 : BitVec 32 := 1#32
  let arg6 : BitVec 32 := Scf.iv c0_i32_110 c1_i32_112 k0_t5
  let v1089 : BitVec 32 := Scalar.muli c8_i32_789 arg6
  let v1090 : BitVec 32 := Scalar.addi v1089 c0_i32_790
  let v1091 : Index := Scalar.indexCast v1090
  let c14_791 : Index := 14#32
  let c0_792 : Index := 0#32
  let c0_793 : Index := 0#32
  ![v1091.toNat, 14, 0, 0]
def k0_off117 (k0_t5 : Fin k0_t5_loop.trips) (c0_i32_795 : BitVec 32) : Fin 4 → Nat :=
  let c8_i32_794 : BitVec 32 := 8#32
  let c0_i32_110 : BitVec 32 := 0#32
  let c1_i32_112 : BitVec 32 := 1#32
  let arg6 : BitVec 32 := Scf.iv c0_i32_110 c1_i32_112 k0_t5
  let v1100 : BitVec 32 := Scalar.muli c8_i32_794 arg6
  let v1101 : BitVec 32 := Scalar.addi v1100 c0_i32_795
  let v1102 : Index := Scalar.indexCast v1101
  let c15_796 : Index := 15#32
  let c0_797 : Index := 0#32
  let c0_798 : Index := 0#32
  ![v1102.toNat, 15, 0, 0]
@[reducible] def k0_t6_loop : Scf.Loop 32 :=
  let c0_i32_141 : BitVec 32 := 0#32
  let c4_i32_142 : BitVec 32 := 4#32
  let v163 : BitVec 32 := Scalar.addi c0_i32_141 c4_i32_142
  let c1_i32_143 : BitVec 32 := 1#32
  ⟨c0_i32_141, v163, c1_i32_143⟩
def k0_off118 (k0_t6 : Fin k0_t6_loop.trips) (c0_i32_679 : BitVec 32) : Fin 3 → Nat :=
  let c8_i32 : BitVec 32 := 8#32
  let c0_i32_141 : BitVec 32 := 0#32
  let c1_i32_143 : BitVec 32 := 1#32
  let arg6 : BitVec 32 := Scf.iv c0_i32_141 c1_i32_143 k0_t6
  let v871 : BitVec 32 := Scalar.muli c8_i32 arg6
  let c8_i32_678 : BitVec 32 := 8#32
  let v872 : BitVec 32 := Scalar.addi v871 c8_i32_678
  let v873 : BitVec 32 := Scalar.addi v872 c0_i32_679
  let c31_i32 : BitVec 32 := 31#32
  let v874 : BitVec 32 := Scalar.minsi v873 c31_i32
  let v875 : Index := Scalar.indexCast v874
  let c0_680 : Index := 0#32
  let c256_681 : Index := 256#32
  ![v875.toNat, 0, 256]
def k0_off119 (k0_t6 : Fin k0_t6_loop.trips) (c0_i32_720 : BitVec 32) : Fin 4 → Nat :=
  let c8_i32_719 : BitVec 32 := 8#32
  let c0_i32_141 : BitVec 32 := 0#32
  let c1_i32_143 : BitVec 32 := 1#32
  let arg6 : BitVec 32 := Scf.iv c0_i32_141 c1_i32_143 k0_t6
  let v935 : BitVec 32 := Scalar.muli c8_i32_719 arg6
  let v936 : BitVec 32 := Scalar.addi v935 c0_i32_720
  let v937 : Index := Scalar.indexCast v936
  let c0_721 : Index := 0#32
  let c0_722 : Index := 0#32
  let c0_723 : Index := 0#32
  ![v937.toNat, 0, 0, 0]
def k0_off120 (k0_t6 : Fin k0_t6_loop.trips) (c0_i32_725 : BitVec 32) : Fin 4 → Nat :=
  let c8_i32_724 : BitVec 32 := 8#32
  let c0_i32_141 : BitVec 32 := 0#32
  let c1_i32_143 : BitVec 32 := 1#32
  let arg6 : BitVec 32 := Scf.iv c0_i32_141 c1_i32_143 k0_t6
  let v946 : BitVec 32 := Scalar.muli c8_i32_724 arg6
  let v947 : BitVec 32 := Scalar.addi v946 c0_i32_725
  let v948 : Index := Scalar.indexCast v947
  let c1_726 : Index := 1#32
  let c0_727 : Index := 0#32
  let c0_728 : Index := 0#32
  ![v948.toNat, 1, 0, 0]
def k0_off121 (k0_t6 : Fin k0_t6_loop.trips) (c0_i32_730 : BitVec 32) : Fin 4 → Nat :=
  let c8_i32_729 : BitVec 32 := 8#32
  let c0_i32_141 : BitVec 32 := 0#32
  let c1_i32_143 : BitVec 32 := 1#32
  let arg6 : BitVec 32 := Scf.iv c0_i32_141 c1_i32_143 k0_t6
  let v957 : BitVec 32 := Scalar.muli c8_i32_729 arg6
  let v958 : BitVec 32 := Scalar.addi v957 c0_i32_730
  let v959 : Index := Scalar.indexCast v958
  let c2_731 : Index := 2#32
  let c0_732 : Index := 0#32
  let c0_733 : Index := 0#32
  ![v959.toNat, 2, 0, 0]
def k0_off122 (k0_t6 : Fin k0_t6_loop.trips) (c0_i32_735 : BitVec 32) : Fin 4 → Nat :=
  let c8_i32_734 : BitVec 32 := 8#32
  let c0_i32_141 : BitVec 32 := 0#32
  let c1_i32_143 : BitVec 32 := 1#32
  let arg6 : BitVec 32 := Scf.iv c0_i32_141 c1_i32_143 k0_t6
  let v968 : BitVec 32 := Scalar.muli c8_i32_734 arg6
  let v969 : BitVec 32 := Scalar.addi v968 c0_i32_735
  let v970 : Index := Scalar.indexCast v969
  let c3_736 : Index := 3#32
  let c0_737 : Index := 0#32
  let c0_738 : Index := 0#32
  ![v970.toNat, 3, 0, 0]
def k0_off123 (k0_t6 : Fin k0_t6_loop.trips) (c0_i32_740 : BitVec 32) : Fin 4 → Nat :=
  let c8_i32_739 : BitVec 32 := 8#32
  let c0_i32_141 : BitVec 32 := 0#32
  let c1_i32_143 : BitVec 32 := 1#32
  let arg6 : BitVec 32 := Scf.iv c0_i32_141 c1_i32_143 k0_t6
  let v979 : BitVec 32 := Scalar.muli c8_i32_739 arg6
  let v980 : BitVec 32 := Scalar.addi v979 c0_i32_740
  let v981 : Index := Scalar.indexCast v980
  let c4_741 : Index := 4#32
  let c0_742 : Index := 0#32
  let c0_743 : Index := 0#32
  ![v981.toNat, 4, 0, 0]
def k0_off124 (k0_t6 : Fin k0_t6_loop.trips) (c0_i32_745 : BitVec 32) : Fin 4 → Nat :=
  let c8_i32_744 : BitVec 32 := 8#32
  let c0_i32_141 : BitVec 32 := 0#32
  let c1_i32_143 : BitVec 32 := 1#32
  let arg6 : BitVec 32 := Scf.iv c0_i32_141 c1_i32_143 k0_t6
  let v990 : BitVec 32 := Scalar.muli c8_i32_744 arg6
  let v991 : BitVec 32 := Scalar.addi v990 c0_i32_745
  let v992 : Index := Scalar.indexCast v991
  let c5_746 : Index := 5#32
  let c0_747 : Index := 0#32
  let c0_748 : Index := 0#32
  ![v992.toNat, 5, 0, 0]
def k0_off125 (k0_t6 : Fin k0_t6_loop.trips) (c0_i32_750 : BitVec 32) : Fin 4 → Nat :=
  let c8_i32_749 : BitVec 32 := 8#32
  let c0_i32_141 : BitVec 32 := 0#32
  let c1_i32_143 : BitVec 32 := 1#32
  let arg6 : BitVec 32 := Scf.iv c0_i32_141 c1_i32_143 k0_t6
  let v1001 : BitVec 32 := Scalar.muli c8_i32_749 arg6
  let v1002 : BitVec 32 := Scalar.addi v1001 c0_i32_750
  let v1003 : Index := Scalar.indexCast v1002
  let c6_751 : Index := 6#32
  let c0_752 : Index := 0#32
  let c0_753 : Index := 0#32
  ![v1003.toNat, 6, 0, 0]
def k0_off126 (k0_t6 : Fin k0_t6_loop.trips) (c0_i32_755 : BitVec 32) : Fin 4 → Nat :=
  let c8_i32_754 : BitVec 32 := 8#32
  let c0_i32_141 : BitVec 32 := 0#32
  let c1_i32_143 : BitVec 32 := 1#32
  let arg6 : BitVec 32 := Scf.iv c0_i32_141 c1_i32_143 k0_t6
  let v1012 : BitVec 32 := Scalar.muli c8_i32_754 arg6
  let v1013 : BitVec 32 := Scalar.addi v1012 c0_i32_755
  let v1014 : Index := Scalar.indexCast v1013
  let c7_756 : Index := 7#32
  let c0_757 : Index := 0#32
  let c0_758 : Index := 0#32
  ![v1014.toNat, 7, 0, 0]
def k0_off127 (k0_t6 : Fin k0_t6_loop.trips) (c0_i32_760 : BitVec 32) : Fin 4 → Nat :=
  let c8_i32_759 : BitVec 32 := 8#32
  let c0_i32_141 : BitVec 32 := 0#32
  let c1_i32_143 : BitVec 32 := 1#32
  let arg6 : BitVec 32 := Scf.iv c0_i32_141 c1_i32_143 k0_t6
  let v1023 : BitVec 32 := Scalar.muli c8_i32_759 arg6
  let v1024 : BitVec 32 := Scalar.addi v1023 c0_i32_760
  let v1025 : Index := Scalar.indexCast v1024
  let c8_761 : Index := 8#32
  let c0_762 : Index := 0#32
  let c0_763 : Index := 0#32
  ![v1025.toNat, 8, 0, 0]
def k0_off128 (k0_t6 : Fin k0_t6_loop.trips) (c0_i32_765 : BitVec 32) : Fin 4 → Nat :=
  let c8_i32_764 : BitVec 32 := 8#32
  let c0_i32_141 : BitVec 32 := 0#32
  let c1_i32_143 : BitVec 32 := 1#32
  let arg6 : BitVec 32 := Scf.iv c0_i32_141 c1_i32_143 k0_t6
  let v1034 : BitVec 32 := Scalar.muli c8_i32_764 arg6
  let v1035 : BitVec 32 := Scalar.addi v1034 c0_i32_765
  let v1036 : Index := Scalar.indexCast v1035
  let c9_766 : Index := 9#32
  let c0_767 : Index := 0#32
  let c0_768 : Index := 0#32
  ![v1036.toNat, 9, 0, 0]
def k0_off129 (k0_t6 : Fin k0_t6_loop.trips) (c0_i32_770 : BitVec 32) : Fin 4 → Nat :=
  let c8_i32_769 : BitVec 32 := 8#32
  let c0_i32_141 : BitVec 32 := 0#32
  let c1_i32_143 : BitVec 32 := 1#32
  let arg6 : BitVec 32 := Scf.iv c0_i32_141 c1_i32_143 k0_t6
  let v1045 : BitVec 32 := Scalar.muli c8_i32_769 arg6
  let v1046 : BitVec 32 := Scalar.addi v1045 c0_i32_770
  let v1047 : Index := Scalar.indexCast v1046
  let c10_771 : Index := 10#32
  let c0_772 : Index := 0#32
  let c0_773 : Index := 0#32
  ![v1047.toNat, 10, 0, 0]
def k0_off130 (k0_t6 : Fin k0_t6_loop.trips) (c0_i32_775 : BitVec 32) : Fin 4 → Nat :=
  let c8_i32_774 : BitVec 32 := 8#32
  let c0_i32_141 : BitVec 32 := 0#32
  let c1_i32_143 : BitVec 32 := 1#32
  let arg6 : BitVec 32 := Scf.iv c0_i32_141 c1_i32_143 k0_t6
  let v1056 : BitVec 32 := Scalar.muli c8_i32_774 arg6
  let v1057 : BitVec 32 := Scalar.addi v1056 c0_i32_775
  let v1058 : Index := Scalar.indexCast v1057
  let c11_776 : Index := 11#32
  let c0_777 : Index := 0#32
  let c0_778 : Index := 0#32
  ![v1058.toNat, 11, 0, 0]
def k0_off131 (k0_t6 : Fin k0_t6_loop.trips) (c0_i32_780 : BitVec 32) : Fin 4 → Nat :=
  let c8_i32_779 : BitVec 32 := 8#32
  let c0_i32_141 : BitVec 32 := 0#32
  let c1_i32_143 : BitVec 32 := 1#32
  let arg6 : BitVec 32 := Scf.iv c0_i32_141 c1_i32_143 k0_t6
  let v1067 : BitVec 32 := Scalar.muli c8_i32_779 arg6
  let v1068 : BitVec 32 := Scalar.addi v1067 c0_i32_780
  let v1069 : Index := Scalar.indexCast v1068
  let c12_781 : Index := 12#32
  let c0_782 : Index := 0#32
  let c0_783 : Index := 0#32
  ![v1069.toNat, 12, 0, 0]
def k0_off132 (k0_t6 : Fin k0_t6_loop.trips) (c0_i32_785 : BitVec 32) : Fin 4 → Nat :=
  let c8_i32_784 : BitVec 32 := 8#32
  let c0_i32_141 : BitVec 32 := 0#32
  let c1_i32_143 : BitVec 32 := 1#32
  let arg6 : BitVec 32 := Scf.iv c0_i32_141 c1_i32_143 k0_t6
  let v1078 : BitVec 32 := Scalar.muli c8_i32_784 arg6
  let v1079 : BitVec 32 := Scalar.addi v1078 c0_i32_785
  let v1080 : Index := Scalar.indexCast v1079
  let c13_786 : Index := 13#32
  let c0_787 : Index := 0#32
  let c0_788 : Index := 0#32
  ![v1080.toNat, 13, 0, 0]
def k0_off133 (k0_t6 : Fin k0_t6_loop.trips) (c0_i32_790 : BitVec 32) : Fin 4 → Nat :=
  let c8_i32_789 : BitVec 32 := 8#32
  let c0_i32_141 : BitVec 32 := 0#32
  let c1_i32_143 : BitVec 32 := 1#32
  let arg6 : BitVec 32 := Scf.iv c0_i32_141 c1_i32_143 k0_t6
  let v1089 : BitVec 32 := Scalar.muli c8_i32_789 arg6
  let v1090 : BitVec 32 := Scalar.addi v1089 c0_i32_790
  let v1091 : Index := Scalar.indexCast v1090
  let c14_791 : Index := 14#32
  let c0_792 : Index := 0#32
  let c0_793 : Index := 0#32
  ![v1091.toNat, 14, 0, 0]
def k0_off134 (k0_t6 : Fin k0_t6_loop.trips) (c0_i32_795 : BitVec 32) : Fin 4 → Nat :=
  let c8_i32_794 : BitVec 32 := 8#32
  let c0_i32_141 : BitVec 32 := 0#32
  let c1_i32_143 : BitVec 32 := 1#32
  let arg6 : BitVec 32 := Scf.iv c0_i32_141 c1_i32_143 k0_t6
  let v1100 : BitVec 32 := Scalar.muli c8_i32_794 arg6
  let v1101 : BitVec 32 := Scalar.addi v1100 c0_i32_795
  let v1102 : Index := Scalar.indexCast v1101
  let c15_796 : Index := 15#32
  let c0_797 : Index := 0#32
  let c0_798 : Index := 0#32
  ![v1102.toNat, 15, 0, 0]
@[reducible] def k0_t7_loop : Scf.Loop 32 :=
  let c0_i32_172 : BitVec 32 := 0#32
  let c4_i32_173 : BitVec 32 := 4#32
  let v197 : BitVec 32 := Scalar.addi c0_i32_172 c4_i32_173
  let c1_i32_174 : BitVec 32 := 1#32
  ⟨c0_i32_172, v197, c1_i32_174⟩
def k0_off135 (k0_t7 : Fin k0_t7_loop.trips) (c0_i32_679 : BitVec 32) : Fin 3 → Nat :=
  let c8_i32 : BitVec 32 := 8#32
  let c0_i32_172 : BitVec 32 := 0#32
  let c1_i32_174 : BitVec 32 := 1#32
  let arg6 : BitVec 32 := Scf.iv c0_i32_172 c1_i32_174 k0_t7
  let v871 : BitVec 32 := Scalar.muli c8_i32 arg6
  let c8_i32_678 : BitVec 32 := 8#32
  let v872 : BitVec 32 := Scalar.addi v871 c8_i32_678
  let v873 : BitVec 32 := Scalar.addi v872 c0_i32_679
  let c31_i32 : BitVec 32 := 31#32
  let v874 : BitVec 32 := Scalar.minsi v873 c31_i32
  let v875 : Index := Scalar.indexCast v874
  let c0_680 : Index := 0#32
  let c320_681 : Index := 320#32
  ![v875.toNat, 0, 320]
def k0_off136 (k0_t7 : Fin k0_t7_loop.trips) (c0_i32_720 : BitVec 32) : Fin 4 → Nat :=
  let c8_i32_719 : BitVec 32 := 8#32
  let c0_i32_172 : BitVec 32 := 0#32
  let c1_i32_174 : BitVec 32 := 1#32
  let arg6 : BitVec 32 := Scf.iv c0_i32_172 c1_i32_174 k0_t7
  let v935 : BitVec 32 := Scalar.muli c8_i32_719 arg6
  let v936 : BitVec 32 := Scalar.addi v935 c0_i32_720
  let v937 : Index := Scalar.indexCast v936
  let c0_721 : Index := 0#32
  let c0_722 : Index := 0#32
  let c0_723 : Index := 0#32
  ![v937.toNat, 0, 0, 0]
def k0_off137 (k0_t7 : Fin k0_t7_loop.trips) (c0_i32_725 : BitVec 32) : Fin 4 → Nat :=
  let c8_i32_724 : BitVec 32 := 8#32
  let c0_i32_172 : BitVec 32 := 0#32
  let c1_i32_174 : BitVec 32 := 1#32
  let arg6 : BitVec 32 := Scf.iv c0_i32_172 c1_i32_174 k0_t7
  let v946 : BitVec 32 := Scalar.muli c8_i32_724 arg6
  let v947 : BitVec 32 := Scalar.addi v946 c0_i32_725
  let v948 : Index := Scalar.indexCast v947
  let c1_726 : Index := 1#32
  let c0_727 : Index := 0#32
  let c0_728 : Index := 0#32
  ![v948.toNat, 1, 0, 0]
def k0_off138 (k0_t7 : Fin k0_t7_loop.trips) (c0_i32_730 : BitVec 32) : Fin 4 → Nat :=
  let c8_i32_729 : BitVec 32 := 8#32
  let c0_i32_172 : BitVec 32 := 0#32
  let c1_i32_174 : BitVec 32 := 1#32
  let arg6 : BitVec 32 := Scf.iv c0_i32_172 c1_i32_174 k0_t7
  let v957 : BitVec 32 := Scalar.muli c8_i32_729 arg6
  let v958 : BitVec 32 := Scalar.addi v957 c0_i32_730
  let v959 : Index := Scalar.indexCast v958
  let c2_731 : Index := 2#32
  let c0_732 : Index := 0#32
  let c0_733 : Index := 0#32
  ![v959.toNat, 2, 0, 0]
def k0_off139 (k0_t7 : Fin k0_t7_loop.trips) (c0_i32_735 : BitVec 32) : Fin 4 → Nat :=
  let c8_i32_734 : BitVec 32 := 8#32
  let c0_i32_172 : BitVec 32 := 0#32
  let c1_i32_174 : BitVec 32 := 1#32
  let arg6 : BitVec 32 := Scf.iv c0_i32_172 c1_i32_174 k0_t7
  let v968 : BitVec 32 := Scalar.muli c8_i32_734 arg6
  let v969 : BitVec 32 := Scalar.addi v968 c0_i32_735
  let v970 : Index := Scalar.indexCast v969
  let c3_736 : Index := 3#32
  let c0_737 : Index := 0#32
  let c0_738 : Index := 0#32
  ![v970.toNat, 3, 0, 0]
def k0_off140 (k0_t7 : Fin k0_t7_loop.trips) (c0_i32_740 : BitVec 32) : Fin 4 → Nat :=
  let c8_i32_739 : BitVec 32 := 8#32
  let c0_i32_172 : BitVec 32 := 0#32
  let c1_i32_174 : BitVec 32 := 1#32
  let arg6 : BitVec 32 := Scf.iv c0_i32_172 c1_i32_174 k0_t7
  let v979 : BitVec 32 := Scalar.muli c8_i32_739 arg6
  let v980 : BitVec 32 := Scalar.addi v979 c0_i32_740
  let v981 : Index := Scalar.indexCast v980
  let c4_741 : Index := 4#32
  let c0_742 : Index := 0#32
  let c0_743 : Index := 0#32
  ![v981.toNat, 4, 0, 0]
def k0_off141 (k0_t7 : Fin k0_t7_loop.trips) (c0_i32_745 : BitVec 32) : Fin 4 → Nat :=
  let c8_i32_744 : BitVec 32 := 8#32
  let c0_i32_172 : BitVec 32 := 0#32
  let c1_i32_174 : BitVec 32 := 1#32
  let arg6 : BitVec 32 := Scf.iv c0_i32_172 c1_i32_174 k0_t7
  let v990 : BitVec 32 := Scalar.muli c8_i32_744 arg6
  let v991 : BitVec 32 := Scalar.addi v990 c0_i32_745
  let v992 : Index := Scalar.indexCast v991
  let c5_746 : Index := 5#32
  let c0_747 : Index := 0#32
  let c0_748 : Index := 0#32
  ![v992.toNat, 5, 0, 0]
def k0_off142 (k0_t7 : Fin k0_t7_loop.trips) (c0_i32_750 : BitVec 32) : Fin 4 → Nat :=
  let c8_i32_749 : BitVec 32 := 8#32
  let c0_i32_172 : BitVec 32 := 0#32
  let c1_i32_174 : BitVec 32 := 1#32
  let arg6 : BitVec 32 := Scf.iv c0_i32_172 c1_i32_174 k0_t7
  let v1001 : BitVec 32 := Scalar.muli c8_i32_749 arg6
  let v1002 : BitVec 32 := Scalar.addi v1001 c0_i32_750
  let v1003 : Index := Scalar.indexCast v1002
  let c6_751 : Index := 6#32
  let c0_752 : Index := 0#32
  let c0_753 : Index := 0#32
  ![v1003.toNat, 6, 0, 0]
def k0_off143 (k0_t7 : Fin k0_t7_loop.trips) (c0_i32_755 : BitVec 32) : Fin 4 → Nat :=
  let c8_i32_754 : BitVec 32 := 8#32
  let c0_i32_172 : BitVec 32 := 0#32
  let c1_i32_174 : BitVec 32 := 1#32
  let arg6 : BitVec 32 := Scf.iv c0_i32_172 c1_i32_174 k0_t7
  let v1012 : BitVec 32 := Scalar.muli c8_i32_754 arg6
  let v1013 : BitVec 32 := Scalar.addi v1012 c0_i32_755
  let v1014 : Index := Scalar.indexCast v1013
  let c7_756 : Index := 7#32
  let c0_757 : Index := 0#32
  let c0_758 : Index := 0#32
  ![v1014.toNat, 7, 0, 0]
def k0_off144 (k0_t7 : Fin k0_t7_loop.trips) (c0_i32_760 : BitVec 32) : Fin 4 → Nat :=
  let c8_i32_759 : BitVec 32 := 8#32
  let c0_i32_172 : BitVec 32 := 0#32
  let c1_i32_174 : BitVec 32 := 1#32
  let arg6 : BitVec 32 := Scf.iv c0_i32_172 c1_i32_174 k0_t7
  let v1023 : BitVec 32 := Scalar.muli c8_i32_759 arg6
  let v1024 : BitVec 32 := Scalar.addi v1023 c0_i32_760
  let v1025 : Index := Scalar.indexCast v1024
  let c8_761 : Index := 8#32
  let c0_762 : Index := 0#32
  let c0_763 : Index := 0#32
  ![v1025.toNat, 8, 0, 0]
def k0_off145 (k0_t7 : Fin k0_t7_loop.trips) (c0_i32_765 : BitVec 32) : Fin 4 → Nat :=
  let c8_i32_764 : BitVec 32 := 8#32
  let c0_i32_172 : BitVec 32 := 0#32
  let c1_i32_174 : BitVec 32 := 1#32
  let arg6 : BitVec 32 := Scf.iv c0_i32_172 c1_i32_174 k0_t7
  let v1034 : BitVec 32 := Scalar.muli c8_i32_764 arg6
  let v1035 : BitVec 32 := Scalar.addi v1034 c0_i32_765
  let v1036 : Index := Scalar.indexCast v1035
  let c9_766 : Index := 9#32
  let c0_767 : Index := 0#32
  let c0_768 : Index := 0#32
  ![v1036.toNat, 9, 0, 0]
def k0_off146 (k0_t7 : Fin k0_t7_loop.trips) (c0_i32_770 : BitVec 32) : Fin 4 → Nat :=
  let c8_i32_769 : BitVec 32 := 8#32
  let c0_i32_172 : BitVec 32 := 0#32
  let c1_i32_174 : BitVec 32 := 1#32
  let arg6 : BitVec 32 := Scf.iv c0_i32_172 c1_i32_174 k0_t7
  let v1045 : BitVec 32 := Scalar.muli c8_i32_769 arg6
  let v1046 : BitVec 32 := Scalar.addi v1045 c0_i32_770
  let v1047 : Index := Scalar.indexCast v1046
  let c10_771 : Index := 10#32
  let c0_772 : Index := 0#32
  let c0_773 : Index := 0#32
  ![v1047.toNat, 10, 0, 0]
def k0_off147 (k0_t7 : Fin k0_t7_loop.trips) (c0_i32_775 : BitVec 32) : Fin 4 → Nat :=
  let c8_i32_774 : BitVec 32 := 8#32
  let c0_i32_172 : BitVec 32 := 0#32
  let c1_i32_174 : BitVec 32 := 1#32
  let arg6 : BitVec 32 := Scf.iv c0_i32_172 c1_i32_174 k0_t7
  let v1056 : BitVec 32 := Scalar.muli c8_i32_774 arg6
  let v1057 : BitVec 32 := Scalar.addi v1056 c0_i32_775
  let v1058 : Index := Scalar.indexCast v1057
  let c11_776 : Index := 11#32
  let c0_777 : Index := 0#32
  let c0_778 : Index := 0#32
  ![v1058.toNat, 11, 0, 0]
def k0_off148 (k0_t7 : Fin k0_t7_loop.trips) (c0_i32_780 : BitVec 32) : Fin 4 → Nat :=
  let c8_i32_779 : BitVec 32 := 8#32
  let c0_i32_172 : BitVec 32 := 0#32
  let c1_i32_174 : BitVec 32 := 1#32
  let arg6 : BitVec 32 := Scf.iv c0_i32_172 c1_i32_174 k0_t7
  let v1067 : BitVec 32 := Scalar.muli c8_i32_779 arg6
  let v1068 : BitVec 32 := Scalar.addi v1067 c0_i32_780
  let v1069 : Index := Scalar.indexCast v1068
  let c12_781 : Index := 12#32
  let c0_782 : Index := 0#32
  let c0_783 : Index := 0#32
  ![v1069.toNat, 12, 0, 0]
def k0_off149 (k0_t7 : Fin k0_t7_loop.trips) (c0_i32_785 : BitVec 32) : Fin 4 → Nat :=
  let c8_i32_784 : BitVec 32 := 8#32
  let c0_i32_172 : BitVec 32 := 0#32
  let c1_i32_174 : BitVec 32 := 1#32
  let arg6 : BitVec 32 := Scf.iv c0_i32_172 c1_i32_174 k0_t7
  let v1078 : BitVec 32 := Scalar.muli c8_i32_784 arg6
  let v1079 : BitVec 32 := Scalar.addi v1078 c0_i32_785
  let v1080 : Index := Scalar.indexCast v1079
  let c13_786 : Index := 13#32
  let c0_787 : Index := 0#32
  let c0_788 : Index := 0#32
  ![v1080.toNat, 13, 0, 0]
def k0_off150 (k0_t7 : Fin k0_t7_loop.trips) (c0_i32_790 : BitVec 32) : Fin 4 → Nat :=
  let c8_i32_789 : BitVec 32 := 8#32
  let c0_i32_172 : BitVec 32 := 0#32
  let c1_i32_174 : BitVec 32 := 1#32
  let arg6 : BitVec 32 := Scf.iv c0_i32_172 c1_i32_174 k0_t7
  let v1089 : BitVec 32 := Scalar.muli c8_i32_789 arg6
  let v1090 : BitVec 32 := Scalar.addi v1089 c0_i32_790
  let v1091 : Index := Scalar.indexCast v1090
  let c14_791 : Index := 14#32
  let c0_792 : Index := 0#32
  let c0_793 : Index := 0#32
  ![v1091.toNat, 14, 0, 0]
def k0_off151 (k0_t7 : Fin k0_t7_loop.trips) (c0_i32_795 : BitVec 32) : Fin 4 → Nat :=
  let c8_i32_794 : BitVec 32 := 8#32
  let c0_i32_172 : BitVec 32 := 0#32
  let c1_i32_174 : BitVec 32 := 1#32
  let arg6 : BitVec 32 := Scf.iv c0_i32_172 c1_i32_174 k0_t7
  let v1100 : BitVec 32 := Scalar.muli c8_i32_794 arg6
  let v1101 : BitVec 32 := Scalar.addi v1100 c0_i32_795
  let v1102 : Index := Scalar.indexCast v1101
  let c15_796 : Index := 15#32
  let c0_797 : Index := 0#32
  let c0_798 : Index := 0#32
  ![v1102.toNat, 15, 0, 0]
@[reducible] def k0_t8_loop : Scf.Loop 32 :=
  let c0_i32_203 : BitVec 32 := 0#32
  let c4_i32_204 : BitVec 32 := 4#32
  let v231 : BitVec 32 := Scalar.addi c0_i32_203 c4_i32_204
  let c1_i32_205 : BitVec 32 := 1#32
  ⟨c0_i32_203, v231, c1_i32_205⟩
def k0_off152 (k0_t8 : Fin k0_t8_loop.trips) (c0_i32_679 : BitVec 32) : Fin 3 → Nat :=
  let c8_i32 : BitVec 32 := 8#32
  let c0_i32_203 : BitVec 32 := 0#32
  let c1_i32_205 : BitVec 32 := 1#32
  let arg6 : BitVec 32 := Scf.iv c0_i32_203 c1_i32_205 k0_t8
  let v871 : BitVec 32 := Scalar.muli c8_i32 arg6
  let c8_i32_678 : BitVec 32 := 8#32
  let v872 : BitVec 32 := Scalar.addi v871 c8_i32_678
  let v873 : BitVec 32 := Scalar.addi v872 c0_i32_679
  let c31_i32 : BitVec 32 := 31#32
  let v874 : BitVec 32 := Scalar.minsi v873 c31_i32
  let v875 : Index := Scalar.indexCast v874
  let c0_680 : Index := 0#32
  let c384_681 : Index := 384#32
  ![v875.toNat, 0, 384]
def k0_off153 (k0_t8 : Fin k0_t8_loop.trips) (c0_i32_720 : BitVec 32) : Fin 4 → Nat :=
  let c8_i32_719 : BitVec 32 := 8#32
  let c0_i32_203 : BitVec 32 := 0#32
  let c1_i32_205 : BitVec 32 := 1#32
  let arg6 : BitVec 32 := Scf.iv c0_i32_203 c1_i32_205 k0_t8
  let v935 : BitVec 32 := Scalar.muli c8_i32_719 arg6
  let v936 : BitVec 32 := Scalar.addi v935 c0_i32_720
  let v937 : Index := Scalar.indexCast v936
  let c0_721 : Index := 0#32
  let c0_722 : Index := 0#32
  let c0_723 : Index := 0#32
  ![v937.toNat, 0, 0, 0]
def k0_off154 (k0_t8 : Fin k0_t8_loop.trips) (c0_i32_725 : BitVec 32) : Fin 4 → Nat :=
  let c8_i32_724 : BitVec 32 := 8#32
  let c0_i32_203 : BitVec 32 := 0#32
  let c1_i32_205 : BitVec 32 := 1#32
  let arg6 : BitVec 32 := Scf.iv c0_i32_203 c1_i32_205 k0_t8
  let v946 : BitVec 32 := Scalar.muli c8_i32_724 arg6
  let v947 : BitVec 32 := Scalar.addi v946 c0_i32_725
  let v948 : Index := Scalar.indexCast v947
  let c1_726 : Index := 1#32
  let c0_727 : Index := 0#32
  let c0_728 : Index := 0#32
  ![v948.toNat, 1, 0, 0]
def k0_off155 (k0_t8 : Fin k0_t8_loop.trips) (c0_i32_730 : BitVec 32) : Fin 4 → Nat :=
  let c8_i32_729 : BitVec 32 := 8#32
  let c0_i32_203 : BitVec 32 := 0#32
  let c1_i32_205 : BitVec 32 := 1#32
  let arg6 : BitVec 32 := Scf.iv c0_i32_203 c1_i32_205 k0_t8
  let v957 : BitVec 32 := Scalar.muli c8_i32_729 arg6
  let v958 : BitVec 32 := Scalar.addi v957 c0_i32_730
  let v959 : Index := Scalar.indexCast v958
  let c2_731 : Index := 2#32
  let c0_732 : Index := 0#32
  let c0_733 : Index := 0#32
  ![v959.toNat, 2, 0, 0]
def k0_off156 (k0_t8 : Fin k0_t8_loop.trips) (c0_i32_735 : BitVec 32) : Fin 4 → Nat :=
  let c8_i32_734 : BitVec 32 := 8#32
  let c0_i32_203 : BitVec 32 := 0#32
  let c1_i32_205 : BitVec 32 := 1#32
  let arg6 : BitVec 32 := Scf.iv c0_i32_203 c1_i32_205 k0_t8
  let v968 : BitVec 32 := Scalar.muli c8_i32_734 arg6
  let v969 : BitVec 32 := Scalar.addi v968 c0_i32_735
  let v970 : Index := Scalar.indexCast v969
  let c3_736 : Index := 3#32
  let c0_737 : Index := 0#32
  let c0_738 : Index := 0#32
  ![v970.toNat, 3, 0, 0]
def k0_off157 (k0_t8 : Fin k0_t8_loop.trips) (c0_i32_740 : BitVec 32) : Fin 4 → Nat :=
  let c8_i32_739 : BitVec 32 := 8#32
  let c0_i32_203 : BitVec 32 := 0#32
  let c1_i32_205 : BitVec 32 := 1#32
  let arg6 : BitVec 32 := Scf.iv c0_i32_203 c1_i32_205 k0_t8
  let v979 : BitVec 32 := Scalar.muli c8_i32_739 arg6
  let v980 : BitVec 32 := Scalar.addi v979 c0_i32_740
  let v981 : Index := Scalar.indexCast v980
  let c4_741 : Index := 4#32
  let c0_742 : Index := 0#32
  let c0_743 : Index := 0#32
  ![v981.toNat, 4, 0, 0]
def k0_off158 (k0_t8 : Fin k0_t8_loop.trips) (c0_i32_745 : BitVec 32) : Fin 4 → Nat :=
  let c8_i32_744 : BitVec 32 := 8#32
  let c0_i32_203 : BitVec 32 := 0#32
  let c1_i32_205 : BitVec 32 := 1#32
  let arg6 : BitVec 32 := Scf.iv c0_i32_203 c1_i32_205 k0_t8
  let v990 : BitVec 32 := Scalar.muli c8_i32_744 arg6
  let v991 : BitVec 32 := Scalar.addi v990 c0_i32_745
  let v992 : Index := Scalar.indexCast v991
  let c5_746 : Index := 5#32
  let c0_747 : Index := 0#32
  let c0_748 : Index := 0#32
  ![v992.toNat, 5, 0, 0]
def k0_off159 (k0_t8 : Fin k0_t8_loop.trips) (c0_i32_750 : BitVec 32) : Fin 4 → Nat :=
  let c8_i32_749 : BitVec 32 := 8#32
  let c0_i32_203 : BitVec 32 := 0#32
  let c1_i32_205 : BitVec 32 := 1#32
  let arg6 : BitVec 32 := Scf.iv c0_i32_203 c1_i32_205 k0_t8
  let v1001 : BitVec 32 := Scalar.muli c8_i32_749 arg6
  let v1002 : BitVec 32 := Scalar.addi v1001 c0_i32_750
  let v1003 : Index := Scalar.indexCast v1002
  let c6_751 : Index := 6#32
  let c0_752 : Index := 0#32
  let c0_753 : Index := 0#32
  ![v1003.toNat, 6, 0, 0]
def k0_off160 (k0_t8 : Fin k0_t8_loop.trips) (c0_i32_755 : BitVec 32) : Fin 4 → Nat :=
  let c8_i32_754 : BitVec 32 := 8#32
  let c0_i32_203 : BitVec 32 := 0#32
  let c1_i32_205 : BitVec 32 := 1#32
  let arg6 : BitVec 32 := Scf.iv c0_i32_203 c1_i32_205 k0_t8
  let v1012 : BitVec 32 := Scalar.muli c8_i32_754 arg6
  let v1013 : BitVec 32 := Scalar.addi v1012 c0_i32_755
  let v1014 : Index := Scalar.indexCast v1013
  let c7_756 : Index := 7#32
  let c0_757 : Index := 0#32
  let c0_758 : Index := 0#32
  ![v1014.toNat, 7, 0, 0]
def k0_off161 (k0_t8 : Fin k0_t8_loop.trips) (c0_i32_760 : BitVec 32) : Fin 4 → Nat :=
  let c8_i32_759 : BitVec 32 := 8#32
  let c0_i32_203 : BitVec 32 := 0#32
  let c1_i32_205 : BitVec 32 := 1#32
  let arg6 : BitVec 32 := Scf.iv c0_i32_203 c1_i32_205 k0_t8
  let v1023 : BitVec 32 := Scalar.muli c8_i32_759 arg6
  let v1024 : BitVec 32 := Scalar.addi v1023 c0_i32_760
  let v1025 : Index := Scalar.indexCast v1024
  let c8_761 : Index := 8#32
  let c0_762 : Index := 0#32
  let c0_763 : Index := 0#32
  ![v1025.toNat, 8, 0, 0]
def k0_off162 (k0_t8 : Fin k0_t8_loop.trips) (c0_i32_765 : BitVec 32) : Fin 4 → Nat :=
  let c8_i32_764 : BitVec 32 := 8#32
  let c0_i32_203 : BitVec 32 := 0#32
  let c1_i32_205 : BitVec 32 := 1#32
  let arg6 : BitVec 32 := Scf.iv c0_i32_203 c1_i32_205 k0_t8
  let v1034 : BitVec 32 := Scalar.muli c8_i32_764 arg6
  let v1035 : BitVec 32 := Scalar.addi v1034 c0_i32_765
  let v1036 : Index := Scalar.indexCast v1035
  let c9_766 : Index := 9#32
  let c0_767 : Index := 0#32
  let c0_768 : Index := 0#32
  ![v1036.toNat, 9, 0, 0]
def k0_off163 (k0_t8 : Fin k0_t8_loop.trips) (c0_i32_770 : BitVec 32) : Fin 4 → Nat :=
  let c8_i32_769 : BitVec 32 := 8#32
  let c0_i32_203 : BitVec 32 := 0#32
  let c1_i32_205 : BitVec 32 := 1#32
  let arg6 : BitVec 32 := Scf.iv c0_i32_203 c1_i32_205 k0_t8
  let v1045 : BitVec 32 := Scalar.muli c8_i32_769 arg6
  let v1046 : BitVec 32 := Scalar.addi v1045 c0_i32_770
  let v1047 : Index := Scalar.indexCast v1046
  let c10_771 : Index := 10#32
  let c0_772 : Index := 0#32
  let c0_773 : Index := 0#32
  ![v1047.toNat, 10, 0, 0]
def k0_off164 (k0_t8 : Fin k0_t8_loop.trips) (c0_i32_775 : BitVec 32) : Fin 4 → Nat :=
  let c8_i32_774 : BitVec 32 := 8#32
  let c0_i32_203 : BitVec 32 := 0#32
  let c1_i32_205 : BitVec 32 := 1#32
  let arg6 : BitVec 32 := Scf.iv c0_i32_203 c1_i32_205 k0_t8
  let v1056 : BitVec 32 := Scalar.muli c8_i32_774 arg6
  let v1057 : BitVec 32 := Scalar.addi v1056 c0_i32_775
  let v1058 : Index := Scalar.indexCast v1057
  let c11_776 : Index := 11#32
  let c0_777 : Index := 0#32
  let c0_778 : Index := 0#32
  ![v1058.toNat, 11, 0, 0]
def k0_off165 (k0_t8 : Fin k0_t8_loop.trips) (c0_i32_780 : BitVec 32) : Fin 4 → Nat :=
  let c8_i32_779 : BitVec 32 := 8#32
  let c0_i32_203 : BitVec 32 := 0#32
  let c1_i32_205 : BitVec 32 := 1#32
  let arg6 : BitVec 32 := Scf.iv c0_i32_203 c1_i32_205 k0_t8
  let v1067 : BitVec 32 := Scalar.muli c8_i32_779 arg6
  let v1068 : BitVec 32 := Scalar.addi v1067 c0_i32_780
  let v1069 : Index := Scalar.indexCast v1068
  let c12_781 : Index := 12#32
  let c0_782 : Index := 0#32
  let c0_783 : Index := 0#32
  ![v1069.toNat, 12, 0, 0]
def k0_off166 (k0_t8 : Fin k0_t8_loop.trips) (c0_i32_785 : BitVec 32) : Fin 4 → Nat :=
  let c8_i32_784 : BitVec 32 := 8#32
  let c0_i32_203 : BitVec 32 := 0#32
  let c1_i32_205 : BitVec 32 := 1#32
  let arg6 : BitVec 32 := Scf.iv c0_i32_203 c1_i32_205 k0_t8
  let v1078 : BitVec 32 := Scalar.muli c8_i32_784 arg6
  let v1079 : BitVec 32 := Scalar.addi v1078 c0_i32_785
  let v1080 : Index := Scalar.indexCast v1079
  let c13_786 : Index := 13#32
  let c0_787 : Index := 0#32
  let c0_788 : Index := 0#32
  ![v1080.toNat, 13, 0, 0]
def k0_off167 (k0_t8 : Fin k0_t8_loop.trips) (c0_i32_790 : BitVec 32) : Fin 4 → Nat :=
  let c8_i32_789 : BitVec 32 := 8#32
  let c0_i32_203 : BitVec 32 := 0#32
  let c1_i32_205 : BitVec 32 := 1#32
  let arg6 : BitVec 32 := Scf.iv c0_i32_203 c1_i32_205 k0_t8
  let v1089 : BitVec 32 := Scalar.muli c8_i32_789 arg6
  let v1090 : BitVec 32 := Scalar.addi v1089 c0_i32_790
  let v1091 : Index := Scalar.indexCast v1090
  let c14_791 : Index := 14#32
  let c0_792 : Index := 0#32
  let c0_793 : Index := 0#32
  ![v1091.toNat, 14, 0, 0]
def k0_off168 (k0_t8 : Fin k0_t8_loop.trips) (c0_i32_795 : BitVec 32) : Fin 4 → Nat :=
  let c8_i32_794 : BitVec 32 := 8#32
  let c0_i32_203 : BitVec 32 := 0#32
  let c1_i32_205 : BitVec 32 := 1#32
  let arg6 : BitVec 32 := Scf.iv c0_i32_203 c1_i32_205 k0_t8
  let v1100 : BitVec 32 := Scalar.muli c8_i32_794 arg6
  let v1101 : BitVec 32 := Scalar.addi v1100 c0_i32_795
  let v1102 : Index := Scalar.indexCast v1101
  let c15_796 : Index := 15#32
  let c0_797 : Index := 0#32
  let c0_798 : Index := 0#32
  ![v1102.toNat, 15, 0, 0]
@[reducible] def k0_t9_loop : Scf.Loop 32 :=
  let c0_i32_234 : BitVec 32 := 0#32
  let c4_i32_235 : BitVec 32 := 4#32
  let v265 : BitVec 32 := Scalar.addi c0_i32_234 c4_i32_235
  let c1_i32_236 : BitVec 32 := 1#32
  ⟨c0_i32_234, v265, c1_i32_236⟩
def k0_off169 (k0_t9 : Fin k0_t9_loop.trips) (c0_i32_679 : BitVec 32) : Fin 3 → Nat :=
  let c8_i32 : BitVec 32 := 8#32
  let c0_i32_234 : BitVec 32 := 0#32
  let c1_i32_236 : BitVec 32 := 1#32
  let arg6 : BitVec 32 := Scf.iv c0_i32_234 c1_i32_236 k0_t9
  let v871 : BitVec 32 := Scalar.muli c8_i32 arg6
  let c8_i32_678 : BitVec 32 := 8#32
  let v872 : BitVec 32 := Scalar.addi v871 c8_i32_678
  let v873 : BitVec 32 := Scalar.addi v872 c0_i32_679
  let c31_i32 : BitVec 32 := 31#32
  let v874 : BitVec 32 := Scalar.minsi v873 c31_i32
  let v875 : Index := Scalar.indexCast v874
  let c0_680 : Index := 0#32
  let c448_681 : Index := 448#32
  ![v875.toNat, 0, 448]
def k0_off170 (k0_t9 : Fin k0_t9_loop.trips) (c0_i32_720 : BitVec 32) : Fin 4 → Nat :=
  let c8_i32_719 : BitVec 32 := 8#32
  let c0_i32_234 : BitVec 32 := 0#32
  let c1_i32_236 : BitVec 32 := 1#32
  let arg6 : BitVec 32 := Scf.iv c0_i32_234 c1_i32_236 k0_t9
  let v935 : BitVec 32 := Scalar.muli c8_i32_719 arg6
  let v936 : BitVec 32 := Scalar.addi v935 c0_i32_720
  let v937 : Index := Scalar.indexCast v936
  let c0_721 : Index := 0#32
  let c0_722 : Index := 0#32
  let c0_723 : Index := 0#32
  ![v937.toNat, 0, 0, 0]
def k0_off171 (k0_t9 : Fin k0_t9_loop.trips) (c0_i32_725 : BitVec 32) : Fin 4 → Nat :=
  let c8_i32_724 : BitVec 32 := 8#32
  let c0_i32_234 : BitVec 32 := 0#32
  let c1_i32_236 : BitVec 32 := 1#32
  let arg6 : BitVec 32 := Scf.iv c0_i32_234 c1_i32_236 k0_t9
  let v946 : BitVec 32 := Scalar.muli c8_i32_724 arg6
  let v947 : BitVec 32 := Scalar.addi v946 c0_i32_725
  let v948 : Index := Scalar.indexCast v947
  let c1_726 : Index := 1#32
  let c0_727 : Index := 0#32
  let c0_728 : Index := 0#32
  ![v948.toNat, 1, 0, 0]
def k0_off172 (k0_t9 : Fin k0_t9_loop.trips) (c0_i32_730 : BitVec 32) : Fin 4 → Nat :=
  let c8_i32_729 : BitVec 32 := 8#32
  let c0_i32_234 : BitVec 32 := 0#32
  let c1_i32_236 : BitVec 32 := 1#32
  let arg6 : BitVec 32 := Scf.iv c0_i32_234 c1_i32_236 k0_t9
  let v957 : BitVec 32 := Scalar.muli c8_i32_729 arg6
  let v958 : BitVec 32 := Scalar.addi v957 c0_i32_730
  let v959 : Index := Scalar.indexCast v958
  let c2_731 : Index := 2#32
  let c0_732 : Index := 0#32
  let c0_733 : Index := 0#32
  ![v959.toNat, 2, 0, 0]
def k0_off173 (k0_t9 : Fin k0_t9_loop.trips) (c0_i32_735 : BitVec 32) : Fin 4 → Nat :=
  let c8_i32_734 : BitVec 32 := 8#32
  let c0_i32_234 : BitVec 32 := 0#32
  let c1_i32_236 : BitVec 32 := 1#32
  let arg6 : BitVec 32 := Scf.iv c0_i32_234 c1_i32_236 k0_t9
  let v968 : BitVec 32 := Scalar.muli c8_i32_734 arg6
  let v969 : BitVec 32 := Scalar.addi v968 c0_i32_735
  let v970 : Index := Scalar.indexCast v969
  let c3_736 : Index := 3#32
  let c0_737 : Index := 0#32
  let c0_738 : Index := 0#32
  ![v970.toNat, 3, 0, 0]
def k0_off174 (k0_t9 : Fin k0_t9_loop.trips) (c0_i32_740 : BitVec 32) : Fin 4 → Nat :=
  let c8_i32_739 : BitVec 32 := 8#32
  let c0_i32_234 : BitVec 32 := 0#32
  let c1_i32_236 : BitVec 32 := 1#32
  let arg6 : BitVec 32 := Scf.iv c0_i32_234 c1_i32_236 k0_t9
  let v979 : BitVec 32 := Scalar.muli c8_i32_739 arg6
  let v980 : BitVec 32 := Scalar.addi v979 c0_i32_740
  let v981 : Index := Scalar.indexCast v980
  let c4_741 : Index := 4#32
  let c0_742 : Index := 0#32
  let c0_743 : Index := 0#32
  ![v981.toNat, 4, 0, 0]
def k0_off175 (k0_t9 : Fin k0_t9_loop.trips) (c0_i32_745 : BitVec 32) : Fin 4 → Nat :=
  let c8_i32_744 : BitVec 32 := 8#32
  let c0_i32_234 : BitVec 32 := 0#32
  let c1_i32_236 : BitVec 32 := 1#32
  let arg6 : BitVec 32 := Scf.iv c0_i32_234 c1_i32_236 k0_t9
  let v990 : BitVec 32 := Scalar.muli c8_i32_744 arg6
  let v991 : BitVec 32 := Scalar.addi v990 c0_i32_745
  let v992 : Index := Scalar.indexCast v991
  let c5_746 : Index := 5#32
  let c0_747 : Index := 0#32
  let c0_748 : Index := 0#32
  ![v992.toNat, 5, 0, 0]
def k0_off176 (k0_t9 : Fin k0_t9_loop.trips) (c0_i32_750 : BitVec 32) : Fin 4 → Nat :=
  let c8_i32_749 : BitVec 32 := 8#32
  let c0_i32_234 : BitVec 32 := 0#32
  let c1_i32_236 : BitVec 32 := 1#32
  let arg6 : BitVec 32 := Scf.iv c0_i32_234 c1_i32_236 k0_t9
  let v1001 : BitVec 32 := Scalar.muli c8_i32_749 arg6
  let v1002 : BitVec 32 := Scalar.addi v1001 c0_i32_750
  let v1003 : Index := Scalar.indexCast v1002
  let c6_751 : Index := 6#32
  let c0_752 : Index := 0#32
  let c0_753 : Index := 0#32
  ![v1003.toNat, 6, 0, 0]
def k0_off177 (k0_t9 : Fin k0_t9_loop.trips) (c0_i32_755 : BitVec 32) : Fin 4 → Nat :=
  let c8_i32_754 : BitVec 32 := 8#32
  let c0_i32_234 : BitVec 32 := 0#32
  let c1_i32_236 : BitVec 32 := 1#32
  let arg6 : BitVec 32 := Scf.iv c0_i32_234 c1_i32_236 k0_t9
  let v1012 : BitVec 32 := Scalar.muli c8_i32_754 arg6
  let v1013 : BitVec 32 := Scalar.addi v1012 c0_i32_755
  let v1014 : Index := Scalar.indexCast v1013
  let c7_756 : Index := 7#32
  let c0_757 : Index := 0#32
  let c0_758 : Index := 0#32
  ![v1014.toNat, 7, 0, 0]
def k0_off178 (k0_t9 : Fin k0_t9_loop.trips) (c0_i32_760 : BitVec 32) : Fin 4 → Nat :=
  let c8_i32_759 : BitVec 32 := 8#32
  let c0_i32_234 : BitVec 32 := 0#32
  let c1_i32_236 : BitVec 32 := 1#32
  let arg6 : BitVec 32 := Scf.iv c0_i32_234 c1_i32_236 k0_t9
  let v1023 : BitVec 32 := Scalar.muli c8_i32_759 arg6
  let v1024 : BitVec 32 := Scalar.addi v1023 c0_i32_760
  let v1025 : Index := Scalar.indexCast v1024
  let c8_761 : Index := 8#32
  let c0_762 : Index := 0#32
  let c0_763 : Index := 0#32
  ![v1025.toNat, 8, 0, 0]
def k0_off179 (k0_t9 : Fin k0_t9_loop.trips) (c0_i32_765 : BitVec 32) : Fin 4 → Nat :=
  let c8_i32_764 : BitVec 32 := 8#32
  let c0_i32_234 : BitVec 32 := 0#32
  let c1_i32_236 : BitVec 32 := 1#32
  let arg6 : BitVec 32 := Scf.iv c0_i32_234 c1_i32_236 k0_t9
  let v1034 : BitVec 32 := Scalar.muli c8_i32_764 arg6
  let v1035 : BitVec 32 := Scalar.addi v1034 c0_i32_765
  let v1036 : Index := Scalar.indexCast v1035
  let c9_766 : Index := 9#32
  let c0_767 : Index := 0#32
  let c0_768 : Index := 0#32
  ![v1036.toNat, 9, 0, 0]
def k0_off180 (k0_t9 : Fin k0_t9_loop.trips) (c0_i32_770 : BitVec 32) : Fin 4 → Nat :=
  let c8_i32_769 : BitVec 32 := 8#32
  let c0_i32_234 : BitVec 32 := 0#32
  let c1_i32_236 : BitVec 32 := 1#32
  let arg6 : BitVec 32 := Scf.iv c0_i32_234 c1_i32_236 k0_t9
  let v1045 : BitVec 32 := Scalar.muli c8_i32_769 arg6
  let v1046 : BitVec 32 := Scalar.addi v1045 c0_i32_770
  let v1047 : Index := Scalar.indexCast v1046
  let c10_771 : Index := 10#32
  let c0_772 : Index := 0#32
  let c0_773 : Index := 0#32
  ![v1047.toNat, 10, 0, 0]
def k0_off181 (k0_t9 : Fin k0_t9_loop.trips) (c0_i32_775 : BitVec 32) : Fin 4 → Nat :=
  let c8_i32_774 : BitVec 32 := 8#32
  let c0_i32_234 : BitVec 32 := 0#32
  let c1_i32_236 : BitVec 32 := 1#32
  let arg6 : BitVec 32 := Scf.iv c0_i32_234 c1_i32_236 k0_t9
  let v1056 : BitVec 32 := Scalar.muli c8_i32_774 arg6
  let v1057 : BitVec 32 := Scalar.addi v1056 c0_i32_775
  let v1058 : Index := Scalar.indexCast v1057
  let c11_776 : Index := 11#32
  let c0_777 : Index := 0#32
  let c0_778 : Index := 0#32
  ![v1058.toNat, 11, 0, 0]
def k0_off182 (k0_t9 : Fin k0_t9_loop.trips) (c0_i32_780 : BitVec 32) : Fin 4 → Nat :=
  let c8_i32_779 : BitVec 32 := 8#32
  let c0_i32_234 : BitVec 32 := 0#32
  let c1_i32_236 : BitVec 32 := 1#32
  let arg6 : BitVec 32 := Scf.iv c0_i32_234 c1_i32_236 k0_t9
  let v1067 : BitVec 32 := Scalar.muli c8_i32_779 arg6
  let v1068 : BitVec 32 := Scalar.addi v1067 c0_i32_780
  let v1069 : Index := Scalar.indexCast v1068
  let c12_781 : Index := 12#32
  let c0_782 : Index := 0#32
  let c0_783 : Index := 0#32
  ![v1069.toNat, 12, 0, 0]
def k0_off183 (k0_t9 : Fin k0_t9_loop.trips) (c0_i32_785 : BitVec 32) : Fin 4 → Nat :=
  let c8_i32_784 : BitVec 32 := 8#32
  let c0_i32_234 : BitVec 32 := 0#32
  let c1_i32_236 : BitVec 32 := 1#32
  let arg6 : BitVec 32 := Scf.iv c0_i32_234 c1_i32_236 k0_t9
  let v1078 : BitVec 32 := Scalar.muli c8_i32_784 arg6
  let v1079 : BitVec 32 := Scalar.addi v1078 c0_i32_785
  let v1080 : Index := Scalar.indexCast v1079
  let c13_786 : Index := 13#32
  let c0_787 : Index := 0#32
  let c0_788 : Index := 0#32
  ![v1080.toNat, 13, 0, 0]
def k0_off184 (k0_t9 : Fin k0_t9_loop.trips) (c0_i32_790 : BitVec 32) : Fin 4 → Nat :=
  let c8_i32_789 : BitVec 32 := 8#32
  let c0_i32_234 : BitVec 32 := 0#32
  let c1_i32_236 : BitVec 32 := 1#32
  let arg6 : BitVec 32 := Scf.iv c0_i32_234 c1_i32_236 k0_t9
  let v1089 : BitVec 32 := Scalar.muli c8_i32_789 arg6
  let v1090 : BitVec 32 := Scalar.addi v1089 c0_i32_790
  let v1091 : Index := Scalar.indexCast v1090
  let c14_791 : Index := 14#32
  let c0_792 : Index := 0#32
  let c0_793 : Index := 0#32
  ![v1091.toNat, 14, 0, 0]
def k0_off185 (k0_t9 : Fin k0_t9_loop.trips) (c0_i32_795 : BitVec 32) : Fin 4 → Nat :=
  let c8_i32_794 : BitVec 32 := 8#32
  let c0_i32_234 : BitVec 32 := 0#32
  let c1_i32_236 : BitVec 32 := 1#32
  let arg6 : BitVec 32 := Scf.iv c0_i32_234 c1_i32_236 k0_t9
  let v1100 : BitVec 32 := Scalar.muli c8_i32_794 arg6
  let v1101 : BitVec 32 := Scalar.addi v1100 c0_i32_795
  let v1102 : Index := Scalar.indexCast v1101
  let c15_796 : Index := 15#32
  let c0_797 : Index := 0#32
  let c0_798 : Index := 0#32
  ![v1102.toNat, 15, 0, 0]
@[reducible] def k0_t10_loop : Scf.Loop 32 :=
  let c0_i32_265 : BitVec 32 := 0#32
  let c4_i32_266 : BitVec 32 := 4#32
  let v299 : BitVec 32 := Scalar.addi c0_i32_265 c4_i32_266
  let c1_i32_267 : BitVec 32 := 1#32
  ⟨c0_i32_265, v299, c1_i32_267⟩
def k0_off186 (k0_t10 : Fin k0_t10_loop.trips) (c0_i32_679 : BitVec 32) : Fin 3 → Nat :=
  let c8_i32 : BitVec 32 := 8#32
  let c0_i32_265 : BitVec 32 := 0#32
  let c1_i32_267 : BitVec 32 := 1#32
  let arg6 : BitVec 32 := Scf.iv c0_i32_265 c1_i32_267 k0_t10
  let v871 : BitVec 32 := Scalar.muli c8_i32 arg6
  let c8_i32_678 : BitVec 32 := 8#32
  let v872 : BitVec 32 := Scalar.addi v871 c8_i32_678
  let v873 : BitVec 32 := Scalar.addi v872 c0_i32_679
  let c31_i32 : BitVec 32 := 31#32
  let v874 : BitVec 32 := Scalar.minsi v873 c31_i32
  let v875 : Index := Scalar.indexCast v874
  let c0_680 : Index := 0#32
  let c512_681 : Index := 512#32
  ![v875.toNat, 0, 512]
def k0_off187 (k0_t10 : Fin k0_t10_loop.trips) (c0_i32_720 : BitVec 32) : Fin 4 → Nat :=
  let c8_i32_719 : BitVec 32 := 8#32
  let c0_i32_265 : BitVec 32 := 0#32
  let c1_i32_267 : BitVec 32 := 1#32
  let arg6 : BitVec 32 := Scf.iv c0_i32_265 c1_i32_267 k0_t10
  let v935 : BitVec 32 := Scalar.muli c8_i32_719 arg6
  let v936 : BitVec 32 := Scalar.addi v935 c0_i32_720
  let v937 : Index := Scalar.indexCast v936
  let c0_721 : Index := 0#32
  let c0_722 : Index := 0#32
  let c0_723 : Index := 0#32
  ![v937.toNat, 0, 0, 0]
def k0_off188 (k0_t10 : Fin k0_t10_loop.trips) (c0_i32_725 : BitVec 32) : Fin 4 → Nat :=
  let c8_i32_724 : BitVec 32 := 8#32
  let c0_i32_265 : BitVec 32 := 0#32
  let c1_i32_267 : BitVec 32 := 1#32
  let arg6 : BitVec 32 := Scf.iv c0_i32_265 c1_i32_267 k0_t10
  let v946 : BitVec 32 := Scalar.muli c8_i32_724 arg6
  let v947 : BitVec 32 := Scalar.addi v946 c0_i32_725
  let v948 : Index := Scalar.indexCast v947
  let c1_726 : Index := 1#32
  let c0_727 : Index := 0#32
  let c0_728 : Index := 0#32
  ![v948.toNat, 1, 0, 0]
def k0_off189 (k0_t10 : Fin k0_t10_loop.trips) (c0_i32_730 : BitVec 32) : Fin 4 → Nat :=
  let c8_i32_729 : BitVec 32 := 8#32
  let c0_i32_265 : BitVec 32 := 0#32
  let c1_i32_267 : BitVec 32 := 1#32
  let arg6 : BitVec 32 := Scf.iv c0_i32_265 c1_i32_267 k0_t10
  let v957 : BitVec 32 := Scalar.muli c8_i32_729 arg6
  let v958 : BitVec 32 := Scalar.addi v957 c0_i32_730
  let v959 : Index := Scalar.indexCast v958
  let c2_731 : Index := 2#32
  let c0_732 : Index := 0#32
  let c0_733 : Index := 0#32
  ![v959.toNat, 2, 0, 0]
def k0_off190 (k0_t10 : Fin k0_t10_loop.trips) (c0_i32_735 : BitVec 32) : Fin 4 → Nat :=
  let c8_i32_734 : BitVec 32 := 8#32
  let c0_i32_265 : BitVec 32 := 0#32
  let c1_i32_267 : BitVec 32 := 1#32
  let arg6 : BitVec 32 := Scf.iv c0_i32_265 c1_i32_267 k0_t10
  let v968 : BitVec 32 := Scalar.muli c8_i32_734 arg6
  let v969 : BitVec 32 := Scalar.addi v968 c0_i32_735
  let v970 : Index := Scalar.indexCast v969
  let c3_736 : Index := 3#32
  let c0_737 : Index := 0#32
  let c0_738 : Index := 0#32
  ![v970.toNat, 3, 0, 0]
def k0_off191 (k0_t10 : Fin k0_t10_loop.trips) (c0_i32_740 : BitVec 32) : Fin 4 → Nat :=
  let c8_i32_739 : BitVec 32 := 8#32
  let c0_i32_265 : BitVec 32 := 0#32
  let c1_i32_267 : BitVec 32 := 1#32
  let arg6 : BitVec 32 := Scf.iv c0_i32_265 c1_i32_267 k0_t10
  let v979 : BitVec 32 := Scalar.muli c8_i32_739 arg6
  let v980 : BitVec 32 := Scalar.addi v979 c0_i32_740
  let v981 : Index := Scalar.indexCast v980
  let c4_741 : Index := 4#32
  let c0_742 : Index := 0#32
  let c0_743 : Index := 0#32
  ![v981.toNat, 4, 0, 0]
def k0_off192 (k0_t10 : Fin k0_t10_loop.trips) (c0_i32_745 : BitVec 32) : Fin 4 → Nat :=
  let c8_i32_744 : BitVec 32 := 8#32
  let c0_i32_265 : BitVec 32 := 0#32
  let c1_i32_267 : BitVec 32 := 1#32
  let arg6 : BitVec 32 := Scf.iv c0_i32_265 c1_i32_267 k0_t10
  let v990 : BitVec 32 := Scalar.muli c8_i32_744 arg6
  let v991 : BitVec 32 := Scalar.addi v990 c0_i32_745
  let v992 : Index := Scalar.indexCast v991
  let c5_746 : Index := 5#32
  let c0_747 : Index := 0#32
  let c0_748 : Index := 0#32
  ![v992.toNat, 5, 0, 0]
def k0_off193 (k0_t10 : Fin k0_t10_loop.trips) (c0_i32_750 : BitVec 32) : Fin 4 → Nat :=
  let c8_i32_749 : BitVec 32 := 8#32
  let c0_i32_265 : BitVec 32 := 0#32
  let c1_i32_267 : BitVec 32 := 1#32
  let arg6 : BitVec 32 := Scf.iv c0_i32_265 c1_i32_267 k0_t10
  let v1001 : BitVec 32 := Scalar.muli c8_i32_749 arg6
  let v1002 : BitVec 32 := Scalar.addi v1001 c0_i32_750
  let v1003 : Index := Scalar.indexCast v1002
  let c6_751 : Index := 6#32
  let c0_752 : Index := 0#32
  let c0_753 : Index := 0#32
  ![v1003.toNat, 6, 0, 0]
def k0_off194 (k0_t10 : Fin k0_t10_loop.trips) (c0_i32_755 : BitVec 32) : Fin 4 → Nat :=
  let c8_i32_754 : BitVec 32 := 8#32
  let c0_i32_265 : BitVec 32 := 0#32
  let c1_i32_267 : BitVec 32 := 1#32
  let arg6 : BitVec 32 := Scf.iv c0_i32_265 c1_i32_267 k0_t10
  let v1012 : BitVec 32 := Scalar.muli c8_i32_754 arg6
  let v1013 : BitVec 32 := Scalar.addi v1012 c0_i32_755
  let v1014 : Index := Scalar.indexCast v1013
  let c7_756 : Index := 7#32
  let c0_757 : Index := 0#32
  let c0_758 : Index := 0#32
  ![v1014.toNat, 7, 0, 0]
def k0_off195 (k0_t10 : Fin k0_t10_loop.trips) (c0_i32_760 : BitVec 32) : Fin 4 → Nat :=
  let c8_i32_759 : BitVec 32 := 8#32
  let c0_i32_265 : BitVec 32 := 0#32
  let c1_i32_267 : BitVec 32 := 1#32
  let arg6 : BitVec 32 := Scf.iv c0_i32_265 c1_i32_267 k0_t10
  let v1023 : BitVec 32 := Scalar.muli c8_i32_759 arg6
  let v1024 : BitVec 32 := Scalar.addi v1023 c0_i32_760
  let v1025 : Index := Scalar.indexCast v1024
  let c8_761 : Index := 8#32
  let c0_762 : Index := 0#32
  let c0_763 : Index := 0#32
  ![v1025.toNat, 8, 0, 0]
def k0_off196 (k0_t10 : Fin k0_t10_loop.trips) (c0_i32_765 : BitVec 32) : Fin 4 → Nat :=
  let c8_i32_764 : BitVec 32 := 8#32
  let c0_i32_265 : BitVec 32 := 0#32
  let c1_i32_267 : BitVec 32 := 1#32
  let arg6 : BitVec 32 := Scf.iv c0_i32_265 c1_i32_267 k0_t10
  let v1034 : BitVec 32 := Scalar.muli c8_i32_764 arg6
  let v1035 : BitVec 32 := Scalar.addi v1034 c0_i32_765
  let v1036 : Index := Scalar.indexCast v1035
  let c9_766 : Index := 9#32
  let c0_767 : Index := 0#32
  let c0_768 : Index := 0#32
  ![v1036.toNat, 9, 0, 0]
def k0_off197 (k0_t10 : Fin k0_t10_loop.trips) (c0_i32_770 : BitVec 32) : Fin 4 → Nat :=
  let c8_i32_769 : BitVec 32 := 8#32
  let c0_i32_265 : BitVec 32 := 0#32
  let c1_i32_267 : BitVec 32 := 1#32
  let arg6 : BitVec 32 := Scf.iv c0_i32_265 c1_i32_267 k0_t10
  let v1045 : BitVec 32 := Scalar.muli c8_i32_769 arg6
  let v1046 : BitVec 32 := Scalar.addi v1045 c0_i32_770
  let v1047 : Index := Scalar.indexCast v1046
  let c10_771 : Index := 10#32
  let c0_772 : Index := 0#32
  let c0_773 : Index := 0#32
  ![v1047.toNat, 10, 0, 0]
def k0_off198 (k0_t10 : Fin k0_t10_loop.trips) (c0_i32_775 : BitVec 32) : Fin 4 → Nat :=
  let c8_i32_774 : BitVec 32 := 8#32
  let c0_i32_265 : BitVec 32 := 0#32
  let c1_i32_267 : BitVec 32 := 1#32
  let arg6 : BitVec 32 := Scf.iv c0_i32_265 c1_i32_267 k0_t10
  let v1056 : BitVec 32 := Scalar.muli c8_i32_774 arg6
  let v1057 : BitVec 32 := Scalar.addi v1056 c0_i32_775
  let v1058 : Index := Scalar.indexCast v1057
  let c11_776 : Index := 11#32
  let c0_777 : Index := 0#32
  let c0_778 : Index := 0#32
  ![v1058.toNat, 11, 0, 0]
def k0_off199 (k0_t10 : Fin k0_t10_loop.trips) (c0_i32_780 : BitVec 32) : Fin 4 → Nat :=
  let c8_i32_779 : BitVec 32 := 8#32
  let c0_i32_265 : BitVec 32 := 0#32
  let c1_i32_267 : BitVec 32 := 1#32
  let arg6 : BitVec 32 := Scf.iv c0_i32_265 c1_i32_267 k0_t10
  let v1067 : BitVec 32 := Scalar.muli c8_i32_779 arg6
  let v1068 : BitVec 32 := Scalar.addi v1067 c0_i32_780
  let v1069 : Index := Scalar.indexCast v1068
  let c12_781 : Index := 12#32
  let c0_782 : Index := 0#32
  let c0_783 : Index := 0#32
  ![v1069.toNat, 12, 0, 0]
def k0_off200 (k0_t10 : Fin k0_t10_loop.trips) (c0_i32_785 : BitVec 32) : Fin 4 → Nat :=
  let c8_i32_784 : BitVec 32 := 8#32
  let c0_i32_265 : BitVec 32 := 0#32
  let c1_i32_267 : BitVec 32 := 1#32
  let arg6 : BitVec 32 := Scf.iv c0_i32_265 c1_i32_267 k0_t10
  let v1078 : BitVec 32 := Scalar.muli c8_i32_784 arg6
  let v1079 : BitVec 32 := Scalar.addi v1078 c0_i32_785
  let v1080 : Index := Scalar.indexCast v1079
  let c13_786 : Index := 13#32
  let c0_787 : Index := 0#32
  let c0_788 : Index := 0#32
  ![v1080.toNat, 13, 0, 0]
def k0_off201 (k0_t10 : Fin k0_t10_loop.trips) (c0_i32_790 : BitVec 32) : Fin 4 → Nat :=
  let c8_i32_789 : BitVec 32 := 8#32
  let c0_i32_265 : BitVec 32 := 0#32
  let c1_i32_267 : BitVec 32 := 1#32
  let arg6 : BitVec 32 := Scf.iv c0_i32_265 c1_i32_267 k0_t10
  let v1089 : BitVec 32 := Scalar.muli c8_i32_789 arg6
  let v1090 : BitVec 32 := Scalar.addi v1089 c0_i32_790
  let v1091 : Index := Scalar.indexCast v1090
  let c14_791 : Index := 14#32
  let c0_792 : Index := 0#32
  let c0_793 : Index := 0#32
  ![v1091.toNat, 14, 0, 0]
def k0_off202 (k0_t10 : Fin k0_t10_loop.trips) (c0_i32_795 : BitVec 32) : Fin 4 → Nat :=
  let c8_i32_794 : BitVec 32 := 8#32
  let c0_i32_265 : BitVec 32 := 0#32
  let c1_i32_267 : BitVec 32 := 1#32
  let arg6 : BitVec 32 := Scf.iv c0_i32_265 c1_i32_267 k0_t10
  let v1100 : BitVec 32 := Scalar.muli c8_i32_794 arg6
  let v1101 : BitVec 32 := Scalar.addi v1100 c0_i32_795
  let v1102 : Index := Scalar.indexCast v1101
  let c15_796 : Index := 15#32
  let c0_797 : Index := 0#32
  let c0_798 : Index := 0#32
  ![v1102.toNat, 15, 0, 0]
@[reducible] def k0_t11_loop : Scf.Loop 32 :=
  let c0_i32_296 : BitVec 32 := 0#32
  let c4_i32_297 : BitVec 32 := 4#32
  let v333 : BitVec 32 := Scalar.addi c0_i32_296 c4_i32_297
  let c1_i32_298 : BitVec 32 := 1#32
  ⟨c0_i32_296, v333, c1_i32_298⟩
def k0_off203 (k0_t11 : Fin k0_t11_loop.trips) (c0_i32_679 : BitVec 32) : Fin 3 → Nat :=
  let c8_i32 : BitVec 32 := 8#32
  let c0_i32_296 : BitVec 32 := 0#32
  let c1_i32_298 : BitVec 32 := 1#32
  let arg6 : BitVec 32 := Scf.iv c0_i32_296 c1_i32_298 k0_t11
  let v871 : BitVec 32 := Scalar.muli c8_i32 arg6
  let c8_i32_678 : BitVec 32 := 8#32
  let v872 : BitVec 32 := Scalar.addi v871 c8_i32_678
  let v873 : BitVec 32 := Scalar.addi v872 c0_i32_679
  let c31_i32 : BitVec 32 := 31#32
  let v874 : BitVec 32 := Scalar.minsi v873 c31_i32
  let v875 : Index := Scalar.indexCast v874
  let c0_680 : Index := 0#32
  let c576_681 : Index := 576#32
  ![v875.toNat, 0, 576]
def k0_off204 (k0_t11 : Fin k0_t11_loop.trips) (c0_i32_720 : BitVec 32) : Fin 4 → Nat :=
  let c8_i32_719 : BitVec 32 := 8#32
  let c0_i32_296 : BitVec 32 := 0#32
  let c1_i32_298 : BitVec 32 := 1#32
  let arg6 : BitVec 32 := Scf.iv c0_i32_296 c1_i32_298 k0_t11
  let v935 : BitVec 32 := Scalar.muli c8_i32_719 arg6
  let v936 : BitVec 32 := Scalar.addi v935 c0_i32_720
  let v937 : Index := Scalar.indexCast v936
  let c0_721 : Index := 0#32
  let c0_722 : Index := 0#32
  let c0_723 : Index := 0#32
  ![v937.toNat, 0, 0, 0]
def k0_off205 (k0_t11 : Fin k0_t11_loop.trips) (c0_i32_725 : BitVec 32) : Fin 4 → Nat :=
  let c8_i32_724 : BitVec 32 := 8#32
  let c0_i32_296 : BitVec 32 := 0#32
  let c1_i32_298 : BitVec 32 := 1#32
  let arg6 : BitVec 32 := Scf.iv c0_i32_296 c1_i32_298 k0_t11
  let v946 : BitVec 32 := Scalar.muli c8_i32_724 arg6
  let v947 : BitVec 32 := Scalar.addi v946 c0_i32_725
  let v948 : Index := Scalar.indexCast v947
  let c1_726 : Index := 1#32
  let c0_727 : Index := 0#32
  let c0_728 : Index := 0#32
  ![v948.toNat, 1, 0, 0]
def k0_off206 (k0_t11 : Fin k0_t11_loop.trips) (c0_i32_730 : BitVec 32) : Fin 4 → Nat :=
  let c8_i32_729 : BitVec 32 := 8#32
  let c0_i32_296 : BitVec 32 := 0#32
  let c1_i32_298 : BitVec 32 := 1#32
  let arg6 : BitVec 32 := Scf.iv c0_i32_296 c1_i32_298 k0_t11
  let v957 : BitVec 32 := Scalar.muli c8_i32_729 arg6
  let v958 : BitVec 32 := Scalar.addi v957 c0_i32_730
  let v959 : Index := Scalar.indexCast v958
  let c2_731 : Index := 2#32
  let c0_732 : Index := 0#32
  let c0_733 : Index := 0#32
  ![v959.toNat, 2, 0, 0]
def k0_off207 (k0_t11 : Fin k0_t11_loop.trips) (c0_i32_735 : BitVec 32) : Fin 4 → Nat :=
  let c8_i32_734 : BitVec 32 := 8#32
  let c0_i32_296 : BitVec 32 := 0#32
  let c1_i32_298 : BitVec 32 := 1#32
  let arg6 : BitVec 32 := Scf.iv c0_i32_296 c1_i32_298 k0_t11
  let v968 : BitVec 32 := Scalar.muli c8_i32_734 arg6
  let v969 : BitVec 32 := Scalar.addi v968 c0_i32_735
  let v970 : Index := Scalar.indexCast v969
  let c3_736 : Index := 3#32
  let c0_737 : Index := 0#32
  let c0_738 : Index := 0#32
  ![v970.toNat, 3, 0, 0]
def k0_off208 (k0_t11 : Fin k0_t11_loop.trips) (c0_i32_740 : BitVec 32) : Fin 4 → Nat :=
  let c8_i32_739 : BitVec 32 := 8#32
  let c0_i32_296 : BitVec 32 := 0#32
  let c1_i32_298 : BitVec 32 := 1#32
  let arg6 : BitVec 32 := Scf.iv c0_i32_296 c1_i32_298 k0_t11
  let v979 : BitVec 32 := Scalar.muli c8_i32_739 arg6
  let v980 : BitVec 32 := Scalar.addi v979 c0_i32_740
  let v981 : Index := Scalar.indexCast v980
  let c4_741 : Index := 4#32
  let c0_742 : Index := 0#32
  let c0_743 : Index := 0#32
  ![v981.toNat, 4, 0, 0]
def k0_off209 (k0_t11 : Fin k0_t11_loop.trips) (c0_i32_745 : BitVec 32) : Fin 4 → Nat :=
  let c8_i32_744 : BitVec 32 := 8#32
  let c0_i32_296 : BitVec 32 := 0#32
  let c1_i32_298 : BitVec 32 := 1#32
  let arg6 : BitVec 32 := Scf.iv c0_i32_296 c1_i32_298 k0_t11
  let v990 : BitVec 32 := Scalar.muli c8_i32_744 arg6
  let v991 : BitVec 32 := Scalar.addi v990 c0_i32_745
  let v992 : Index := Scalar.indexCast v991
  let c5_746 : Index := 5#32
  let c0_747 : Index := 0#32
  let c0_748 : Index := 0#32
  ![v992.toNat, 5, 0, 0]
def k0_off210 (k0_t11 : Fin k0_t11_loop.trips) (c0_i32_750 : BitVec 32) : Fin 4 → Nat :=
  let c8_i32_749 : BitVec 32 := 8#32
  let c0_i32_296 : BitVec 32 := 0#32
  let c1_i32_298 : BitVec 32 := 1#32
  let arg6 : BitVec 32 := Scf.iv c0_i32_296 c1_i32_298 k0_t11
  let v1001 : BitVec 32 := Scalar.muli c8_i32_749 arg6
  let v1002 : BitVec 32 := Scalar.addi v1001 c0_i32_750
  let v1003 : Index := Scalar.indexCast v1002
  let c6_751 : Index := 6#32
  let c0_752 : Index := 0#32
  let c0_753 : Index := 0#32
  ![v1003.toNat, 6, 0, 0]
def k0_off211 (k0_t11 : Fin k0_t11_loop.trips) (c0_i32_755 : BitVec 32) : Fin 4 → Nat :=
  let c8_i32_754 : BitVec 32 := 8#32
  let c0_i32_296 : BitVec 32 := 0#32
  let c1_i32_298 : BitVec 32 := 1#32
  let arg6 : BitVec 32 := Scf.iv c0_i32_296 c1_i32_298 k0_t11
  let v1012 : BitVec 32 := Scalar.muli c8_i32_754 arg6
  let v1013 : BitVec 32 := Scalar.addi v1012 c0_i32_755
  let v1014 : Index := Scalar.indexCast v1013
  let c7_756 : Index := 7#32
  let c0_757 : Index := 0#32
  let c0_758 : Index := 0#32
  ![v1014.toNat, 7, 0, 0]
def k0_off212 (k0_t11 : Fin k0_t11_loop.trips) (c0_i32_760 : BitVec 32) : Fin 4 → Nat :=
  let c8_i32_759 : BitVec 32 := 8#32
  let c0_i32_296 : BitVec 32 := 0#32
  let c1_i32_298 : BitVec 32 := 1#32
  let arg6 : BitVec 32 := Scf.iv c0_i32_296 c1_i32_298 k0_t11
  let v1023 : BitVec 32 := Scalar.muli c8_i32_759 arg6
  let v1024 : BitVec 32 := Scalar.addi v1023 c0_i32_760
  let v1025 : Index := Scalar.indexCast v1024
  let c8_761 : Index := 8#32
  let c0_762 : Index := 0#32
  let c0_763 : Index := 0#32
  ![v1025.toNat, 8, 0, 0]
def k0_off213 (k0_t11 : Fin k0_t11_loop.trips) (c0_i32_765 : BitVec 32) : Fin 4 → Nat :=
  let c8_i32_764 : BitVec 32 := 8#32
  let c0_i32_296 : BitVec 32 := 0#32
  let c1_i32_298 : BitVec 32 := 1#32
  let arg6 : BitVec 32 := Scf.iv c0_i32_296 c1_i32_298 k0_t11
  let v1034 : BitVec 32 := Scalar.muli c8_i32_764 arg6
  let v1035 : BitVec 32 := Scalar.addi v1034 c0_i32_765
  let v1036 : Index := Scalar.indexCast v1035
  let c9_766 : Index := 9#32
  let c0_767 : Index := 0#32
  let c0_768 : Index := 0#32
  ![v1036.toNat, 9, 0, 0]
def k0_off214 (k0_t11 : Fin k0_t11_loop.trips) (c0_i32_770 : BitVec 32) : Fin 4 → Nat :=
  let c8_i32_769 : BitVec 32 := 8#32
  let c0_i32_296 : BitVec 32 := 0#32
  let c1_i32_298 : BitVec 32 := 1#32
  let arg6 : BitVec 32 := Scf.iv c0_i32_296 c1_i32_298 k0_t11
  let v1045 : BitVec 32 := Scalar.muli c8_i32_769 arg6
  let v1046 : BitVec 32 := Scalar.addi v1045 c0_i32_770
  let v1047 : Index := Scalar.indexCast v1046
  let c10_771 : Index := 10#32
  let c0_772 : Index := 0#32
  let c0_773 : Index := 0#32
  ![v1047.toNat, 10, 0, 0]
def k0_off215 (k0_t11 : Fin k0_t11_loop.trips) (c0_i32_775 : BitVec 32) : Fin 4 → Nat :=
  let c8_i32_774 : BitVec 32 := 8#32
  let c0_i32_296 : BitVec 32 := 0#32
  let c1_i32_298 : BitVec 32 := 1#32
  let arg6 : BitVec 32 := Scf.iv c0_i32_296 c1_i32_298 k0_t11
  let v1056 : BitVec 32 := Scalar.muli c8_i32_774 arg6
  let v1057 : BitVec 32 := Scalar.addi v1056 c0_i32_775
  let v1058 : Index := Scalar.indexCast v1057
  let c11_776 : Index := 11#32
  let c0_777 : Index := 0#32
  let c0_778 : Index := 0#32
  ![v1058.toNat, 11, 0, 0]
def k0_off216 (k0_t11 : Fin k0_t11_loop.trips) (c0_i32_780 : BitVec 32) : Fin 4 → Nat :=
  let c8_i32_779 : BitVec 32 := 8#32
  let c0_i32_296 : BitVec 32 := 0#32
  let c1_i32_298 : BitVec 32 := 1#32
  let arg6 : BitVec 32 := Scf.iv c0_i32_296 c1_i32_298 k0_t11
  let v1067 : BitVec 32 := Scalar.muli c8_i32_779 arg6
  let v1068 : BitVec 32 := Scalar.addi v1067 c0_i32_780
  let v1069 : Index := Scalar.indexCast v1068
  let c12_781 : Index := 12#32
  let c0_782 : Index := 0#32
  let c0_783 : Index := 0#32
  ![v1069.toNat, 12, 0, 0]
def k0_off217 (k0_t11 : Fin k0_t11_loop.trips) (c0_i32_785 : BitVec 32) : Fin 4 → Nat :=
  let c8_i32_784 : BitVec 32 := 8#32
  let c0_i32_296 : BitVec 32 := 0#32
  let c1_i32_298 : BitVec 32 := 1#32
  let arg6 : BitVec 32 := Scf.iv c0_i32_296 c1_i32_298 k0_t11
  let v1078 : BitVec 32 := Scalar.muli c8_i32_784 arg6
  let v1079 : BitVec 32 := Scalar.addi v1078 c0_i32_785
  let v1080 : Index := Scalar.indexCast v1079
  let c13_786 : Index := 13#32
  let c0_787 : Index := 0#32
  let c0_788 : Index := 0#32
  ![v1080.toNat, 13, 0, 0]
def k0_off218 (k0_t11 : Fin k0_t11_loop.trips) (c0_i32_790 : BitVec 32) : Fin 4 → Nat :=
  let c8_i32_789 : BitVec 32 := 8#32
  let c0_i32_296 : BitVec 32 := 0#32
  let c1_i32_298 : BitVec 32 := 1#32
  let arg6 : BitVec 32 := Scf.iv c0_i32_296 c1_i32_298 k0_t11
  let v1089 : BitVec 32 := Scalar.muli c8_i32_789 arg6
  let v1090 : BitVec 32 := Scalar.addi v1089 c0_i32_790
  let v1091 : Index := Scalar.indexCast v1090
  let c14_791 : Index := 14#32
  let c0_792 : Index := 0#32
  let c0_793 : Index := 0#32
  ![v1091.toNat, 14, 0, 0]
def k0_off219 (k0_t11 : Fin k0_t11_loop.trips) (c0_i32_795 : BitVec 32) : Fin 4 → Nat :=
  let c8_i32_794 : BitVec 32 := 8#32
  let c0_i32_296 : BitVec 32 := 0#32
  let c1_i32_298 : BitVec 32 := 1#32
  let arg6 : BitVec 32 := Scf.iv c0_i32_296 c1_i32_298 k0_t11
  let v1100 : BitVec 32 := Scalar.muli c8_i32_794 arg6
  let v1101 : BitVec 32 := Scalar.addi v1100 c0_i32_795
  let v1102 : Index := Scalar.indexCast v1101
  let c15_796 : Index := 15#32
  let c0_797 : Index := 0#32
  let c0_798 : Index := 0#32
  ![v1102.toNat, 15, 0, 0]
@[reducible] def k0_t12_loop : Scf.Loop 32 :=
  let c0_i32_327 : BitVec 32 := 0#32
  let c4_i32_328 : BitVec 32 := 4#32
  let v367 : BitVec 32 := Scalar.addi c0_i32_327 c4_i32_328
  let c1_i32_329 : BitVec 32 := 1#32
  ⟨c0_i32_327, v367, c1_i32_329⟩
def k0_off220 (k0_t12 : Fin k0_t12_loop.trips) (c0_i32_679 : BitVec 32) : Fin 3 → Nat :=
  let c8_i32 : BitVec 32 := 8#32
  let c0_i32_327 : BitVec 32 := 0#32
  let c1_i32_329 : BitVec 32 := 1#32
  let arg6 : BitVec 32 := Scf.iv c0_i32_327 c1_i32_329 k0_t12
  let v871 : BitVec 32 := Scalar.muli c8_i32 arg6
  let c8_i32_678 : BitVec 32 := 8#32
  let v872 : BitVec 32 := Scalar.addi v871 c8_i32_678
  let v873 : BitVec 32 := Scalar.addi v872 c0_i32_679
  let c31_i32 : BitVec 32 := 31#32
  let v874 : BitVec 32 := Scalar.minsi v873 c31_i32
  let v875 : Index := Scalar.indexCast v874
  let c0_680 : Index := 0#32
  let c640_681 : Index := 640#32
  ![v875.toNat, 0, 640]
def k0_off221 (k0_t12 : Fin k0_t12_loop.trips) (c0_i32_720 : BitVec 32) : Fin 4 → Nat :=
  let c8_i32_719 : BitVec 32 := 8#32
  let c0_i32_327 : BitVec 32 := 0#32
  let c1_i32_329 : BitVec 32 := 1#32
  let arg6 : BitVec 32 := Scf.iv c0_i32_327 c1_i32_329 k0_t12
  let v935 : BitVec 32 := Scalar.muli c8_i32_719 arg6
  let v936 : BitVec 32 := Scalar.addi v935 c0_i32_720
  let v937 : Index := Scalar.indexCast v936
  let c0_721 : Index := 0#32
  let c0_722 : Index := 0#32
  let c0_723 : Index := 0#32
  ![v937.toNat, 0, 0, 0]
def k0_off222 (k0_t12 : Fin k0_t12_loop.trips) (c0_i32_725 : BitVec 32) : Fin 4 → Nat :=
  let c8_i32_724 : BitVec 32 := 8#32
  let c0_i32_327 : BitVec 32 := 0#32
  let c1_i32_329 : BitVec 32 := 1#32
  let arg6 : BitVec 32 := Scf.iv c0_i32_327 c1_i32_329 k0_t12
  let v946 : BitVec 32 := Scalar.muli c8_i32_724 arg6
  let v947 : BitVec 32 := Scalar.addi v946 c0_i32_725
  let v948 : Index := Scalar.indexCast v947
  let c1_726 : Index := 1#32
  let c0_727 : Index := 0#32
  let c0_728 : Index := 0#32
  ![v948.toNat, 1, 0, 0]
def k0_off223 (k0_t12 : Fin k0_t12_loop.trips) (c0_i32_730 : BitVec 32) : Fin 4 → Nat :=
  let c8_i32_729 : BitVec 32 := 8#32
  let c0_i32_327 : BitVec 32 := 0#32
  let c1_i32_329 : BitVec 32 := 1#32
  let arg6 : BitVec 32 := Scf.iv c0_i32_327 c1_i32_329 k0_t12
  let v957 : BitVec 32 := Scalar.muli c8_i32_729 arg6
  let v958 : BitVec 32 := Scalar.addi v957 c0_i32_730
  let v959 : Index := Scalar.indexCast v958
  let c2_731 : Index := 2#32
  let c0_732 : Index := 0#32
  let c0_733 : Index := 0#32
  ![v959.toNat, 2, 0, 0]
def k0_off224 (k0_t12 : Fin k0_t12_loop.trips) (c0_i32_735 : BitVec 32) : Fin 4 → Nat :=
  let c8_i32_734 : BitVec 32 := 8#32
  let c0_i32_327 : BitVec 32 := 0#32
  let c1_i32_329 : BitVec 32 := 1#32
  let arg6 : BitVec 32 := Scf.iv c0_i32_327 c1_i32_329 k0_t12
  let v968 : BitVec 32 := Scalar.muli c8_i32_734 arg6
  let v969 : BitVec 32 := Scalar.addi v968 c0_i32_735
  let v970 : Index := Scalar.indexCast v969
  let c3_736 : Index := 3#32
  let c0_737 : Index := 0#32
  let c0_738 : Index := 0#32
  ![v970.toNat, 3, 0, 0]
def k0_off225 (k0_t12 : Fin k0_t12_loop.trips) (c0_i32_740 : BitVec 32) : Fin 4 → Nat :=
  let c8_i32_739 : BitVec 32 := 8#32
  let c0_i32_327 : BitVec 32 := 0#32
  let c1_i32_329 : BitVec 32 := 1#32
  let arg6 : BitVec 32 := Scf.iv c0_i32_327 c1_i32_329 k0_t12
  let v979 : BitVec 32 := Scalar.muli c8_i32_739 arg6
  let v980 : BitVec 32 := Scalar.addi v979 c0_i32_740
  let v981 : Index := Scalar.indexCast v980
  let c4_741 : Index := 4#32
  let c0_742 : Index := 0#32
  let c0_743 : Index := 0#32
  ![v981.toNat, 4, 0, 0]
def k0_off226 (k0_t12 : Fin k0_t12_loop.trips) (c0_i32_745 : BitVec 32) : Fin 4 → Nat :=
  let c8_i32_744 : BitVec 32 := 8#32
  let c0_i32_327 : BitVec 32 := 0#32
  let c1_i32_329 : BitVec 32 := 1#32
  let arg6 : BitVec 32 := Scf.iv c0_i32_327 c1_i32_329 k0_t12
  let v990 : BitVec 32 := Scalar.muli c8_i32_744 arg6
  let v991 : BitVec 32 := Scalar.addi v990 c0_i32_745
  let v992 : Index := Scalar.indexCast v991
  let c5_746 : Index := 5#32
  let c0_747 : Index := 0#32
  let c0_748 : Index := 0#32
  ![v992.toNat, 5, 0, 0]
def k0_off227 (k0_t12 : Fin k0_t12_loop.trips) (c0_i32_750 : BitVec 32) : Fin 4 → Nat :=
  let c8_i32_749 : BitVec 32 := 8#32
  let c0_i32_327 : BitVec 32 := 0#32
  let c1_i32_329 : BitVec 32 := 1#32
  let arg6 : BitVec 32 := Scf.iv c0_i32_327 c1_i32_329 k0_t12
  let v1001 : BitVec 32 := Scalar.muli c8_i32_749 arg6
  let v1002 : BitVec 32 := Scalar.addi v1001 c0_i32_750
  let v1003 : Index := Scalar.indexCast v1002
  let c6_751 : Index := 6#32
  let c0_752 : Index := 0#32
  let c0_753 : Index := 0#32
  ![v1003.toNat, 6, 0, 0]
def k0_off228 (k0_t12 : Fin k0_t12_loop.trips) (c0_i32_755 : BitVec 32) : Fin 4 → Nat :=
  let c8_i32_754 : BitVec 32 := 8#32
  let c0_i32_327 : BitVec 32 := 0#32
  let c1_i32_329 : BitVec 32 := 1#32
  let arg6 : BitVec 32 := Scf.iv c0_i32_327 c1_i32_329 k0_t12
  let v1012 : BitVec 32 := Scalar.muli c8_i32_754 arg6
  let v1013 : BitVec 32 := Scalar.addi v1012 c0_i32_755
  let v1014 : Index := Scalar.indexCast v1013
  let c7_756 : Index := 7#32
  let c0_757 : Index := 0#32
  let c0_758 : Index := 0#32
  ![v1014.toNat, 7, 0, 0]
def k0_off229 (k0_t12 : Fin k0_t12_loop.trips) (c0_i32_760 : BitVec 32) : Fin 4 → Nat :=
  let c8_i32_759 : BitVec 32 := 8#32
  let c0_i32_327 : BitVec 32 := 0#32
  let c1_i32_329 : BitVec 32 := 1#32
  let arg6 : BitVec 32 := Scf.iv c0_i32_327 c1_i32_329 k0_t12
  let v1023 : BitVec 32 := Scalar.muli c8_i32_759 arg6
  let v1024 : BitVec 32 := Scalar.addi v1023 c0_i32_760
  let v1025 : Index := Scalar.indexCast v1024
  let c8_761 : Index := 8#32
  let c0_762 : Index := 0#32
  let c0_763 : Index := 0#32
  ![v1025.toNat, 8, 0, 0]
def k0_off230 (k0_t12 : Fin k0_t12_loop.trips) (c0_i32_765 : BitVec 32) : Fin 4 → Nat :=
  let c8_i32_764 : BitVec 32 := 8#32
  let c0_i32_327 : BitVec 32 := 0#32
  let c1_i32_329 : BitVec 32 := 1#32
  let arg6 : BitVec 32 := Scf.iv c0_i32_327 c1_i32_329 k0_t12
  let v1034 : BitVec 32 := Scalar.muli c8_i32_764 arg6
  let v1035 : BitVec 32 := Scalar.addi v1034 c0_i32_765
  let v1036 : Index := Scalar.indexCast v1035
  let c9_766 : Index := 9#32
  let c0_767 : Index := 0#32
  let c0_768 : Index := 0#32
  ![v1036.toNat, 9, 0, 0]
def k0_off231 (k0_t12 : Fin k0_t12_loop.trips) (c0_i32_770 : BitVec 32) : Fin 4 → Nat :=
  let c8_i32_769 : BitVec 32 := 8#32
  let c0_i32_327 : BitVec 32 := 0#32
  let c1_i32_329 : BitVec 32 := 1#32
  let arg6 : BitVec 32 := Scf.iv c0_i32_327 c1_i32_329 k0_t12
  let v1045 : BitVec 32 := Scalar.muli c8_i32_769 arg6
  let v1046 : BitVec 32 := Scalar.addi v1045 c0_i32_770
  let v1047 : Index := Scalar.indexCast v1046
  let c10_771 : Index := 10#32
  let c0_772 : Index := 0#32
  let c0_773 : Index := 0#32
  ![v1047.toNat, 10, 0, 0]
def k0_off232 (k0_t12 : Fin k0_t12_loop.trips) (c0_i32_775 : BitVec 32) : Fin 4 → Nat :=
  let c8_i32_774 : BitVec 32 := 8#32
  let c0_i32_327 : BitVec 32 := 0#32
  let c1_i32_329 : BitVec 32 := 1#32
  let arg6 : BitVec 32 := Scf.iv c0_i32_327 c1_i32_329 k0_t12
  let v1056 : BitVec 32 := Scalar.muli c8_i32_774 arg6
  let v1057 : BitVec 32 := Scalar.addi v1056 c0_i32_775
  let v1058 : Index := Scalar.indexCast v1057
  let c11_776 : Index := 11#32
  let c0_777 : Index := 0#32
  let c0_778 : Index := 0#32
  ![v1058.toNat, 11, 0, 0]
def k0_off233 (k0_t12 : Fin k0_t12_loop.trips) (c0_i32_780 : BitVec 32) : Fin 4 → Nat :=
  let c8_i32_779 : BitVec 32 := 8#32
  let c0_i32_327 : BitVec 32 := 0#32
  let c1_i32_329 : BitVec 32 := 1#32
  let arg6 : BitVec 32 := Scf.iv c0_i32_327 c1_i32_329 k0_t12
  let v1067 : BitVec 32 := Scalar.muli c8_i32_779 arg6
  let v1068 : BitVec 32 := Scalar.addi v1067 c0_i32_780
  let v1069 : Index := Scalar.indexCast v1068
  let c12_781 : Index := 12#32
  let c0_782 : Index := 0#32
  let c0_783 : Index := 0#32
  ![v1069.toNat, 12, 0, 0]
def k0_off234 (k0_t12 : Fin k0_t12_loop.trips) (c0_i32_785 : BitVec 32) : Fin 4 → Nat :=
  let c8_i32_784 : BitVec 32 := 8#32
  let c0_i32_327 : BitVec 32 := 0#32
  let c1_i32_329 : BitVec 32 := 1#32
  let arg6 : BitVec 32 := Scf.iv c0_i32_327 c1_i32_329 k0_t12
  let v1078 : BitVec 32 := Scalar.muli c8_i32_784 arg6
  let v1079 : BitVec 32 := Scalar.addi v1078 c0_i32_785
  let v1080 : Index := Scalar.indexCast v1079
  let c13_786 : Index := 13#32
  let c0_787 : Index := 0#32
  let c0_788 : Index := 0#32
  ![v1080.toNat, 13, 0, 0]
def k0_off235 (k0_t12 : Fin k0_t12_loop.trips) (c0_i32_790 : BitVec 32) : Fin 4 → Nat :=
  let c8_i32_789 : BitVec 32 := 8#32
  let c0_i32_327 : BitVec 32 := 0#32
  let c1_i32_329 : BitVec 32 := 1#32
  let arg6 : BitVec 32 := Scf.iv c0_i32_327 c1_i32_329 k0_t12
  let v1089 : BitVec 32 := Scalar.muli c8_i32_789 arg6
  let v1090 : BitVec 32 := Scalar.addi v1089 c0_i32_790
  let v1091 : Index := Scalar.indexCast v1090
  let c14_791 : Index := 14#32
  let c0_792 : Index := 0#32
  let c0_793 : Index := 0#32
  ![v1091.toNat, 14, 0, 0]
def k0_off236 (k0_t12 : Fin k0_t12_loop.trips) (c0_i32_795 : BitVec 32) : Fin 4 → Nat :=
  let c8_i32_794 : BitVec 32 := 8#32
  let c0_i32_327 : BitVec 32 := 0#32
  let c1_i32_329 : BitVec 32 := 1#32
  let arg6 : BitVec 32 := Scf.iv c0_i32_327 c1_i32_329 k0_t12
  let v1100 : BitVec 32 := Scalar.muli c8_i32_794 arg6
  let v1101 : BitVec 32 := Scalar.addi v1100 c0_i32_795
  let v1102 : Index := Scalar.indexCast v1101
  let c15_796 : Index := 15#32
  let c0_797 : Index := 0#32
  let c0_798 : Index := 0#32
  ![v1102.toNat, 15, 0, 0]
@[reducible] def k0_t13_loop : Scf.Loop 32 :=
  let c0_i32_358 : BitVec 32 := 0#32
  let c4_i32_359 : BitVec 32 := 4#32
  let v401 : BitVec 32 := Scalar.addi c0_i32_358 c4_i32_359
  let c1_i32_360 : BitVec 32 := 1#32
  ⟨c0_i32_358, v401, c1_i32_360⟩
def k0_off237 (k0_t13 : Fin k0_t13_loop.trips) (c0_i32_679 : BitVec 32) : Fin 3 → Nat :=
  let c8_i32 : BitVec 32 := 8#32
  let c0_i32_358 : BitVec 32 := 0#32
  let c1_i32_360 : BitVec 32 := 1#32
  let arg6 : BitVec 32 := Scf.iv c0_i32_358 c1_i32_360 k0_t13
  let v871 : BitVec 32 := Scalar.muli c8_i32 arg6
  let c8_i32_678 : BitVec 32 := 8#32
  let v872 : BitVec 32 := Scalar.addi v871 c8_i32_678
  let v873 : BitVec 32 := Scalar.addi v872 c0_i32_679
  let c31_i32 : BitVec 32 := 31#32
  let v874 : BitVec 32 := Scalar.minsi v873 c31_i32
  let v875 : Index := Scalar.indexCast v874
  let c0_680 : Index := 0#32
  let c704_681 : Index := 704#32
  ![v875.toNat, 0, 704]
def k0_off238 (k0_t13 : Fin k0_t13_loop.trips) (c0_i32_720 : BitVec 32) : Fin 4 → Nat :=
  let c8_i32_719 : BitVec 32 := 8#32
  let c0_i32_358 : BitVec 32 := 0#32
  let c1_i32_360 : BitVec 32 := 1#32
  let arg6 : BitVec 32 := Scf.iv c0_i32_358 c1_i32_360 k0_t13
  let v935 : BitVec 32 := Scalar.muli c8_i32_719 arg6
  let v936 : BitVec 32 := Scalar.addi v935 c0_i32_720
  let v937 : Index := Scalar.indexCast v936
  let c0_721 : Index := 0#32
  let c0_722 : Index := 0#32
  let c0_723 : Index := 0#32
  ![v937.toNat, 0, 0, 0]
def k0_off239 (k0_t13 : Fin k0_t13_loop.trips) (c0_i32_725 : BitVec 32) : Fin 4 → Nat :=
  let c8_i32_724 : BitVec 32 := 8#32
  let c0_i32_358 : BitVec 32 := 0#32
  let c1_i32_360 : BitVec 32 := 1#32
  let arg6 : BitVec 32 := Scf.iv c0_i32_358 c1_i32_360 k0_t13
  let v946 : BitVec 32 := Scalar.muli c8_i32_724 arg6
  let v947 : BitVec 32 := Scalar.addi v946 c0_i32_725
  let v948 : Index := Scalar.indexCast v947
  let c1_726 : Index := 1#32
  let c0_727 : Index := 0#32
  let c0_728 : Index := 0#32
  ![v948.toNat, 1, 0, 0]
def k0_off240 (k0_t13 : Fin k0_t13_loop.trips) (c0_i32_730 : BitVec 32) : Fin 4 → Nat :=
  let c8_i32_729 : BitVec 32 := 8#32
  let c0_i32_358 : BitVec 32 := 0#32
  let c1_i32_360 : BitVec 32 := 1#32
  let arg6 : BitVec 32 := Scf.iv c0_i32_358 c1_i32_360 k0_t13
  let v957 : BitVec 32 := Scalar.muli c8_i32_729 arg6
  let v958 : BitVec 32 := Scalar.addi v957 c0_i32_730
  let v959 : Index := Scalar.indexCast v958
  let c2_731 : Index := 2#32
  let c0_732 : Index := 0#32
  let c0_733 : Index := 0#32
  ![v959.toNat, 2, 0, 0]
def k0_off241 (k0_t13 : Fin k0_t13_loop.trips) (c0_i32_735 : BitVec 32) : Fin 4 → Nat :=
  let c8_i32_734 : BitVec 32 := 8#32
  let c0_i32_358 : BitVec 32 := 0#32
  let c1_i32_360 : BitVec 32 := 1#32
  let arg6 : BitVec 32 := Scf.iv c0_i32_358 c1_i32_360 k0_t13
  let v968 : BitVec 32 := Scalar.muli c8_i32_734 arg6
  let v969 : BitVec 32 := Scalar.addi v968 c0_i32_735
  let v970 : Index := Scalar.indexCast v969
  let c3_736 : Index := 3#32
  let c0_737 : Index := 0#32
  let c0_738 : Index := 0#32
  ![v970.toNat, 3, 0, 0]
def k0_off242 (k0_t13 : Fin k0_t13_loop.trips) (c0_i32_740 : BitVec 32) : Fin 4 → Nat :=
  let c8_i32_739 : BitVec 32 := 8#32
  let c0_i32_358 : BitVec 32 := 0#32
  let c1_i32_360 : BitVec 32 := 1#32
  let arg6 : BitVec 32 := Scf.iv c0_i32_358 c1_i32_360 k0_t13
  let v979 : BitVec 32 := Scalar.muli c8_i32_739 arg6
  let v980 : BitVec 32 := Scalar.addi v979 c0_i32_740
  let v981 : Index := Scalar.indexCast v980
  let c4_741 : Index := 4#32
  let c0_742 : Index := 0#32
  let c0_743 : Index := 0#32
  ![v981.toNat, 4, 0, 0]
def k0_off243 (k0_t13 : Fin k0_t13_loop.trips) (c0_i32_745 : BitVec 32) : Fin 4 → Nat :=
  let c8_i32_744 : BitVec 32 := 8#32
  let c0_i32_358 : BitVec 32 := 0#32
  let c1_i32_360 : BitVec 32 := 1#32
  let arg6 : BitVec 32 := Scf.iv c0_i32_358 c1_i32_360 k0_t13
  let v990 : BitVec 32 := Scalar.muli c8_i32_744 arg6
  let v991 : BitVec 32 := Scalar.addi v990 c0_i32_745
  let v992 : Index := Scalar.indexCast v991
  let c5_746 : Index := 5#32
  let c0_747 : Index := 0#32
  let c0_748 : Index := 0#32
  ![v992.toNat, 5, 0, 0]
def k0_off244 (k0_t13 : Fin k0_t13_loop.trips) (c0_i32_750 : BitVec 32) : Fin 4 → Nat :=
  let c8_i32_749 : BitVec 32 := 8#32
  let c0_i32_358 : BitVec 32 := 0#32
  let c1_i32_360 : BitVec 32 := 1#32
  let arg6 : BitVec 32 := Scf.iv c0_i32_358 c1_i32_360 k0_t13
  let v1001 : BitVec 32 := Scalar.muli c8_i32_749 arg6
  let v1002 : BitVec 32 := Scalar.addi v1001 c0_i32_750
  let v1003 : Index := Scalar.indexCast v1002
  let c6_751 : Index := 6#32
  let c0_752 : Index := 0#32
  let c0_753 : Index := 0#32
  ![v1003.toNat, 6, 0, 0]
def k0_off245 (k0_t13 : Fin k0_t13_loop.trips) (c0_i32_755 : BitVec 32) : Fin 4 → Nat :=
  let c8_i32_754 : BitVec 32 := 8#32
  let c0_i32_358 : BitVec 32 := 0#32
  let c1_i32_360 : BitVec 32 := 1#32
  let arg6 : BitVec 32 := Scf.iv c0_i32_358 c1_i32_360 k0_t13
  let v1012 : BitVec 32 := Scalar.muli c8_i32_754 arg6
  let v1013 : BitVec 32 := Scalar.addi v1012 c0_i32_755
  let v1014 : Index := Scalar.indexCast v1013
  let c7_756 : Index := 7#32
  let c0_757 : Index := 0#32
  let c0_758 : Index := 0#32
  ![v1014.toNat, 7, 0, 0]
def k0_off246 (k0_t13 : Fin k0_t13_loop.trips) (c0_i32_760 : BitVec 32) : Fin 4 → Nat :=
  let c8_i32_759 : BitVec 32 := 8#32
  let c0_i32_358 : BitVec 32 := 0#32
  let c1_i32_360 : BitVec 32 := 1#32
  let arg6 : BitVec 32 := Scf.iv c0_i32_358 c1_i32_360 k0_t13
  let v1023 : BitVec 32 := Scalar.muli c8_i32_759 arg6
  let v1024 : BitVec 32 := Scalar.addi v1023 c0_i32_760
  let v1025 : Index := Scalar.indexCast v1024
  let c8_761 : Index := 8#32
  let c0_762 : Index := 0#32
  let c0_763 : Index := 0#32
  ![v1025.toNat, 8, 0, 0]
def k0_off247 (k0_t13 : Fin k0_t13_loop.trips) (c0_i32_765 : BitVec 32) : Fin 4 → Nat :=
  let c8_i32_764 : BitVec 32 := 8#32
  let c0_i32_358 : BitVec 32 := 0#32
  let c1_i32_360 : BitVec 32 := 1#32
  let arg6 : BitVec 32 := Scf.iv c0_i32_358 c1_i32_360 k0_t13
  let v1034 : BitVec 32 := Scalar.muli c8_i32_764 arg6
  let v1035 : BitVec 32 := Scalar.addi v1034 c0_i32_765
  let v1036 : Index := Scalar.indexCast v1035
  let c9_766 : Index := 9#32
  let c0_767 : Index := 0#32
  let c0_768 : Index := 0#32
  ![v1036.toNat, 9, 0, 0]
def k0_off248 (k0_t13 : Fin k0_t13_loop.trips) (c0_i32_770 : BitVec 32) : Fin 4 → Nat :=
  let c8_i32_769 : BitVec 32 := 8#32
  let c0_i32_358 : BitVec 32 := 0#32
  let c1_i32_360 : BitVec 32 := 1#32
  let arg6 : BitVec 32 := Scf.iv c0_i32_358 c1_i32_360 k0_t13
  let v1045 : BitVec 32 := Scalar.muli c8_i32_769 arg6
  let v1046 : BitVec 32 := Scalar.addi v1045 c0_i32_770
  let v1047 : Index := Scalar.indexCast v1046
  let c10_771 : Index := 10#32
  let c0_772 : Index := 0#32
  let c0_773 : Index := 0#32
  ![v1047.toNat, 10, 0, 0]
def k0_off249 (k0_t13 : Fin k0_t13_loop.trips) (c0_i32_775 : BitVec 32) : Fin 4 → Nat :=
  let c8_i32_774 : BitVec 32 := 8#32
  let c0_i32_358 : BitVec 32 := 0#32
  let c1_i32_360 : BitVec 32 := 1#32
  let arg6 : BitVec 32 := Scf.iv c0_i32_358 c1_i32_360 k0_t13
  let v1056 : BitVec 32 := Scalar.muli c8_i32_774 arg6
  let v1057 : BitVec 32 := Scalar.addi v1056 c0_i32_775
  let v1058 : Index := Scalar.indexCast v1057
  let c11_776 : Index := 11#32
  let c0_777 : Index := 0#32
  let c0_778 : Index := 0#32
  ![v1058.toNat, 11, 0, 0]
def k0_off250 (k0_t13 : Fin k0_t13_loop.trips) (c0_i32_780 : BitVec 32) : Fin 4 → Nat :=
  let c8_i32_779 : BitVec 32 := 8#32
  let c0_i32_358 : BitVec 32 := 0#32
  let c1_i32_360 : BitVec 32 := 1#32
  let arg6 : BitVec 32 := Scf.iv c0_i32_358 c1_i32_360 k0_t13
  let v1067 : BitVec 32 := Scalar.muli c8_i32_779 arg6
  let v1068 : BitVec 32 := Scalar.addi v1067 c0_i32_780
  let v1069 : Index := Scalar.indexCast v1068
  let c12_781 : Index := 12#32
  let c0_782 : Index := 0#32
  let c0_783 : Index := 0#32
  ![v1069.toNat, 12, 0, 0]
def k0_off251 (k0_t13 : Fin k0_t13_loop.trips) (c0_i32_785 : BitVec 32) : Fin 4 → Nat :=
  let c8_i32_784 : BitVec 32 := 8#32
  let c0_i32_358 : BitVec 32 := 0#32
  let c1_i32_360 : BitVec 32 := 1#32
  let arg6 : BitVec 32 := Scf.iv c0_i32_358 c1_i32_360 k0_t13
  let v1078 : BitVec 32 := Scalar.muli c8_i32_784 arg6
  let v1079 : BitVec 32 := Scalar.addi v1078 c0_i32_785
  let v1080 : Index := Scalar.indexCast v1079
  let c13_786 : Index := 13#32
  let c0_787 : Index := 0#32
  let c0_788 : Index := 0#32
  ![v1080.toNat, 13, 0, 0]
def k0_off252 (k0_t13 : Fin k0_t13_loop.trips) (c0_i32_790 : BitVec 32) : Fin 4 → Nat :=
  let c8_i32_789 : BitVec 32 := 8#32
  let c0_i32_358 : BitVec 32 := 0#32
  let c1_i32_360 : BitVec 32 := 1#32
  let arg6 : BitVec 32 := Scf.iv c0_i32_358 c1_i32_360 k0_t13
  let v1089 : BitVec 32 := Scalar.muli c8_i32_789 arg6
  let v1090 : BitVec 32 := Scalar.addi v1089 c0_i32_790
  let v1091 : Index := Scalar.indexCast v1090
  let c14_791 : Index := 14#32
  let c0_792 : Index := 0#32
  let c0_793 : Index := 0#32
  ![v1091.toNat, 14, 0, 0]
def k0_off253 (k0_t13 : Fin k0_t13_loop.trips) (c0_i32_795 : BitVec 32) : Fin 4 → Nat :=
  let c8_i32_794 : BitVec 32 := 8#32
  let c0_i32_358 : BitVec 32 := 0#32
  let c1_i32_360 : BitVec 32 := 1#32
  let arg6 : BitVec 32 := Scf.iv c0_i32_358 c1_i32_360 k0_t13
  let v1100 : BitVec 32 := Scalar.muli c8_i32_794 arg6
  let v1101 : BitVec 32 := Scalar.addi v1100 c0_i32_795
  let v1102 : Index := Scalar.indexCast v1101
  let c15_796 : Index := 15#32
  let c0_797 : Index := 0#32
  let c0_798 : Index := 0#32
  ![v1102.toNat, 15, 0, 0]
@[reducible] def k0_t14_loop : Scf.Loop 32 :=
  let c0_i32_389 : BitVec 32 := 0#32
  let c4_i32_390 : BitVec 32 := 4#32
  let v435 : BitVec 32 := Scalar.addi c0_i32_389 c4_i32_390
  let c1_i32_391 : BitVec 32 := 1#32
  ⟨c0_i32_389, v435, c1_i32_391⟩
def k0_off254 (k0_t14 : Fin k0_t14_loop.trips) (c0_i32_679 : BitVec 32) : Fin 3 → Nat :=
  let c8_i32 : BitVec 32 := 8#32
  let c0_i32_389 : BitVec 32 := 0#32
  let c1_i32_391 : BitVec 32 := 1#32
  let arg6 : BitVec 32 := Scf.iv c0_i32_389 c1_i32_391 k0_t14
  let v871 : BitVec 32 := Scalar.muli c8_i32 arg6
  let c8_i32_678 : BitVec 32 := 8#32
  let v872 : BitVec 32 := Scalar.addi v871 c8_i32_678
  let v873 : BitVec 32 := Scalar.addi v872 c0_i32_679
  let c31_i32 : BitVec 32 := 31#32
  let v874 : BitVec 32 := Scalar.minsi v873 c31_i32
  let v875 : Index := Scalar.indexCast v874
  let c0_680 : Index := 0#32
  let c768_681 : Index := 768#32
  ![v875.toNat, 0, 768]
def k0_off255 (k0_t14 : Fin k0_t14_loop.trips) (c0_i32_720 : BitVec 32) : Fin 4 → Nat :=
  let c8_i32_719 : BitVec 32 := 8#32
  let c0_i32_389 : BitVec 32 := 0#32
  let c1_i32_391 : BitVec 32 := 1#32
  let arg6 : BitVec 32 := Scf.iv c0_i32_389 c1_i32_391 k0_t14
  let v935 : BitVec 32 := Scalar.muli c8_i32_719 arg6
  let v936 : BitVec 32 := Scalar.addi v935 c0_i32_720
  let v937 : Index := Scalar.indexCast v936
  let c0_721 : Index := 0#32
  let c0_722 : Index := 0#32
  let c0_723 : Index := 0#32
  ![v937.toNat, 0, 0, 0]
def k0_off256 (k0_t14 : Fin k0_t14_loop.trips) (c0_i32_725 : BitVec 32) : Fin 4 → Nat :=
  let c8_i32_724 : BitVec 32 := 8#32
  let c0_i32_389 : BitVec 32 := 0#32
  let c1_i32_391 : BitVec 32 := 1#32
  let arg6 : BitVec 32 := Scf.iv c0_i32_389 c1_i32_391 k0_t14
  let v945 : BitVec 32 := Scalar.muli c8_i32_724 arg6
  let v946 : BitVec 32 := Scalar.addi v945 c0_i32_725
  let v947 : Index := Scalar.indexCast v946
  let c1_726 : Index := 1#32
  let c0_727 : Index := 0#32
  let c0_728 : Index := 0#32
  ![v947.toNat, 1, 0, 0]
def k0_off257 (k0_t14 : Fin k0_t14_loop.trips) (c0_i32_730 : BitVec 32) : Fin 4 → Nat :=
  let c8_i32_729 : BitVec 32 := 8#32
  let c0_i32_389 : BitVec 32 := 0#32
  let c1_i32_391 : BitVec 32 := 1#32
  let arg6 : BitVec 32 := Scf.iv c0_i32_389 c1_i32_391 k0_t14
  let v955 : BitVec 32 := Scalar.muli c8_i32_729 arg6
  let v956 : BitVec 32 := Scalar.addi v955 c0_i32_730
  let v957 : Index := Scalar.indexCast v956
  let c2_731 : Index := 2#32
  let c0_732 : Index := 0#32
  let c0_733 : Index := 0#32
  ![v957.toNat, 2, 0, 0]
def k0_off258 (k0_t14 : Fin k0_t14_loop.trips) (c0_i32_735 : BitVec 32) : Fin 4 → Nat :=
  let c8_i32_734 : BitVec 32 := 8#32
  let c0_i32_389 : BitVec 32 := 0#32
  let c1_i32_391 : BitVec 32 := 1#32
  let arg6 : BitVec 32 := Scf.iv c0_i32_389 c1_i32_391 k0_t14
  let v965 : BitVec 32 := Scalar.muli c8_i32_734 arg6
  let v966 : BitVec 32 := Scalar.addi v965 c0_i32_735
  let v967 : Index := Scalar.indexCast v966
  let c3_736 : Index := 3#32
  let c0_737 : Index := 0#32
  let c0_738 : Index := 0#32
  ![v967.toNat, 3, 0, 0]
def k0_off259 (k0_t14 : Fin k0_t14_loop.trips) (c0_i32_740 : BitVec 32) : Fin 4 → Nat :=
  let c8_i32_739 : BitVec 32 := 8#32
  let c0_i32_389 : BitVec 32 := 0#32
  let c1_i32_391 : BitVec 32 := 1#32
  let arg6 : BitVec 32 := Scf.iv c0_i32_389 c1_i32_391 k0_t14
  let v975 : BitVec 32 := Scalar.muli c8_i32_739 arg6
  let v976 : BitVec 32 := Scalar.addi v975 c0_i32_740
  let v977 : Index := Scalar.indexCast v976
  let c4_741 : Index := 4#32
  let c0_742 : Index := 0#32
  let c0_743 : Index := 0#32
  ![v977.toNat, 4, 0, 0]
def k0_off260 (k0_t14 : Fin k0_t14_loop.trips) (c0_i32_745 : BitVec 32) : Fin 4 → Nat :=
  let c8_i32_744 : BitVec 32 := 8#32
  let c0_i32_389 : BitVec 32 := 0#32
  let c1_i32_391 : BitVec 32 := 1#32
  let arg6 : BitVec 32 := Scf.iv c0_i32_389 c1_i32_391 k0_t14
  let v985 : BitVec 32 := Scalar.muli c8_i32_744 arg6
  let v986 : BitVec 32 := Scalar.addi v985 c0_i32_745
  let v987 : Index := Scalar.indexCast v986
  let c5_746 : Index := 5#32
  let c0_747 : Index := 0#32
  let c0_748 : Index := 0#32
  ![v987.toNat, 5, 0, 0]
def k0_off261 (k0_t14 : Fin k0_t14_loop.trips) (c0_i32_750 : BitVec 32) : Fin 4 → Nat :=
  let c8_i32_749 : BitVec 32 := 8#32
  let c0_i32_389 : BitVec 32 := 0#32
  let c1_i32_391 : BitVec 32 := 1#32
  let arg6 : BitVec 32 := Scf.iv c0_i32_389 c1_i32_391 k0_t14
  let v995 : BitVec 32 := Scalar.muli c8_i32_749 arg6
  let v996 : BitVec 32 := Scalar.addi v995 c0_i32_750
  let v997 : Index := Scalar.indexCast v996
  let c6_751 : Index := 6#32
  let c0_752 : Index := 0#32
  let c0_753 : Index := 0#32
  ![v997.toNat, 6, 0, 0]
def k0_off262 (k0_t14 : Fin k0_t14_loop.trips) (c0_i32_755 : BitVec 32) : Fin 4 → Nat :=
  let c8_i32_754 : BitVec 32 := 8#32
  let c0_i32_389 : BitVec 32 := 0#32
  let c1_i32_391 : BitVec 32 := 1#32
  let arg6 : BitVec 32 := Scf.iv c0_i32_389 c1_i32_391 k0_t14
  let v1005 : BitVec 32 := Scalar.muli c8_i32_754 arg6
  let v1006 : BitVec 32 := Scalar.addi v1005 c0_i32_755
  let v1007 : Index := Scalar.indexCast v1006
  let c7_756 : Index := 7#32
  let c0_757 : Index := 0#32
  let c0_758 : Index := 0#32
  ![v1007.toNat, 7, 0, 0]
def k0_off263 (k0_t14 : Fin k0_t14_loop.trips) (c0_i32_760 : BitVec 32) : Fin 4 → Nat :=
  let c8_i32_759 : BitVec 32 := 8#32
  let c0_i32_389 : BitVec 32 := 0#32
  let c1_i32_391 : BitVec 32 := 1#32
  let arg6 : BitVec 32 := Scf.iv c0_i32_389 c1_i32_391 k0_t14
  let v1015 : BitVec 32 := Scalar.muli c8_i32_759 arg6
  let v1016 : BitVec 32 := Scalar.addi v1015 c0_i32_760
  let v1017 : Index := Scalar.indexCast v1016
  let c8_761 : Index := 8#32
  let c0_762 : Index := 0#32
  let c0_763 : Index := 0#32
  ![v1017.toNat, 8, 0, 0]
def k0_off264 (k0_t14 : Fin k0_t14_loop.trips) (c0_i32_765 : BitVec 32) : Fin 4 → Nat :=
  let c8_i32_764 : BitVec 32 := 8#32
  let c0_i32_389 : BitVec 32 := 0#32
  let c1_i32_391 : BitVec 32 := 1#32
  let arg6 : BitVec 32 := Scf.iv c0_i32_389 c1_i32_391 k0_t14
  let v1025 : BitVec 32 := Scalar.muli c8_i32_764 arg6
  let v1026 : BitVec 32 := Scalar.addi v1025 c0_i32_765
  let v1027 : Index := Scalar.indexCast v1026
  let c9_766 : Index := 9#32
  let c0_767 : Index := 0#32
  let c0_768 : Index := 0#32
  ![v1027.toNat, 9, 0, 0]
def k0_off265 (k0_t14 : Fin k0_t14_loop.trips) (c0_i32_770 : BitVec 32) : Fin 4 → Nat :=
  let c8_i32_769 : BitVec 32 := 8#32
  let c0_i32_389 : BitVec 32 := 0#32
  let c1_i32_391 : BitVec 32 := 1#32
  let arg6 : BitVec 32 := Scf.iv c0_i32_389 c1_i32_391 k0_t14
  let v1035 : BitVec 32 := Scalar.muli c8_i32_769 arg6
  let v1036 : BitVec 32 := Scalar.addi v1035 c0_i32_770
  let v1037 : Index := Scalar.indexCast v1036
  let c10_771 : Index := 10#32
  let c0_772 : Index := 0#32
  let c0_773 : Index := 0#32
  ![v1037.toNat, 10, 0, 0]
def k0_off266 (k0_t14 : Fin k0_t14_loop.trips) (c0_i32_775 : BitVec 32) : Fin 4 → Nat :=
  let c8_i32_774 : BitVec 32 := 8#32
  let c0_i32_389 : BitVec 32 := 0#32
  let c1_i32_391 : BitVec 32 := 1#32
  let arg6 : BitVec 32 := Scf.iv c0_i32_389 c1_i32_391 k0_t14
  let v1045 : BitVec 32 := Scalar.muli c8_i32_774 arg6
  let v1046 : BitVec 32 := Scalar.addi v1045 c0_i32_775
  let v1047 : Index := Scalar.indexCast v1046
  let c11_776 : Index := 11#32
  let c0_777 : Index := 0#32
  let c0_778 : Index := 0#32
  ![v1047.toNat, 11, 0, 0]
def k0_off267 (k0_t14 : Fin k0_t14_loop.trips) (c0_i32_780 : BitVec 32) : Fin 4 → Nat :=
  let c8_i32_779 : BitVec 32 := 8#32
  let c0_i32_389 : BitVec 32 := 0#32
  let c1_i32_391 : BitVec 32 := 1#32
  let arg6 : BitVec 32 := Scf.iv c0_i32_389 c1_i32_391 k0_t14
  let v1055 : BitVec 32 := Scalar.muli c8_i32_779 arg6
  let v1056 : BitVec 32 := Scalar.addi v1055 c0_i32_780
  let v1057 : Index := Scalar.indexCast v1056
  let c12_781 : Index := 12#32
  let c0_782 : Index := 0#32
  let c0_783 : Index := 0#32
  ![v1057.toNat, 12, 0, 0]
def k0_off268 (k0_t14 : Fin k0_t14_loop.trips) (c0_i32_785 : BitVec 32) : Fin 4 → Nat :=
  let c8_i32_784 : BitVec 32 := 8#32
  let c0_i32_389 : BitVec 32 := 0#32
  let c1_i32_391 : BitVec 32 := 1#32
  let arg6 : BitVec 32 := Scf.iv c0_i32_389 c1_i32_391 k0_t14
  let v1065 : BitVec 32 := Scalar.muli c8_i32_784 arg6
  let v1066 : BitVec 32 := Scalar.addi v1065 c0_i32_785
  let v1067 : Index := Scalar.indexCast v1066
  let c13_786 : Index := 13#32
  let c0_787 : Index := 0#32
  let c0_788 : Index := 0#32
  ![v1067.toNat, 13, 0, 0]
def k0_off269 (k0_t14 : Fin k0_t14_loop.trips) (c0_i32_790 : BitVec 32) : Fin 4 → Nat :=
  let c8_i32_789 : BitVec 32 := 8#32
  let c0_i32_389 : BitVec 32 := 0#32
  let c1_i32_391 : BitVec 32 := 1#32
  let arg6 : BitVec 32 := Scf.iv c0_i32_389 c1_i32_391 k0_t14
  let v1075 : BitVec 32 := Scalar.muli c8_i32_789 arg6
  let v1076 : BitVec 32 := Scalar.addi v1075 c0_i32_790
  let v1077 : Index := Scalar.indexCast v1076
  let c14_791 : Index := 14#32
  let c0_792 : Index := 0#32
  let c0_793 : Index := 0#32
  ![v1077.toNat, 14, 0, 0]
def k0_off270 (k0_t14 : Fin k0_t14_loop.trips) (c0_i32_795 : BitVec 32) : Fin 4 → Nat :=
  let c8_i32_794 : BitVec 32 := 8#32
  let c0_i32_389 : BitVec 32 := 0#32
  let c1_i32_391 : BitVec 32 := 1#32
  let arg6 : BitVec 32 := Scf.iv c0_i32_389 c1_i32_391 k0_t14
  let v1085 : BitVec 32 := Scalar.muli c8_i32_794 arg6
  let v1086 : BitVec 32 := Scalar.addi v1085 c0_i32_795
  let v1087 : Index := Scalar.indexCast v1086
  let c15_796 : Index := 15#32
  let c0_797 : Index := 0#32
  let c0_798 : Index := 0#32
  ![v1087.toNat, 15, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x28x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "inv_p" => some ((784⁻¹ : ℝ) : EReal)
  | _ => none
-- ==== ReferenceIdeal.lean ====
abbrev S16x512x28x28 : Shape := ⟨4, ![16, 512, 28, 28]⟩
abbrev S16x512x784 : Shape := ⟨3, ![16, 512, 784]⟩
abbrev S16x784x512 : Shape := ⟨3, ![16, 784, 512]⟩
abbrev S16x784x1x512 : Shape := ⟨4, ![16, 784, 1, 512]⟩
abbrev S16x1x784x512 : Shape := ⟨4, ![16, 1, 784, 512]⟩
abbrev S16x784x784x512 : Shape := ⟨4, ![16, 784, 784, 512]⟩
abbrev S_ : Shape := ⟨0, ![]⟩
abbrev S16x784x784 : Shape := ⟨3, ![16, 784, 784]⟩
abbrev S16x784 : Shape := ⟨2, ![16, 784]⟩
abbrev S16x784x1 : Shape := ⟨3, ![16, 784, 1]⟩
abbrev S16x28x28 : Shape := ⟨3, ![16, 28, 28]⟩

abbrev nBuf : Space → Nat
  | .hbm => 29
  | .vmem => 0
  | .smem => 0
  | _ => 0

abbrev bufTy : (tb : Table) → Fin (tcTables nBuf tb) → BufTy
  | .hbm, ⟨0, _⟩ => ⟨S16x512x28x28, .f32⟩
  | .hbm, ⟨1, _⟩ => ⟨S16x512x784, .f32⟩
  | .hbm, ⟨2, _⟩ => ⟨S16x784x512, .f32⟩
  | .hbm, ⟨3, _⟩ => ⟨S16x784x1x512, .f32⟩
  | .hbm, ⟨4, _⟩ => ⟨S16x1x784x512, .f32⟩
  | .hbm, ⟨5, _⟩ => ⟨S16x784x784x512, .f32⟩
  | .hbm, ⟨6, _⟩ => ⟨S16x784x784x512, .f32⟩
  | .hbm, ⟨7, _⟩ => ⟨S16x784x784x512, .f32⟩
  | .hbm, ⟨8, _⟩ => ⟨S16x784x784x512, .f32⟩
  | .hbm, ⟨9, _⟩ => ⟨S_, .f32⟩
  | .hbm, ⟨10, _⟩ => ⟨S16x784x784, .f32⟩
  | .hbm, ⟨11, _⟩ => ⟨S_, .f32⟩
  | .hbm, ⟨12, _⟩ => ⟨S16x784, .f32⟩
  | .hbm, ⟨13, _⟩ => ⟨S16x784x1, .f32⟩
  | .hbm, ⟨14, _⟩ => ⟨S_, .f32⟩
  | .hbm, ⟨15, _⟩ => ⟨S16x784x1, .f32⟩
  | .hbm, ⟨16, _⟩ => ⟨S16x784x1, .f32⟩
  | .hbm, ⟨17, _⟩ => ⟨S16x784x784, .f32⟩
  | .hbm, ⟨18, _⟩ => ⟨S16x784x784, .f32⟩
  | .hbm, ⟨19, _⟩ => ⟨S16x784x784, .f32⟩
  | .hbm, ⟨20, _⟩ => ⟨S16x784x784, .f32⟩
  | .hbm, ⟨21, _⟩ => ⟨S16x784x784, .f32⟩
  | .hbm, ⟨22, _⟩ => ⟨S16x784x784, .f32⟩
  | .hbm, ⟨23, _⟩ => ⟨S_, .f32⟩
  | .hbm, ⟨24, _⟩ => ⟨S16x784, .f32⟩
  | .hbm, ⟨25, _⟩ => ⟨S_, .f32⟩
  | .hbm, ⟨26, _⟩ => ⟨S16x784, .f32⟩
  | .hbm, ⟨27, _⟩ => ⟨S16x784, .f32⟩
  | .hbm, ⟨28, _⟩ => ⟨S16x28x28, .f32⟩
  | _, _ => ⟨S16x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.KernelConvert.lean ====
/- The kernel's first loop (the one that copies the input block, row by row, into the two bfloat16 scratch buffers),
   for the memory-safety claim: its invariant says only which buffers are held, not what they contain. -/
module

public import proofs.«01_k».proof.Proof.Gen.Kernel.Skeleton
public import Idealize.ShloMosaic.Lib.Exec
public import Idealize.ShloMosaic.Lib.Tactic
public import Idealize.ShloMosaic.Lib.Pipeline.Kit

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The kernel declares no loop or call variants. -/
abbrev 𝒱₀ : Variants := Variants.none

variable (c : Dev nD) (i : grid0.Coords) (arg1 : Memref sig .tc .vmem S1x512x28x28 .f32) (harg1 : arg1.IsWhole)
  (arg2 : Memref sig .tc .vmem S1x28x28 .f32) (harg2 : arg2.IsWhole) (arg3 : Memref sig .tc .vmem S784x784 .f32) (harg3 : arg3.IsWhole)
  (arg4 : Memref sig .tc .vmem S32x16x784 .bf16) (harg4 : arg4.IsWhole) (arg5 : Memref sig .tc .vmem S32x16x16x784 .bf16) (harg5 : arg5.IsWhole)

local notation "𝕄" => MT nD τ sig Unit (Elt F) ℕ (UR sig nD τ) ℕ

/-- What the copying loop holds before every trip: the input block at its contents, the two scratch buffers at some. -/
abbrev convRes (X1 : BufTy.Contents (Elt F) arg1.view.ty) : sProp 𝕄 :=
  iprop((arg1.view.loc (c : Thread nD τ) ↦[arg1.view.set]{fullShare} X1)
    ∗ (∃ f4, arg4.view.loc (c : Thread nD τ) ↦[arg4.view.set]{fullShare} f4)
    ∗ (∃ f5, arg5.view.loc (c : Thread nD τ) ↦[arg5.view.set]{fullShare} f5))

set_option warn.classDefReducibility false in
/-- The copying loop keeps its resources from trip to trip. -/
@[sl_loop] def convInv (X1 : BufTy.Contents (Elt F) arg1.view.ty) :
    Idealize.ShloMosaic.LoopInv (M := MT nD τ sig Unit (Elt F) ℕ (UR sig nD τ) ℕ) Idealize.ShloMosaic.frame (wpE defs₀ 𝒱₀ (c : Thread nD τ) none) Set.univ
    k0_t1_loop.lb k0_t1_loop.ub k0_t1_loop.st k0_t1_ok () (k0_t1_body (F := F) i arg1 harg1 arg2 harg2 arg3 harg3 arg4 harg4 arg5 harg5) where
  inv _ _ := convRes c arg1 arg4 arg5 X1
  step k _ := by
    have hk : k.val < 32 := Nat.lt_of_lt_of_le k.isLt k0_t1_abs.2.1
    unfold convRes k0_t1_body
    iintro ⟨H1, ⟨%f4, H4⟩, ⟨%f5, H5⟩⟩
    sl_exec
    sl_step
    sl_close

end Cert.Proof.Kernel

end
-- ==== Proof.KernelBody.lean ====
/- The kernel's body for the memory-safety claim: it runs from the input block and four buffers of any contents, and
   hands the block back as it was and the four buffers at some contents. -/
module

public import proofs.«01_k».proof.Proof.KernelConvert
public import proofs.«01_k».proof.Proof.Gen.Kernel.Loops

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg1 : Memref sig .tc .vmem S1x512x28x28 .f32) (harg1 : arg1.IsWhole)
  (arg2 : Memref sig .tc .vmem S1x28x28 .f32) (harg2 : arg2.IsWhole) (arg3 : Memref sig .tc .vmem S784x784 .f32) (harg3 : arg3.IsWhole)
  (arg4 : Memref sig .tc .vmem S32x16x784 .bf16) (harg4 : arg4.IsWhole) (arg5 : Memref sig .tc .vmem S32x16x16x784 .bf16) (harg5 : arg5.IsWhole)

local notation "𝕄" => MT nD τ sig Unit (Elt F) ℕ (UR sig nD τ) ℕ

/-- The output block and the three scratch buffers, each held at some contents. -/
abbrev someRest : sProp 𝕄 :=
  iprop((∃ f2, arg2.view.loc (c : Thread nD τ) ↦[arg2.view.set]{fullShare} f2)
    ∗ (∃ f3, arg3.view.loc (c : Thread nD τ) ↦[arg3.view.set]{fullShare} f3)
    ∗ (∃ f4, arg4.view.loc (c : Thread nD τ) ↦[arg4.view.set]{fullShare} f4)
    ∗ (∃ f5, arg5.view.loc (c : Thread nD τ) ↦[arg5.view.set]{fullShare} f5))

set_option maxHeartbeats 8000000 in
/-- The body runs from the input block at `X1` and the other buffers at any contents; it leaves the input block as it
    found it and the other buffers at some contents. -/
theorem body_keeps (X1 : BufTy.Contents (Elt F) arg1.view.ty) (K : PUnit → sProp 𝕄) :
    iprop((arg1.view.loc (c : Thread nD τ) ↦[arg1.view.set]{fullShare} X1)
        ∗ someRest (F := F) c arg2 arg3 arg4 arg5
        ∗ (iprop((arg1.view.loc (c : Thread nD τ) ↦[arg1.view.set]{fullShare} X1)
            ∗ someRest (F := F) c arg2 arg3 arg4 arg5) -∗ K ⟨⟩))
      ⊢ wp frame (wpE (defs₀ (F := F)) 𝒱₀ (c : Thread nD τ) none) Set.univ
        (cc0__oam_body (F := F) i arg1 harg1 arg2 harg2 arg3 harg3 arg4 harg4 arg5 harg5) K := by
  unfold someRest
  iintro ⟨H1, ⟨⟨%f2, H2⟩, ⟨%f3, H3⟩, ⟨%f4, H4⟩, ⟨%f5, H5⟩⟩, Hk⟩
  sl_exec_parts
  sl_step
  iapply Hk
  sl_close

end Cert.Proof.Kernel

end
-- ==== Proof.KernelFrame.lean ====
/- The memory-safety claim of the kernel: every run ends, with every semaphore counter zero and the input array as
   launched. The output block is left unnamed at every grid point. -/
module

public import proofs.«01_k».proof.Proof.KernelBody
public import proofs.«01_k».proof.Proof.Gen.Kernel.Frame
public import Idealize.ShloMosaic.Lib.Pipeline.Frame

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, the input block left in place, the output block's contents
    not used (the window is forgotten), the scratch buffers at some contents between points. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
  Φ _ := Pipeline.ΦA spec0 c
  q _ := fullShare
  owed _ := 0

/-- The output window is the one left unnamed. -/
def fgt (w : Fin cfg0.W) : Bool := match w with
  | ⟨0, _⟩ => false
  | ⟨1, _⟩ => true

/-- A whole buffer held through its whole memref is the buffer held. -/
theorem whole_held (c : Dev nD) (b : Ref sig .tc) (f : b.ty.Contents (Elt F)) :
    ((Memref.whole b).view.loc (c : Thread nD τ) ↦[(Memref.whole b).view.set]{fullShare} f : sProp 𝕄)
      = (((c : Thread nD τ).loc b) ↦{fullShare} f : sProp 𝕄) := by
  rw [show (Memref.whole b).view.set = Finset.univ from View.set_whole b]

/-- The body's obligation at every grid point, the output window unnamed. -/
theorem body_obligation (c : Dev nD) : BodyObligationLoose (dats (F := F) m 0 c) (defs₀ (F := F)) 𝒱₀ () Set.univ fgt := fun t => by
  rw [bigSep_W0, bigSep_W0]
  simp only [fgt]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl]
  unfold Pipeline.ΦA
  rw [scopedRest0_eq c]
  simp only [← whole_held]
  unfold owns
  iintro ⟨⟨⟨⟨%f3, H3⟩, ⟨%f4, H4⟩, ⟨%f5, H5⟩⟩, Hr⟩, Ho, ⟨%d0, ⟨%f1, %hf1, H1⟩⟩, ⟨%d1, ⟨%f2, -, H2⟩⟩⟩
  rw [before0_0_of m (dats m 0 c) rfl (fun _ => rfl) t d0] at hf1
  iapply (body_keeps (F := F) c (grid0.coords t) _ (hstage0_0 ((cfg0.slots t 0).cast nbuf0_0)) _ (hstage0_1 ((cfg0.slots t 1).cast nbuf0_1))
    (Memref.whole cc0_scratch0) (Memref.isWhole_whole _) (Memref.whole cc0_scratch1) (Memref.isWhole_whole _)
    (Memref.whole cc0_scratch2) (Memref.isWhole_whole _) f1 _)
  isplitl [H1]; · iexact H1
  isplitl [H2 H3 H4 H5]
  · isplitl [H2]; · iexists f2; iexact H2
    isplitl [H3]; · iexists f3; iexact H3
    isplitl [H4]; · iexists f4; iexact H4
    iexists f5; iexact H5
  iintro ⟨H1, ⟨%g2, H2⟩, H3, H4, H5⟩
  isplitl [H3 H4 H5 Hr]
  · isplitr [Hr]
    · isplitl [H3]; · iexact H3
      isplitl [H4]; · iexact H4
      iexact H5
    iexact Hr
  isplitl [Ho]; · iexact Ho
  isplitl [H1]
  · iexists f1; isplitr
    · ipureintro; exact hf1
    iexact H1
  iexists _; iexists g2; isplitr
  · ipureintro; rfl
  iexact H2

/-- The memory-safety claim at any float operations: every run ends, the counters zero, the input as launched. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  Pipeline.θ_run_frame_forget cfgs (dats m) 0 Gen.launch0 defs₀ 𝒱₀ fgt m ρ main (body_obligation m)
    (hshare := fun _ w => match w with | ⟨0, _⟩ => rfl | ⟨1, _⟩ => rfl) (howed := fun _ _ => rfl) (V := Gen.V m) (hmain := Gen.hmain m 𝒱₀) (hA := fun _ _ => rfl) (hΦ := fun _ _ => rfl)
    (Q' := _) (hQ' := fun _ h => ⟨fun c => h.1.arr_in c 0 rfl, h.2⟩)

end Cert.Proof.Kernel

end
-- ==== Proof.IdealTile.lean ====
module

public import proofs.«01_k».proof.Proof.Gen.KernelIdeal.Loops
public import Idealize.ShloMosaic.Lib.Pointwise

/-!
One tile of rows of the distance matrix, as the kernel accumulates it: a trip of a tile's loop adds
128 channels to the tile's accumulator, each channel's term the absolute difference of one column
of the tile (16 channels to a block of columns) and one replicated row.
-/

@[expose] public section

open Idealize.ShloMosaic

namespace Cert.Proof.KernelIdeal

open Cert.KernelIdeal Cert.KernelIdeal.Gen

/-- The scratch holding each channel's row once, 16 channels to a group. -/
abbrev Mem4 := Memref sig .tc .vmem S32x16x784 .bf16
/-- The scratch holding each channel's row 16 times. -/
abbrev Mem5 := Memref sig .tc .vmem S32x16x16x784 .bf16

noncomputable section

/-- One load of 16 copies of a channel's row. -/
abbrev ld5 (arg5 : Mem5) (X5 : BufTy.Contents (Elt Ideal) arg5.view.ty) (off : Fin 4 → ℕ)
    (ho : ∀ a, off a + S1x1x16x784.size a ≤ S32x16x16x784.size a) : Vec Ideal S1x1x16x784 .bf16 :=
  View.readAt (Elt Ideal) arg5.view (Rect.unit (s := S32x16x16x784) off S1x1x16x784.size ho).toLoadRect X5

/-- One channel's term added to a tile of 64 rows: the channel's column of the tile against its row,
replicated four times from the 16 copies the scratch holds. -/
def term64 (acc : FVec Ideal S64x784 .bf16) (col : FVec Ideal S64x16 .bf16) (kk : ℕ)
    (hs : S64x16.Slices ![0, kk] S64x1) (v : Vec Ideal S1x1x16x784 .bf16) : FVec Ideal S64x784 .bf16 :=
  addf acc (absf (subf
    (broadcastTo S64x784 (extractStridedSlice S64x1 ![0, kk] col hs) broadcasts_S64x1_S64x784)
    (concatenate S64x784 0
      [⟨S16x784, shapeCast S16x784 v shapeCasts_S1x1x16x784_S16x784⟩,
       ⟨S16x784, shapeCast S16x784 v shapeCasts_S1x1x16x784_S16x784⟩,
       ⟨S16x784, shapeCast S16x784 v shapeCasts_S1x1x16x784_S16x784⟩,
       ⟨S16x784, shapeCast S16x784 v shapeCasts_S1x1x16x784_S16x784⟩]
      concatenates_S16x784_S16x784_S16x784_S16x784_S64x784_d0)))

/-- The distance of two extended reals. -/
def dist (a b : EReal) : EReal := FloatOps.absf (F := Ideal) (φ := .f32) (a - b)

/-- A channel's term at a row and a column of a tile of 64 rows: the distance of the row's value and the column's. -/
theorem term64_apply (acc : FVec Ideal S64x784 .bf16)
    (col : FVec Ideal S64x16 .bf16) (kk : ℕ) (hk : kk < 16) (hs : S64x16.Slices ![0, kk] S64x1)
    (v : Vec Ideal S1x1x16x784 .bf16) (b : Fin 784 → EReal) (hv : ∀ j q, v (ix4 0 0 j q) = b q)
    (r : Fin 64) (q : Fin 784) :
    term64 acc col kk hs v (ix2 r q) = acc (ix2 r q) + dist (col (ix2 r ⟨kk, hk⟩)) (b q) := by
  unfold term64 dist
  pointwise [hv]
  split_ifs <;> rfl

/-- A load of the copies of a channel's row reads the scratch at that group and channel. -/
theorem ld5_apply (arg5 : Mem5) (X5 : BufTy.Contents (Elt Ideal) arg5.view.ty) (off : Fin 4 → ℕ)
    (ho : ∀ a, off a + S1x1x16x784.size a ≤ S32x16x16x784.size a) (ci kk : ℕ) (hci : ci < 32) (hk : kk < 16)
    (hoff : off = ![ci, kk, 0, 0]) (j : Fin 16) (q : Fin 784) :
    ld5 arg5 X5 off ho (ix4 0 0 j q) = arg5.view.read (Elt Ideal) X5 (ix4 ⟨ci, hci⟩ ⟨kk, hk⟩ j q) := by
  subst hoff
  unfold ld5
  rw [View.readAt_apply]
  congr 1
  pointwise

/-- One column block of a tile: 16 channels' rows at the tile's 64 positions, transposed. -/
def col64 (v : Vec Ideal S1x16x64 .bf16) : FVec Ideal S64x16 .bf16 :=
  transpose S64x16 [1, 0] (shapeCast S16x64 v shapeCasts_S1x16x64_S16x64) transposes_S16x64_p1_0_S64x16

/-- A block of columns of a tile of 64 rows, at a row and a channel. -/
theorem col64_apply (v : Vec Ideal S1x16x64 .bf16) (r : Fin 64) (kk : Fin 16) :
    col64 v (ix2 r kk) = v (ix3 0 kk r) := by
  unfold col64
  pointwise

/-- One channel's term added to a tile of 16 rows. -/
def term16 (acc : FVec Ideal S16x784 .bf16) (col : FVec Ideal S16x16 .bf16) (kk : ℕ)
    (hs : S16x16.Slices ![0, kk] S16x1) (v : Vec Ideal S1x1x16x784 .bf16) : FVec Ideal S16x784 .bf16 :=
  addf acc (absf (subf
    (broadcastTo S16x784 (extractStridedSlice S16x1 ![0, kk] col hs) broadcasts_S16x1_S16x784)
    (shapeCast S16x784 v shapeCasts_S1x1x16x784_S16x784)))

/-- A channel's term at a row and a column of the tile of 16 rows. -/
theorem term16_apply (acc : FVec Ideal S16x784 .bf16)
    (col : FVec Ideal S16x16 .bf16) (kk : ℕ) (hk : kk < 16) (hs : S16x16.Slices ![0, kk] S16x1)
    (v : Vec Ideal S1x1x16x784 .bf16) (b : Fin 784 → EReal) (hv : ∀ j q, v (ix4 0 0 j q) = b q)
    (r : Fin 16) (q : Fin 784) :
    term16 acc col kk hs v (ix2 r q) = acc (ix2 r q) + dist (col (ix2 r ⟨kk, hk⟩)) (b q) := by
  unfold term16 dist
  pointwise [hv]
  rfl

/-- One column block of a tile of 16 rows. -/
def col16 (v : Vec Ideal S1x16x16 .bf16) : FVec Ideal S16x16 .bf16 :=
  transpose S16x16 [1, 0] (shapeCast S16x16 v shapeCasts_S1x16x16_S16x16) transposes_S16x16_p1_0_S16x16

/-- A block of columns of the tile of 16 rows, at a row and a channel. -/
theorem col16_apply (v : Vec Ideal S1x16x16 .bf16) (r : Fin 16) (kk : Fin 16) :
    col16 v (ix2 r kk) = v (ix3 0 kk r) := by
  unfold col16
  pointwise

/-- What a tile of `R` rows does: how it adds a channel's term and how it makes a block of columns. -/
structure TileOps (R : ℕ) where
  term : FVec Ideal ⟨2, ![R, 784]⟩ .bf16 → FVec Ideal ⟨2, ![R, 16]⟩ .bf16 → (kk : ℕ) → kk < 16 →
    Vec Ideal S1x1x16x784 .bf16 → FVec Ideal ⟨2, ![R, 784]⟩ .bf16
  col : Vec Ideal ⟨3, ![1, 16, R]⟩ .bf16 → FVec Ideal ⟨2, ![R, 16]⟩ .bf16
  term_apply : ∀ acc c kk hk v (b : Fin 784 → EReal), (∀ j q, v (ix4 0 0 j q) = b q) → ∀ r q,
    term acc c kk hk v (ix2 r q) = acc (ix2 r q) + dist (c (ix2 r ⟨kk, hk⟩)) (b q)
  col_apply : ∀ v r kk, col v (ix2 r kk) = v (ix3 0 kk r)

/-- Every channel's column lies in a block of columns of 64 rows. -/
theorem slices64 (kk : ℕ) (hk : kk < 16) : S64x16.Slices ![0, kk] S64x1 := by
  have : ∀ kk : Fin 16, S64x16.Slices ![0, kk.val] S64x1 := by decide
  exact this ⟨kk, hk⟩

/-- Every channel's column lies in a block of columns of 16 rows. -/
theorem slices16 (kk : ℕ) (hk : kk < 16) : S16x16.Slices ![0, kk] S16x1 := by
  have : ∀ kk : Fin 16, S16x16.Slices ![0, kk.val] S16x1 := by decide
  exact this ⟨kk, hk⟩

/-- The tile of 64 rows. -/
def tile64 : TileOps 64 where
  term acc c kk hk v := term64 acc c kk (slices64 kk hk) v
  col := col64
  term_apply acc c kk hk v b hv r q := term64_apply acc c kk hk _ v b hv r q
  col_apply := col64_apply

/-- The tile of 16 rows. -/
def tile16 : TileOps 16 where
  term acc c kk hk v := term16 acc c kk (slices16 kk hk) v
  col := col16
  term_apply acc c kk hk v b hv r q := term16_apply acc c kk hk _ v b hv r q
  col_apply := col16_apply

/-- What a tile's loop carries: the accumulator and the eight blocks of columns of the trip. -/
abbrev Carry (R : ℕ) :=
  FVec Ideal ⟨2, ![R, 784]⟩ .bf16 × FVec Ideal ⟨2, ![R, 16]⟩ .bf16 × FVec Ideal ⟨2, ![R, 16]⟩ .bf16 ×
    FVec Ideal ⟨2, ![R, 16]⟩ .bf16 × FVec Ideal ⟨2, ![R, 16]⟩ .bf16 × FVec Ideal ⟨2, ![R, 16]⟩ .bf16 ×
    FVec Ideal ⟨2, ![R, 16]⟩ .bf16 × FVec Ideal ⟨2, ![R, 16]⟩ .bf16 × FVec Ideal ⟨2, ![R, 16]⟩ .bf16

/-- The carried blocks of columns, by number. -/
def colsOf {R : ℕ} (s : Carry R) : Fin 8 → FVec Ideal ⟨2, ![R, 16]⟩ .bf16 :=
  ![s.2.1, s.2.2.1, s.2.2.2.1, s.2.2.2.2.1, s.2.2.2.2.2.1, s.2.2.2.2.2.2.1, s.2.2.2.2.2.2.2.1, s.2.2.2.2.2.2.2.2]

/-- The offsets of the load of channel `kk` of a group. -/
def rowOff : Fin 16 → Fin k0_t2_loop.trips → BitVec 32 → Fin 4 → ℕ :=
  ![k0_off51, k0_off52, k0_off53, k0_off54, k0_off55, k0_off56, k0_off57, k0_off58, k0_off59, k0_off60, k0_off61,
    k0_off62, k0_off63, k0_off64, k0_off65, k0_off66]

/-- The load of a channel starts at its group, eight to a trip, and its place in the group. -/
theorem rowOff_eq (kk : Fin 16) (k : Fin k0_t2_loop.trips) (u : Fin 8) :
    rowOff kk k (BitVec.ofNat 32 u.val) = ![8 * k.val + u.val, kk.val, 0, 0] := by
  revert k u
  fin_cases kk
  · exact k0_off51_eq
  · exact k0_off52_eq
  · exact k0_off53_eq
  · exact k0_off54_eq
  · exact k0_off55_eq
  · exact k0_off56_eq
  · exact k0_off57_eq
  · exact k0_off58_eq
  · exact k0_off59_eq
  · exact k0_off60_eq
  · exact k0_off61_eq
  · exact k0_off62_eq
  · exact k0_off63_eq
  · exact k0_off64_eq
  · exact k0_off65_eq
  · exact k0_off66_eq

/-- A tile's loop has at most four trips. -/
theorem trips_le (k : Fin k0_t2_loop.trips) : k.val < 4 := Nat.lt_of_lt_of_le k.isLt k0_t2_abs.2.1

/-- The load of a channel stays inside the scratch. -/
theorem rowOff_inb (kk : Fin 16) (k : Fin k0_t2_loop.trips) (u : Fin 8) (a : Fin 4) :
    rowOff kk k (BitVec.ofNat 32 u.val) a + S1x1x16x784.size a ≤ S32x16x16x784.size a := by
  rw [rowOff_eq]
  have := trips_le k
  match a with
  | 0 => show 8 * k.val + u.val + 1 ≤ 32; omega
  | 1 => show kk.val + 1 ≤ 16; omega
  | 2 => exact Nat.le_refl 16
  | 3 => exact Nat.le_refl 784

variable {R : ℕ} (T : TileOps R) (arg4 : Mem4) (X4 : BufTy.Contents (Elt Ideal) arg4.view.ty)
  (arg5 : Mem5) (X5 : BufTy.Contents (Elt Ideal) arg5.view.ty)

/-- The first `n` channels of one group added to an accumulator. -/
def groupN (k : Fin k0_t2_loop.trips) (u : Fin 8) (c : FVec Ideal ⟨2, ![R, 16]⟩ .bf16)
    (acc : FVec Ideal ⟨2, ![R, 784]⟩ .bf16) : (n : ℕ) → n ≤ 16 → FVec Ideal ⟨2, ![R, 784]⟩ .bf16
  | 0, _ => acc
  | n + 1, h => T.term (groupN k u c acc n (by omega)) c n h
      (ld5 arg5 X5 (rowOff ⟨n, h⟩ k (BitVec.ofNat 32 u.val)) (rowOff_inb ⟨n, h⟩ k u))

/-- The first `n` groups of a trip added to the accumulator. -/
def accN (k : Fin k0_t2_loop.trips) (s : Carry R) : (n : ℕ) → n ≤ 8 → FVec Ideal ⟨2, ![R, 784]⟩ .bf16
  | 0, _ => s.1
  | n + 1, h => groupN T arg5 X5 k ⟨n, h⟩ (colsOf s ⟨n, h⟩) (accN k s n (by omega)) 16 (Nat.le_refl 16)

/-- The block of columns a trip loads for the next one. -/
def nextCol (off : Fin k0_t2_loop.trips → BitVec 32 → Fin 3 → ℕ)
    (hoff : ∀ k (u : Fin 8) a, off k (BitVec.ofNat 32 u.val) a + (⟨3, ![1, 16, R]⟩ : Shape).size a ≤ S32x16x784.size a)
    (k : Fin k0_t2_loop.trips) (u : Fin 8) : FVec Ideal ⟨2, ![R, 16]⟩ .bf16 :=
  T.col (View.readAt (Elt Ideal) arg4.view
    (Rect.unit (s := S32x16x784) (off k (BitVec.ofNat 32 u.val)) (⟨3, ![1, 16, R]⟩ : Shape).size (hoff k u)).toLoadRect X4)

/-- One trip of a tile's loop. -/
def tripC (off : Fin k0_t2_loop.trips → BitVec 32 → Fin 3 → ℕ)
    (hoff : ∀ k (u : Fin 8) a, off k (BitVec.ofNat 32 u.val) a + (⟨3, ![1, 16, R]⟩ : Shape).size a ≤ S32x16x784.size a)
    (k : Fin k0_t2_loop.trips) (s : Carry R) : Carry R :=
  (accN T arg5 X5 k s 8 (Nat.le_refl 8), nextCol T arg4 X4 off hoff k 0, nextCol T arg4 X4 off hoff k 1,
    nextCol T arg4 X4 off hoff k 2, nextCol T arg4 X4 off hoff k 3, nextCol T arg4 X4 off hoff k 4,
    nextCol T arg4 X4 off hoff k 5, nextCol T arg4 X4 off hoff k 6, nextCol T arg4 X4 off hoff k 7)

/-- What the carried value of a tile's loop holds before trip `n`, for a block `B` of rows by group,
channel and position: the sum of the distances over the groups done, and the trip's columns. -/
def Holds (B : ℕ → ℕ → ℕ → EReal) (rp0 n : ℕ) (s : Carry R) : Prop :=
  (∀ (r : Fin R) (q : Fin 784), s.1 (ix2 r q)
      = ∑ c ∈ Finset.range (8 * n), ∑ kk ∈ Finset.range 16, dist (B c kk (rp0 + r.val)) (B c kk q.val)) ∧
  ∀ (u : Fin 8) (r : Fin R) (kk : Fin 16), colsOf s u (ix2 r kk) = B (min (8 * n + u.val) 31) kk.val (rp0 + r.val)

/-- The scratch of single rows holds the block. -/
def Holds4 (B : ℕ → ℕ → ℕ → EReal) : Prop :=
  ∀ (ci : Fin 32) (kk : Fin 16) (q : Fin 784), arg4.view.read (Elt Ideal) X4 (ix3 ci kk q) = B ci.val kk.val q.val

/-- The scratch of replicated rows holds the block. -/
def Holds5 (B : ℕ → ℕ → ℕ → EReal) : Prop :=
  ∀ (ci : Fin 32) (kk : Fin 16) (j : Fin 16) (q : Fin 784),
    arg5.view.read (Elt Ideal) X5 (ix4 ci kk j q) = B ci.val kk.val q.val

variable {arg4 X4 arg5 X5} {B : ℕ → ℕ → ℕ → EReal}

/-- The first channels of a group add their distances to the accumulator. -/
theorem groupN_apply (h5 : Holds5 arg5 X5 B) (k : Fin k0_t2_loop.trips) (u : Fin 8)
    (c : FVec Ideal ⟨2, ![R, 16]⟩ .bf16) (acc : FVec Ideal ⟨2, ![R, 784]⟩ .bf16) (rp0 : ℕ)
    (hc : ∀ (r : Fin R) (kk : Fin 16), c (ix2 r kk) = B (8 * k.val + u.val) kk.val (rp0 + r.val))
    (r : Fin R) (q : Fin 784) (n : ℕ) (hn : n ≤ 16) :
    groupN T arg5 X5 k u c acc n hn (ix2 r q) = acc (ix2 r q)
      + ∑ kk ∈ Finset.range n, dist (B (8 * k.val + u.val) kk (rp0 + r.val)) (B (8 * k.val + u.val) kk q.val) := by
  induction n with
  | zero => simp [groupN]
  | succ n ih =>
    have hk := trips_le k
    rw [groupN, T.term_apply _ _ _ _ _ (fun q => B (8 * k.val + u.val) n q.val), ih (by omega), hc,
      Finset.sum_range_succ, add_assoc]
    intro j q
    rw [ld5_apply arg5 X5 _ _ (8 * k.val + u.val) n (by omega) (by omega) (rowOff_eq ⟨n, hn⟩ k u)]
    exact h5 _ _ _ _

/-- After some groups of a trip the accumulator holds the distances over all groups so far. -/
theorem accN_apply (h5 : Holds5 arg5 X5 B) (k : Fin k0_t2_loop.trips) (s : Carry R) (rp0 : ℕ)
    (hs : Holds B rp0 k.val s) (r : Fin R) (q : Fin 784) (n : ℕ) (hn : n ≤ 8) :
    accN T arg5 X5 k s n hn (ix2 r q)
      = ∑ c ∈ Finset.range (8 * k.val + n), ∑ kk ∈ Finset.range 16, dist (B c kk (rp0 + r.val)) (B c kk q.val) := by
  induction n with
  | zero => exact hs.1 r q
  | succ n ih =>
    have hk := trips_le k
    rw [accN, groupN_apply T h5 k ⟨n, hn⟩ _ _ rp0, ih (by omega), ← Nat.add_assoc,
      Finset.sum_range_succ _ (8 * k.val + n)]
    intro r kk
    rw [hs.2 ⟨n, hn⟩ r kk, Nat.min_eq_left (by show 8 * k.val + n ≤ 31; omega)]

/-- The block of columns loaded for the next trip holds that trip's rows, the last group's once past the end. -/
theorem nextCol_apply (h4 : Holds4 arg4 X4 B) (rp0 : ℕ)
    (off : Fin k0_t2_loop.trips → BitVec 32 → Fin 3 → ℕ)
    (hoff : ∀ k (u : Fin 8) a, off k (BitVec.ofNat 32 u.val) a + (⟨3, ![1, 16, R]⟩ : Shape).size a ≤ S32x16x784.size a)
    (heq : ∀ k (u : Fin 8), off k (BitVec.ofNat 32 u.val) = ![min (8 * k.val + u.val + 8) 31, 0, rp0])
    (k : Fin k0_t2_loop.trips) (u : Fin 8) (r : Fin R) (kk : Fin 16) :
    nextCol T arg4 X4 off hoff k u (ix2 r kk) = B (min (8 * (k.val + 1) + u.val) 31) kk.val (rp0 + r.val) := by
  have hR : rp0 + R ≤ 784 := by have := hoff k u 2; rw [heq] at this; exact this
  have hr := r.isLt
  rw [nextCol, T.col_apply, View.readAt_apply]
  have e : min (8 * (k.val + 1) + u.val) 31 = min (8 * k.val + u.val + 8) 31 := by omega
  rw [e, ← h4 ⟨min (8 * k.val + u.val + 8) 31, by omega⟩ kk ⟨rp0 + r.val, by omega⟩]
  congr 1
  funext a
  apply Fin.ext
  refine (congrArg (fun o : Fin 3 → ℕ => o a + 1 * (ix3 (0 : Fin 1) kk r a).val) (heq k u)).trans ?_
  match a with
  | 0 => simp [ix3]
  | 1 => simp [ix3]
  | 2 => simp [ix3]

/-- A trip of a tile's loop takes what is carried from one trip's number to the next. -/
theorem tripC_holds (h4 : Holds4 arg4 X4 B) (h5 : Holds5 arg5 X5 B) (rp0 : ℕ)
    (off : Fin k0_t2_loop.trips → BitVec 32 → Fin 3 → ℕ)
    (hoff : ∀ k (u : Fin 8) a, off k (BitVec.ofNat 32 u.val) a + (⟨3, ![1, 16, R]⟩ : Shape).size a ≤ S32x16x784.size a)
    (heq : ∀ k (u : Fin 8), off k (BitVec.ofNat 32 u.val) = ![min (8 * k.val + u.val + 8) 31, 0, rp0])
    (k : Fin k0_t2_loop.trips) (s : Carry R) (hs : Holds B rp0 k.val s) :
    Holds B rp0 (k.val + 1) (tripC T arg4 X4 arg5 X5 off hoff k s) := by
  refine ⟨fun r q => ?_, fun u r kk => ?_⟩
  · exact accN_apply T h5 k s rp0 hs r q 8 (Nat.le_refl 8)
  · rw [← nextCol_apply T h4 rp0 off hoff heq k u r kk]
    match u with
    | 0 | 1 | 2 | 3 | 4 | 5 | 6 | 7 => rfl

/-- Four trips from a carried value that holds at the start. -/
theorem four_trips (h4 : Holds4 arg4 X4 B) (h5 : Holds5 arg5 X5 B) (rp0 : ℕ)
    (off : Fin k0_t2_loop.trips → BitVec 32 → Fin 3 → ℕ)
    (hoff : ∀ k (u : Fin 8) a, off k (BitVec.ofNat 32 u.val) a + (⟨3, ![1, 16, R]⟩ : Shape).size a ≤ S32x16x784.size a)
    (heq : ∀ k (u : Fin 8), off k (BitVec.ofNat 32 u.val) = ![min (8 * k.val + u.val + 8) 31, 0, rp0])
    (s : ℕ → Carry R) (h0 : Holds B rp0 0 (s 0))
    (hs : ∀ k : Fin k0_t2_loop.trips, s (k.val + 1) = tripC T arg4 X4 arg5 X5 off hoff k (s k.val)) :
    Holds B rp0 4 (s 4) := by
  have ht : k0_t2_loop.trips = 4 := by decide
  have step : ∀ n, n ≤ 4 → Holds B rp0 n (s n) := by
    intro n
    induction n with
    | zero => exact fun _ => h0
    | succ n ih =>
      intro hn
      have := tripC_holds T h4 h5 rp0 off hoff heq ⟨n, by omega⟩ (s n) (ih (by omega))
      rw [← hs] at this
      exact this
  exact step 4 (Nat.le_refl 4)

end

end Cert.Proof.KernelIdeal
-- ==== Proof.IdealParts.lean ====
/- The printed parts of the kernel's body, each equal to its skeleton, stated at the instances the part itself takes
   (the generated equations ask besides for named constants, which only one part uses). -/
module

public import proofs.«01_k».proof.Proof.Gen.KernelIdeal.Skeleton

@[expose] public section

set_option maxRecDepth 65536

noncomputable section

namespace Cert.KernelIdeal

open Cert.KernelIdeal.Gen
open Idealize.ShloMosaic

variable {F : FTy → Type} [FloatOps F]

/-- Part 1 is its skeleton. -/
theorem k0_part1_eq_skeleton : k0_part1 (F := F) = k0_part1_skel (F := F) := rfl
/-- Part 2 is its skeleton. -/
theorem k0_part2_eq_skeleton : k0_part2 (F := F) = k0_part2_skel (F := F) := rfl
/-- Part 3 is its skeleton. -/
theorem k0_part3_eq_skeleton : k0_part3 (F := F) = k0_part3_skel (F := F) := rfl
/-- Part 4 is its skeleton. -/
theorem k0_part4_eq_skeleton : k0_part4 (F := F) = k0_part4_skel (F := F) := rfl
/-- Part 5 is its skeleton. -/
theorem k0_part5_eq_skeleton : k0_part5 (F := F) = k0_part5_skel (F := F) := rfl
/-- Part 6 is its skeleton. -/
theorem k0_part6_eq_skeleton : k0_part6 (F := F) = k0_part6_skel (F := F) := rfl
/-- Part 7 is its skeleton. -/
theorem k0_part7_eq_skeleton : k0_part7 (F := F) = k0_part7_skel (F := F) := rfl
/-- Part 8 is its skeleton. -/
theorem k0_part8_eq_skeleton : k0_part8 (F := F) = k0_part8_skel (F := F) := rfl
/-- Part 9 is its skeleton. -/
theorem k0_part9_eq_skeleton : k0_part9 (F := F) = k0_part9_skel (F := F) := rfl
/-- Part 10 is its skeleton. -/
theorem k0_part10_eq_skeleton : k0_part10 (F := F) = k0_part10_skel (F := F) := rfl
/-- Part 11 is its skeleton. -/
theorem k0_part11_eq_skeleton : k0_part11 (F := F) = k0_part11_skel (F := F) := rfl
/-- Part 12 is its skeleton. -/
theorem k0_part12_eq_skeleton : k0_part12 (F := F) = k0_part12_skel (F := F) := rfl
/-- Part 13 is its skeleton. -/
theorem k0_part13_eq_skeleton : k0_part13 (F := F) = k0_part13_skel (F := F) := rfl
/-- Part 14 is its skeleton. -/
theorem k0_part14_eq_skeleton : k0_part14 (F := F) = k0_part14_skel (F := F) := rfl
/-- Part 15 is its skeleton. -/
theorem k0_part15_eq_skeleton : k0_part15 (F := F) = k0_part15_skel (F := F) := rfl
/-- Part 482 is its skeleton. -/
theorem k0_part482_eq_skeleton : k0_part482 (F := F) = k0_part482_skel (F := F) := rfl
/-- Part 483 is its skeleton. -/
theorem k0_part483_eq_skeleton : k0_part483 (F := F) = k0_part483_skel (F := F) := rfl
/-- Part 484 is its skeleton. -/
theorem k0_part484_eq_skeleton : k0_part484 (F := F) = k0_part484_skel (F := F) := rfl
/-- Part 485 is its skeleton. -/
theorem k0_part485_eq_skeleton : k0_part485 (F := F) = k0_part485_skel (F := F) := rfl
/-- Part 486 is its skeleton. -/
theorem k0_part486_eq_skeleton : k0_part486 (F := F) = k0_part486_skel (F := F) := rfl
/-- Part 487 is its skeleton. -/
theorem k0_part487_eq_skeleton : k0_part487 (F := F) = k0_part487_skel (F := F) := rfl
/-- Part 488 is its skeleton. -/
theorem k0_part488_eq_skeleton : k0_part488 (F := F) = k0_part488_skel (F := F) := rfl
/-- Part 489 is its skeleton. -/
theorem k0_part489_eq_skeleton : k0_part489 (F := F) = k0_part489_skel (F := F) := rfl
/-- Part 490 is its skeleton. -/
theorem k0_part490_eq_skeleton : k0_part490 (F := F) = k0_part490_skel (F := F) := rfl
/-- Part 491 is its skeleton. -/
theorem k0_part491_eq_skeleton : k0_part491 (F := F) = k0_part491_skel (F := F) := rfl
/-- Part 492 is its skeleton. -/
theorem k0_part492_eq_skeleton : k0_part492 (F := F) = k0_part492_skel (F := F) := rfl
/-- Part 493 is its skeleton. -/
theorem k0_part493_eq_skeleton : k0_part493 (F := F) = k0_part493_skel (F := F) := rfl
/-- Part 494 is its skeleton. -/
theorem k0_part494_eq_skeleton : k0_part494 (F := F) = k0_part494_skel (F := F) := rfl
/-- Part 495 is its skeleton. -/
theorem k0_part495_eq_skeleton : k0_part495 (F := F) = k0_part495_skel (F := F) := rfl
/-- Part 497 is its skeleton. -/
theorem k0_part497_eq_skeleton : k0_part497 (F := F) = k0_part497_skel (F := F) := rfl
/-- Part 498 is its skeleton. -/
theorem k0_part498_eq_skeleton : k0_part498 (F := F) = k0_part498_skel (F := F) := rfl
/-- Part 499 is its skeleton. -/
theorem k0_part499_eq_skeleton : k0_part499 (F := F) = k0_part499_skel (F := F) := rfl
/-- Part 500 is its skeleton. -/
theorem k0_part500_eq_skeleton : k0_part500 (F := F) = k0_part500_skel (F := F) := rfl
/-- Part 501 is its skeleton. -/
theorem k0_part501_eq_skeleton : k0_part501 (F := F) = k0_part501_skel (F := F) := rfl
/-- Part 502 is its skeleton. -/
theorem k0_part502_eq_skeleton : k0_part502 (F := F) = k0_part502_skel (F := F) := rfl
/-- Part 503 is its skeleton. -/
theorem k0_part503_eq_skeleton : k0_part503 (F := F) = k0_part503_skel (F := F) := rfl
/-- Part 504 is its skeleton. -/
theorem k0_part504_eq_skeleton : k0_part504 (F := F) = k0_part504_skel (F := F) := rfl
/-- Part 505 is its skeleton. -/
theorem k0_part505_eq_skeleton : k0_part505 (F := F) = k0_part505_skel (F := F) := rfl
/-- Part 506 is its skeleton. -/
theorem k0_part506_eq_skeleton : k0_part506 (F := F) = k0_part506_skel (F := F) := rfl
/-- Part 507 is its skeleton. -/
theorem k0_part507_eq_skeleton : k0_part507 (F := F) = k0_part507_skel (F := F) := rfl
/-- Part 508 is its skeleton. -/
theorem k0_part508_eq_skeleton : k0_part508 (F := F) = k0_part508_skel (F := F) := rfl

end Cert.KernelIdeal

end
-- ==== Proof.IdealCopy.lean ====
module

public import proofs.«01_k».proof.Proof.Gen.KernelIdeal.Skeleton
public import Idealize.ShloMosaic.Lib.Pointwise
public import Idealize.ShloMosaic.Lib.WritesUnit
public import Idealize.ShloMosaic.Lib.Pipeline.Value
public import Idealize.ShloMosaic.Lib.Exec

/-!
What one trip of the copying loop leaves in the two scratch buffers: the rows of 16 channels, each
once in the one (two rows to a store, the row not meant read back and stored again) and sixteen times
in the other.
-/

@[expose] public section

set_option maxRecDepth 16384

open Idealize.ShloMosaic

namespace Cert.Proof.KernelIdeal

open Cert.KernelIdeal Cert.KernelIdeal.Gen

noncomputable section

/-- A row of an image cut out. -/
theorem slices28 (n : Fin 28) : S28x28.Slices ![n.val, 0] S1x28 := by
  revert n
  decide

/-- The image as rows. -/
theorem image_rows (v : Vec Ideal S1x1x28x28 .f32) (n : Fin 28) (b : Fin 28) :
    extractStridedSlice S1x28 ![n.val, 0] (shapeCast S28x28 v shapeCasts_S1x1x28x28_S28x28) (slices28 n) (ix2 0 b)
      = v (ix4 0 0 n b) := by
  pointwise

/-- One channel's row: the 28 rows of its image, end to end. -/
theorem pay4_apply (v : Vec Ideal S1x1x28x28 .f32) (q : Fin 784) :
    k0_pay4 v (ix2 0 q) = v (ix4 0 0 ⟨q.val / 28, by omega⟩ ⟨q.val % 28, by omega⟩) := by
  refine Eq.trans ?_ (image_rows v ⟨q.val / 28, by omega⟩ ⟨q.val % 28, by omega⟩)
  exact concatenate_ofFn_apply (t := S1x784) (s₁ := S1x28) 1
    (fun n : Fin 28 => extractStridedSlice S1x28 ![n.val, 0] (shapeCast S28x28 v shapeCasts_S1x1x28x28_S28x28) (slices28 n))
    concatenates_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x784_d1 rfl 28 rfl (ix2 0 q) ⟨q.val / 28, by omega⟩ rfl (ix2 0 ⟨q.val % 28, by omega⟩) rfl
    (fun b hb => by
      match b with
      | 0 => rfl
      | 1 => exact absurd rfl hb)

/-- The row as the first buffer stores it. -/
theorem pay5_apply (v : Vec Ideal S1x1x28x28 .f32) (q : Fin 784) :
    k0_pay5 v (ix3 0 0 q) = k0_pay4 v (ix2 0 q) := by
  unfold k0_pay5
  pointwise

/-- The row as the second buffer stores it, sixteen times. -/
theorem pay6_apply (v : Vec Ideal S1x1x28x28 .f32) (j : Fin 16) (q : Fin 784) :
    k0_pay6 v (ix4 0 0 j q) = k0_pay4 v (ix2 0 q) := by
  unfold k0_pay6
  pointwise

variable (v4 : View sig .tc .vmem S32x16x784 .bf16) (v5 : View sig .tc .vmem S32x16x16x784 .bf16)

/-- The offsets of the stores of the even rows. -/
def offE : Fin 8 → Fin k0_t1_loop.trips → Fin 3 → ℕ := ![k0_off3, k0_off9, k0_off15, k0_off21, k0_off27, k0_off33, k0_off39, k0_off45]
/-- The offsets of the stores of the odd rows. -/
def offO : Fin 8 → Fin k0_t1_loop.trips → Fin 3 → ℕ := ![k0_off6, k0_off12, k0_off18, k0_off24, k0_off30, k0_off36, k0_off42, k0_off48]
/-- The offsets of the stores of the replicated rows. -/
def off5 : Fin 16 → Fin k0_t1_loop.trips → Fin 4 → ℕ := ![k0_off4, k0_off7, k0_off10, k0_off13, k0_off16, k0_off19, k0_off22, k0_off25, k0_off28, k0_off31, k0_off34, k0_off37, k0_off40, k0_off43, k0_off46, k0_off49]

/-- The even rows' offsets in closed form. -/
theorem offE_eq (j : Fin 8) (k : Fin k0_t1_loop.trips) : offE j k = ![k.val, 2 * j.val, 0] := by
  revert k
  fin_cases j
  · exact k0_off3_eq
  · exact k0_off9_eq
  · exact k0_off15_eq
  · exact k0_off21_eq
  · exact k0_off27_eq
  · exact k0_off33_eq
  · exact k0_off39_eq
  · exact k0_off45_eq

/-- The odd rows' offsets in closed form. -/
theorem offO_eq (j : Fin 8) (k : Fin k0_t1_loop.trips) : offO j k = ![k.val, 2 * j.val, 0] := by
  revert k
  fin_cases j
  · exact k0_off6_eq
  · exact k0_off12_eq
  · exact k0_off18_eq
  · exact k0_off24_eq
  · exact k0_off30_eq
  · exact k0_off36_eq
  · exact k0_off42_eq
  · exact k0_off48_eq

/-- The replicated rows' offsets in closed form. -/
theorem off5_eq (m : Fin 16) (k : Fin k0_t1_loop.trips) : off5 m k = ![k.val, m.val, 0, 0] := by
  revert k
  fin_cases m
  · exact k0_off4_eq
  · exact k0_off7_eq
  · exact k0_off10_eq
  · exact k0_off13_eq
  · exact k0_off16_eq
  · exact k0_off19_eq
  · exact k0_off22_eq
  · exact k0_off25_eq
  · exact k0_off28_eq
  · exact k0_off31_eq
  · exact k0_off34_eq
  · exact k0_off37_eq
  · exact k0_off40_eq
  · exact k0_off43_eq
  · exact k0_off46_eq
  · exact k0_off49_eq

/-- The copying loop has 32 trips. -/
theorem copy_trips (k : Fin k0_t1_loop.trips) : k.val < 32 := Nat.lt_of_lt_of_le k.isLt k0_t1_abs.2.1

/-- A pair of rows lies in the first buffer. -/
theorem pair_inb (off : Fin 3 → ℕ) (k : ℕ) (hk : k < 32) (j : Fin 8) (h : off = ![k, 2 * j.val, 0]) (a : Fin 3) :
    off a + S1x2x784.size a ≤ S32x16x784.size a := by
  subst h
  match a with
  | 0 => show k + 1 ≤ 32; omega
  | 1 => show 2 * j.val + 2 ≤ 16; omega
  | 2 => exact Nat.le_refl 784

/-- Sixteen copies of a row lie in the second buffer. -/
theorem rep_inb (off : Fin 4 → ℕ) (k : ℕ) (hk : k < 32) (m : Fin 16) (h : off = ![k, m.val, 0, 0]) (a : Fin 4) :
    off a + S1x1x16x784.size a ≤ S32x16x16x784.size a := by
  subst h
  match a with
  | 0 => show k + 1 ≤ 32; omega
  | 1 => show m.val + 1 ≤ 16; omega
  | 2 => exact Nat.le_refl 16
  | 3 => exact Nat.le_refl 784

/-- The store of an even row: its pair of rows as read before, with the row put in. -/
def pieceE (f : v4.ty.Contents (Elt Ideal)) (k : Fin k0_t1_loop.trips) (j : Fin 8) (row : FVec Ideal S1x1x784 .bf16) :
    View.Piece (Elt Ideal) S32x16x784 .bf16 :=
  ⟨Rect.unit (s := S32x16x784) (offE j k) S1x2x784.size (pair_inb _ k.val (copy_trips k) j (offE_eq j k)),
    updateSlice (s := S1x2x784) (View.readAt (Elt Ideal) v4 (Rect.unit (s := S32x16x784) (offE j k) S1x2x784.size (pair_inb _ k.val (copy_trips k) j (offE_eq j k))).toLoadRect f)
      row ![0, 0, 0] slices_S1x2x784_S1x1x784_0_0_0⟩

/-- The store of an odd row, after the stores `L`. -/
def pieceO (k : Fin k0_t1_loop.trips) (j : Fin 8) (row : FVec Ideal S1x1x784 .bf16)
    (L : List (View.Piece (Elt Ideal) S32x16x784 .bf16)) : View.Piece (Elt Ideal) S32x16x784 .bf16 :=
  ⟨Rect.unit (s := S32x16x784) (offO j k) S1x2x784.size (pair_inb _ k.val (copy_trips k) j (offO_eq j k)),
    updateSlice (s := S1x2x784) (v4.readCov L (Rect.unit (s := S32x16x784) (offO j k) S1x2x784.size (pair_inb _ k.val (copy_trips k) j (offO_eq j k))).toLoadRect)
      row ![0, 1, 0] slices_S1x2x784_S1x1x784_0_1_0⟩

/-- The stores of the first `n` pairs of rows of a trip, the newest first. -/
def pieces4 (f : v4.ty.Contents (Elt Ideal)) (k : Fin k0_t1_loop.trips) (row : ℕ → FVec Ideal S1x1x784 .bf16) :
    (n : ℕ) → n ≤ 8 → List (View.Piece (Elt Ideal) S32x16x784 .bf16)
  | 0, _ => []
  | n + 1, h =>
    pieceO v4 k ⟨n, h⟩ (row (2 * n + 1)) (pieceE v4 f k ⟨n, h⟩ (row (2 * n)) :: pieces4 f k row n (by omega))
      :: pieceE v4 f k ⟨n, h⟩ (row (2 * n)) :: pieces4 f k row n (by omega)

/-- The stores of the first `n` replicated rows of a trip, the newest first. -/
def pieces5 (k : Fin k0_t1_loop.trips) (row : ℕ → FVec Ideal S1x1x16x784 .bf16) :
    (n : ℕ) → n ≤ 16 → List (View.Piece (Elt Ideal) S32x16x16x784 .bf16)
  | 0, _ => []
  | n + 1, h =>
    ⟨Rect.unit (s := S32x16x16x784) (off5 ⟨n, h⟩ k) S1x1x16x784.size (rep_inb _ k.val (copy_trips k) ⟨n, h⟩ (off5_eq ⟨n, h⟩ k)),
      row n⟩ :: pieces5 k row n (by omega)

/-- The replicated rows after a trip's first `n` stores. -/
theorem pieces5_apply (f : v5.ty.Contents (Elt Ideal)) (k : Fin k0_t1_loop.trips) (row : ℕ → FVec Ideal S1x1x16x784 .bf16)
    (n : ℕ) (hn : n ≤ 16) (ci : Fin 32) (kk : Fin 16) (j : Fin 16) (q : Fin 784) :
    v5.read (Elt Ideal) (v5.writes (Elt Ideal) f (pieces5 k row n hn)) (ix4 ci kk j q)
      = if ci.val = k.val ∧ kk.val < n then row kk.val (ix4 0 0 j q) else v5.read (Elt Ideal) f (ix4 ci kk j q) := by
  induction n with
  | zero => rw [if_neg (by omega)]; rfl
  | succ n ih =>
    have h0 := congrFun (off5_eq ⟨n, hn⟩ k) 0
    have h1 := congrFun (off5_eq ⟨n, hn⟩ k) 1
    by_cases hh : ci.val = k.val ∧ kk.val = n
    · rw [if_pos ⟨hh.1, by omega⟩, pieces5]
      refine (View.read_writes_cons_unit_of_mem v5 f (rep_inb _ k.val (copy_trips k) ⟨n, hn⟩ (off5_eq ⟨n, hn⟩ k)) (row n) _ _
        (ix4 (0 : Fin 1) (0 : Fin 1) j q) (off5_eq ⟨n, hn⟩ k) ?_).trans ?_
      · intro a
        match a with
        | 0 => exact hh.1
        | 1 => exact hh.2
        | 2 => exact (Nat.zero_add _).symm
        | 3 => exact (Nat.zero_add _).symm
      · rw [hh.2]
    · rw [pieces5]
      have hmiss : ∀ L, v5.read (Elt Ideal) (v5.writes (Elt Ideal) f (⟨Rect.unit (s := S32x16x16x784) (off5 ⟨n, hn⟩ k) S1x1x16x784.size (rep_inb _ k.val (copy_trips k) ⟨n, hn⟩ (off5_eq ⟨n, hn⟩ k)),
          row n⟩ :: L)) (ix4 ci kk j q) = v5.read (Elt Ideal) (v5.writes (Elt Ideal) f L) (ix4 ci kk j q) := by
        intro L
        by_cases hc : ci.val = k.val
        · exact View.read_writes_cons_miss_of_axis v5 f _ _ _ 1 n 1 h1 rfl rfl (by show kk.val < n ∨ n + 1 ≤ kk.val; omega)
        · exact View.read_writes_cons_miss_of_axis v5 f _ _ _ 0 k.val 1 h0 rfl rfl (by show ci.val < k.val ∨ k.val + 1 ≤ ci.val; omega)
      rw [hmiss, ih (by omega)]
      exact if_congr (by omega) rfl rfl

/-- Putting a row in the first place of a pair. -/
theorem put_even (old : S1x2x784.Idx → Elt Ideal .bf16) (row : FVec Ideal S1x1x784 .bf16) (b : Fin 2) (q : Fin 784) :
    updateSlice old row ![0, 0, 0] slices_S1x2x784_S1x1x784_0_0_0 (ix3 0 b q)
      = if b.val = 0 then row (ix3 0 0 q) else old (ix3 0 b q) := by
  match b with
  | 0 => pointwise
  | 1 => pointwise

/-- Putting a row in the second place of a pair. -/
theorem put_odd (old : S1x2x784.Idx → Elt Ideal .bf16) (row : FVec Ideal S1x1x784 .bf16) (b : Fin 2) (q : Fin 784) :
    updateSlice old row ![0, 1, 0] slices_S1x2x784_S1x1x784_0_1_0 (ix3 0 b q)
      = if b.val = 1 then row (ix3 0 0 q) else old (ix3 0 b q) := by
  match b with
  | 0 => pointwise
  | 1 => pointwise

/-- Where a place of a pair of rows lies in the buffer. -/
theorem pair_idx (off : Fin 3 → ℕ) (k : ℕ) (j : Fin 8) (h : off = ![k, 2 * j.val, 0])
    (hi : ∀ a, off a + S1x2x784.size a ≤ S32x16x784.size a) (ci : Fin 32) (kk : Fin 16) (q : Fin 784) (hc : ci.val = k)
    (h1 : 2 * j.val ≤ kk.val) (h2 : kk.val < 2 * j.val + 2) :
    (Rect.unit (s := S32x16x784) off S1x2x784.size hi).toLoadRect.idx (ix3 (0 : Fin 1) (⟨kk.val - 2 * j.val, by omega⟩ : Fin 2) q)
      = ix3 ci kk q := by
  subst h
  funext a
  apply Fin.ext
  match a with
  | 0 => show k + 1 * 0 = ci.val; omega
  | 1 => show 2 * j.val + 1 * (kk.val - 2 * j.val) = kk.val; omega
  | 2 => show 0 + 1 * q.val = q.val; omega

/-- A pair of rows read after its even store. -/
theorem pieceE_apply (f g : v4.ty.Contents (Elt Ideal)) (k : Fin k0_t1_loop.trips) (j : Fin 8)
    (row : FVec Ideal S1x1x784 .bf16) (L : List (View.Piece (Elt Ideal) S32x16x784 .bf16))
    (ci : Fin 32) (kk : Fin 16) (q : Fin 784) :
    v4.read (Elt Ideal) (v4.writes (Elt Ideal) g (pieceE v4 f k j row :: L)) (ix3 ci kk q)
      = if ci.val = k.val ∧ kk.val = 2 * j.val then row (ix3 0 0 q)
        else if ci.val = k.val ∧ kk.val = 2 * j.val + 1 then v4.read (Elt Ideal) f (ix3 ci kk q)
        else v4.read (Elt Ideal) (v4.writes (Elt Ideal) g L) (ix3 ci kk q) := by
  have h0 := congrFun (offE_eq j k) 0
  have h1 := congrFun (offE_eq j k) 1
  by_cases hc : ci.val = k.val ∧ 2 * j.val ≤ kk.val ∧ kk.val < 2 * j.val + 2
  · unfold pieceE
    refine (View.read_writes_cons_unit_of_mem v4 g (pair_inb _ k.val (copy_trips k) j (offE_eq j k)) _ L _
      (ix3 (0 : Fin 1) (⟨kk.val - 2 * j.val, by omega⟩ : Fin 2) q) (offE_eq j k) ?_).trans ?_
    rotate_left
    · rw [put_even]
      by_cases he : kk.val = 2 * j.val
      · rw [if_pos (by show kk.val - 2 * j.val = 0; omega), if_pos ⟨hc.1, he⟩]
      · rw [if_neg (by show ¬ (kk.val - 2 * j.val = 0); omega), if_neg (by omega), if_pos (by omega), View.readAt_apply]
        exact congrArg _ (pair_idx _ k.val j (offE_eq j k) _ ci kk q hc.1 hc.2.1 hc.2.2)
    · intro a
      match a with
      | 0 => exact hc.1
      | 1 => show kk.val = 2 * j.val + (kk.val - 2 * j.val); omega
      | 2 => exact (Nat.zero_add _).symm
  · rw [if_neg (by omega), if_neg (by omega)]
    by_cases hd : ci.val = k.val
    · exact View.read_writes_cons_miss_of_axis v4 g _ _ _ 1 (2 * j.val) 2 h1 rfl rfl (by show kk.val < 2 * j.val ∨ 2 * j.val + 2 ≤ kk.val; omega)
    · exact View.read_writes_cons_miss_of_axis v4 g _ _ _ 0 k.val 1 h0 rfl rfl (by show ci.val < k.val ∨ k.val + 1 ≤ ci.val; omega)

/-- A pair of rows read after both its stores. -/
theorem pair_apply (f : v4.ty.Contents (Elt Ideal)) (k : Fin k0_t1_loop.trips) (j : Fin 8)
    (rowE rowO : FVec Ideal S1x1x784 .bf16) (L : List (View.Piece (Elt Ideal) S32x16x784 .bf16))
    (ci : Fin 32) (kk : Fin 16) (q : Fin 784) :
    v4.read (Elt Ideal) (v4.writes (Elt Ideal) f (pieceO v4 k j rowO (pieceE v4 f k j rowE :: L) :: pieceE v4 f k j rowE :: L)) (ix3 ci kk q)
      = if ci.val = k.val ∧ kk.val = 2 * j.val + 1 then rowO (ix3 0 0 q)
        else if ci.val = k.val ∧ kk.val = 2 * j.val then rowE (ix3 0 0 q)
        else v4.read (Elt Ideal) (v4.writes (Elt Ideal) f L) (ix3 ci kk q) := by
  have h0 := congrFun (offO_eq j k) 0
  have h1 := congrFun (offO_eq j k) 1
  by_cases hc : ci.val = k.val ∧ 2 * j.val ≤ kk.val ∧ kk.val < 2 * j.val + 2
  · conv_lhs => unfold pieceO
    refine (View.read_writes_cons_unit_of_mem v4 f (pair_inb _ k.val (copy_trips k) j (offO_eq j k)) _ _ _
      (ix3 (0 : Fin 1) (⟨kk.val - 2 * j.val, by omega⟩ : Fin 2) q) (offO_eq j k) ?_).trans ?_
    rotate_left
    · rw [put_odd]
      by_cases ho : kk.val = 2 * j.val + 1
      · rw [if_pos (by show kk.val - 2 * j.val = 1; omega), if_pos ⟨hc.1, ho⟩]
      · rw [if_neg (by show ¬ (kk.val - 2 * j.val = 1); omega), if_neg (by omega), if_pos (by omega)]
        unfold View.readCov
        rw [View.readAt_apply, pair_idx _ k.val j (offO_eq j k) _ ci kk q hc.1 hc.2.1 hc.2.2, pieceE_apply, if_pos (by omega)]
    · intro a
      match a with
      | 0 => exact hc.1
      | 1 => show kk.val = 2 * j.val + (kk.val - 2 * j.val); omega
      | 2 => exact (Nat.zero_add _).symm
  · rw [if_neg (by omega), if_neg (by omega)]
    have hE := pieceE_apply v4 f f k j rowE L ci kk q
    rw [if_neg (by omega), if_neg (by omega)] at hE
    rw [← hE]
    by_cases hd : ci.val = k.val
    · exact View.read_writes_cons_miss_of_axis v4 f _ _ _ 1 (2 * j.val) 2 h1 rfl rfl (by show kk.val < 2 * j.val ∨ 2 * j.val + 2 ≤ kk.val; omega)
    · exact View.read_writes_cons_miss_of_axis v4 f _ _ _ 0 k.val 1 h0 rfl rfl (by show ci.val < k.val ∨ k.val + 1 ≤ ci.val; omega)

/-- The rows after a trip's first `n` pairs of stores. -/
theorem pieces4_apply (f : v4.ty.Contents (Elt Ideal)) (k : Fin k0_t1_loop.trips) (row : ℕ → FVec Ideal S1x1x784 .bf16)
    (n : ℕ) (hn : n ≤ 8) (ci : Fin 32) (kk : Fin 16) (q : Fin 784) :
    v4.read (Elt Ideal) (v4.writes (Elt Ideal) f (pieces4 v4 f k row n hn)) (ix3 ci kk q)
      = if ci.val = k.val ∧ kk.val < 2 * n then row kk.val (ix3 0 0 q) else v4.read (Elt Ideal) f (ix3 ci kk q) := by
  induction n with
  | zero => rw [if_neg (by omega)]; rfl
  | succ n ih =>
    rw [pieces4, pair_apply, ih (by omega)]
    by_cases h1 : ci.val = k.val ∧ kk.val = 2 * n + 1
    · rw [if_pos h1, if_pos (by omega), h1.2]
    · rw [if_neg h1]
      by_cases h2 : ci.val = k.val ∧ kk.val = 2 * n
      · rw [if_pos h2, if_pos (by omega), h2.2]
      · rw [if_neg h2]
        exact if_congr (by omega) rfl rfl

end

end Cert.Proof.KernelIdeal
-- ==== Proof.ValueConvert.lean ====
/- The kernel's first loop (the one that copies the input block, row by row, into the two bfloat16 scratch buffers),
   with what it leaves in them: each channel's row, once in the one and sixteen times in the other. -/
module

public import proofs.«01_k».proof.Proof.IdealParts
public import proofs.«01_k».proof.Proof.IdealTile
public import proofs.«01_k».proof.Proof.IdealCopy
public import Idealize.ShloMosaic.Lib.Exec
public import Idealize.ShloMosaic.Lib.Tactic
public import Idealize.ShloMosaic.Lib.Pipeline.Kit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The kernel declares no loop or call variants. -/
abbrev 𝒱₁ : Variants := Variants.none

variable (c : Dev nD) (i : grid0.Coords) (arg1 : Memref sig .tc .vmem S1x512x28x28 .f32) (harg1 : arg1.IsWhole)
  (arg2 : Memref sig .tc .vmem S1x28x28 .f32) (harg2 : arg2.IsWhole) (arg3 : Memref sig .tc .vmem S784x784 .f32) (harg3 : arg3.IsWhole)
  (arg4 : Memref sig .tc .vmem S32x16x784 .bf16) (harg4 : arg4.IsWhole) (arg5 : Memref sig .tc .vmem S32x16x16x784 .bf16) (harg5 : arg5.IsWhole)

local notation "𝕄" => MT nD τ sig Unit (Elt Ideal) ℕ (UR sig nD τ) ℕ

/-- The input block by group, channel and position. -/
def rowsOf (X : Vec Ideal S1x512x28x28 .f32) : ℕ → ℕ → ℕ → EReal := fun ci kk q =>
  if h : ci < 32 ∧ kk < 16 ∧ q < 784 then
    X (ix4 0 ⟨16 * ci + kk, by omega⟩ ⟨q / 28, by omega⟩ ⟨q % 28, by omega⟩)
  else 0

/-- A channel's image as trip `k` loads it for its row `m`. -/
def chan (X1 : BufTy.Contents (Elt Ideal) arg1.view.ty) (k : Fin k0_t1_loop.trips) (m : ℕ) : Vec Ideal S1x1x28x28 .f32 :=
  View.readAt (Elt Ideal) arg1.view (Rect.unit (s := S1x512x28x28) (k0_off1 k (BitVec.ofNat 32 (m % 16))) S1x1x28x28.size
    (fun a => by
      have hk := copy_trips k
      have hm := Nat.mod_lt m (show 0 < 16 by decide)
      have h := congrFun (k0_off1_eq k ⟨m % 16, hm⟩) a
      rw [h]
      match a with
      | 0 => exact Nat.le_refl 1
      | 1 => show 16 * k.val + m % 16 + 1 ≤ 512; omega
      | 2 => exact Nat.le_refl 28
      | 3 => exact Nat.le_refl 28)).toLoadRect X1

/-- A channel's row, in the terms of the input block. -/
theorem chan_apply (X1 : BufTy.Contents (Elt Ideal) arg1.view.ty) (k : Fin k0_t1_loop.trips) (m : Fin 16) (q : Fin 784) :
    k0_pay4 (chan arg1 X1 k m.val) (ix2 0 q) = rowsOf (arg1.view.read (Elt Ideal) X1) k.val m.val q.val := by
  have hk := copy_trips k
  rw [pay4_apply, rowsOf, dif_pos ⟨hk, m.isLt, q.isLt⟩, chan, View.readAt_apply]
  refine congrArg _ ?_
  have hm : m.val % 16 = m.val := Nat.mod_eq_of_lt m.isLt
  have h := k0_off1_eq k m
  funext a
  have ha := congrFun h a
  apply Fin.ext
  match a with
  | 0 =>
    show k0_off1 k (BitVec.ofNat 32 (m.val % 16)) 0 + 1 * 0 = 0
    rw [hm, ha]; rfl
  | 1 =>
    show k0_off1 k (BitVec.ofNat 32 (m.val % 16)) 1 + 1 * 0 = 16 * k.val + m.val
    rw [hm, ha]; rfl
  | 2 =>
    show k0_off1 k (BitVec.ofNat 32 (m.val % 16)) 2 + 1 * (q.val / 28) = q.val / 28
    rw [hm, ha, Nat.one_mul]; exact Nat.zero_add _
  | 3 =>
    show k0_off1 k (BitVec.ofNat 32 (m.val % 16)) 3 + 1 * (q.val % 28) = q.val % 28
    rw [hm, ha, Nat.one_mul]; exact Nat.zero_add _

/-- The first buffer after trip `k` holds the rows of one group more. -/
theorem copied4 (X1 : BufTy.Contents (Elt Ideal) arg1.view.ty) (k : Fin k0_t1_loop.trips) (f4 : BufTy.Contents (Elt Ideal) arg4.view.ty)
    (h4 : ∀ (ci : Fin 32) (kk : Fin 16) (q : Fin 784), ci.val < k.val →
      arg4.view.read (Elt Ideal) f4 (ix3 ci kk q) = rowsOf (arg1.view.read (Elt Ideal) X1) ci.val kk.val q.val)
    (ci : Fin 32) (kk : Fin 16) (q : Fin 784) (hc : ci.val < k.val + 1) :
    arg4.view.read (Elt Ideal) (arg4.view.writes (Elt Ideal) f4 (pieces4 arg4.view f4 k (fun m => k0_pay5 (chan arg1 X1 k m)) 8 (Nat.le_refl 8))) (ix3 ci kk q)
      = rowsOf (arg1.view.read (Elt Ideal) X1) ci.val kk.val q.val := by
  rw [pieces4_apply]
  by_cases he : ci.val = k.val
  · rw [if_pos ⟨he, kk.isLt⟩, pay5_apply, chan_apply, he]
  · rw [if_neg (fun h => he h.1)]
    exact h4 ci kk q (by omega)

/-- The second buffer after trip `k` holds the rows of one group more. -/
theorem copied5 (X1 : BufTy.Contents (Elt Ideal) arg1.view.ty) (k : Fin k0_t1_loop.trips) (f5 : BufTy.Contents (Elt Ideal) arg5.view.ty)
    (h5 : ∀ (ci : Fin 32) (kk : Fin 16) (j : Fin 16) (q : Fin 784), ci.val < k.val →
      arg5.view.read (Elt Ideal) f5 (ix4 ci kk j q) = rowsOf (arg1.view.read (Elt Ideal) X1) ci.val kk.val q.val)
    (ci : Fin 32) (kk : Fin 16) (j : Fin 16) (q : Fin 784) (hc : ci.val < k.val + 1) :
    arg5.view.read (Elt Ideal) (arg5.view.writes (Elt Ideal) f5 (pieces5 k (fun m => k0_pay6 (chan arg1 X1 k m)) 16 (Nat.le_refl 16))) (ix4 ci kk j q)
      = rowsOf (arg1.view.read (Elt Ideal) X1) ci.val kk.val q.val := by
  rw [pieces5_apply]
  by_cases he : ci.val = k.val
  · rw [if_pos ⟨he, kk.isLt⟩, pay6_apply, chan_apply, he]
  · rw [if_neg (fun h => he h.1)]
    exact h5 ci kk j q (by omega)

/-- What the copying loop holds before trip `k`: the input block at its contents, and in the two scratch buffers the
    rows of the first `k` groups of channels. -/
abbrev copyRes (X1 : BufTy.Contents (Elt Ideal) arg1.view.ty) (k : ℕ) : sProp 𝕄 :=
  iprop((arg1.view.loc (c : Thread nD τ) ↦[arg1.view.set]{fullShare} X1)
    ∗ (∃ f4, ⌜∀ (ci : Fin 32) (kk : Fin 16) (q : Fin 784), ci.val < k →
          arg4.view.read (Elt Ideal) f4 (ix3 ci kk q) = rowsOf (arg1.view.read (Elt Ideal) X1) ci.val kk.val q.val⌝
        ∗ arg4.view.loc (c : Thread nD τ) ↦[arg4.view.set]{fullShare} f4)
    ∗ (∃ f5, ⌜∀ (ci : Fin 32) (kk : Fin 16) (j : Fin 16) (q : Fin 784), ci.val < k →
          arg5.view.read (Elt Ideal) f5 (ix4 ci kk j q) = rowsOf (arg1.view.read (Elt Ideal) X1) ci.val kk.val q.val⌝
        ∗ arg5.view.loc (c : Thread nD τ) ↦[arg5.view.set]{fullShare} f5))

set_option warn.classDefReducibility false in
/-- The copying loop keeps its resources from trip to trip. -/
@[sl_loop] def copyInv (X1 : BufTy.Contents (Elt Ideal) arg1.view.ty) :
    Idealize.ShloMosaic.LoopInv (M := MT nD τ sig Unit (Elt Ideal) ℕ (UR sig nD τ) ℕ) Idealize.ShloMosaic.frame (wpE defs₀ 𝒱₁ (c : Thread nD τ) none) Set.univ
    k0_t1_loop.lb k0_t1_loop.ub k0_t1_loop.st k0_t1_ok () (k0_t1_body (F := Ideal) i arg1 harg1 arg2 harg2 arg3 harg3 arg4 harg4 arg5 harg5) where
  inv k _ := copyRes c arg1 arg4 arg5 X1 k
  step k _ := by
    have hk : k.val < 32 := Nat.lt_of_lt_of_le k.isLt k0_t1_abs.2.1
    unfold copyRes k0_t1_body
    iintro ⟨H1, ⟨%f4, %h4, H4⟩, ⟨%f5, %h5, H5⟩⟩
    sl_exec
    sl_step
    isplitl [H1]; · iexact H1
    isplitl [H4]
    · iexists _
      isplitr; rotate_left
      · iexact H4
      · ipureintro
        exact copied4 arg1 arg4 X1 k f4 h4
    · iexists _
      isplitr; rotate_left
      · iexact H5
      · ipureintro
        exact copied5 arg1 arg5 X1 k f5 h5

end Cert.Proof.KernelIdeal

end
-- ==== Proof.IdealLoops.lean ====
module

public import proofs.«01_k».proof.Proof.IdealTile
public import proofs.«01_k».proof.Proof.ValueConvert

/-!
The kernel's thirteen loops over the groups of channels, one for each tile of rows, each as four trips of the same
function of its tile; and what each leaves in its accumulator.
-/

@[expose] public section

open Idealize.ShloMosaic

namespace Cert.Proof.KernelIdeal

open Cert.KernelIdeal Cert.KernelIdeal.Gen

noncomputable section

/-- A block of columns of a tile of 64 rows lies in the buffer, at every trip. -/
theorem inb64 (off : Fin k0_t2_loop.trips → BitVec 32 → Fin 3 → ℕ) (rp0 : ℕ) (h : rp0 + 64 ≤ 784)
    (heq : ∀ k (u : Fin 8), off k (BitVec.ofNat 32 u.val) = ![min (8 * k.val + u.val + 8) 31, 0, rp0]) :
    ∀ k (u : Fin 8) a, off k (BitVec.ofNat 32 u.val) a + S1x16x64.size a ≤ S32x16x784.size a := by
  intro k u a
  rw [heq]
  match a with
  | 0 => show min (8 * k.val + u.val + 8) 31 + 1 ≤ 32; omega
  | 1 => exact Nat.le_refl 16
  | 2 => exact h

/-- A block of columns of the tile of 16 rows lies in the buffer, at every trip. -/
theorem inb16 (off : Fin k0_t2_loop.trips → BitVec 32 → Fin 3 → ℕ) (rp0 : ℕ) (h : rp0 + 16 ≤ 784)
    (heq : ∀ k (u : Fin 8), off k (BitVec.ofNat 32 u.val) = ![min (8 * k.val + u.val + 8) 31, 0, rp0]) :
    ∀ k (u : Fin 8) a, off k (BitVec.ofNat 32 u.val) a + S1x16x16.size a ≤ S32x16x784.size a := by
  intro k u a
  rw [heq]
  match a with
  | 0 => show min (8 * k.val + u.val + 8) 31 + 1 ≤ 32; omega
  | 1 => exact Nat.le_refl 16
  | 2 => exact h

/-- The first blocks of columns lie in the buffer. -/
theorem inbCol (R rp0 : ℕ) (h : rp0 + R ≤ 784) (u : ℕ) (hu : u < 8) (a : Fin 3) :
    (![u, 0, rp0] : Fin 3 → ℕ) a + (⟨3, ![1, 16, R]⟩ : Shape).size a ≤ S32x16x784.size a := by
  match a with
  | 0 => show u + 1 ≤ 32; omega
  | 1 => exact Nat.le_refl 16
  | 2 => exact h

section

variable {R : ℕ} (T : TileOps R) (arg4 : Mem4) (X4 : BufTy.Contents (Elt Ideal) arg4.view.ty)
  (arg5 : Mem5) (X5 : BufTy.Contents (Elt Ideal) arg5.view.ty)

/-- The load of a block of columns before the first trip. -/
abbrev ldCol (R : ℕ) (arg4 : Mem4) (X4 : BufTy.Contents (Elt Ideal) arg4.view.ty) (rp0 : ℕ) (h : rp0 + R ≤ 784) (u : ℕ) (hu : u < 8) :
    Vec Ideal ⟨3, ![1, 16, R]⟩ .bf16 :=
  View.readAt (Elt Ideal) arg4.view
    (Rect.unit (s := S32x16x784) ![u, 0, rp0] (⟨3, ![1, 16, R]⟩ : Shape).size (inbCol R rp0 h u hu)).toLoadRect X4

/-- A block of columns loaded before the first trip. -/
def col0 (rp0 : ℕ) (h : rp0 + R ≤ 784) (u : ℕ) (hu : u < 8) : FVec Ideal ⟨2, ![R, 16]⟩ .bf16 :=
  T.col (ldCol R arg4 X4 rp0 h u hu)

/-- The empty accumulator of a tile. -/
def zeroAcc (R : ℕ) : FVec Ideal ⟨2, ![R, 784]⟩ .bf16 := broadcast _ (Scalar.ofBits .bf16 0x0000#16)

/-- What a tile's loop carries into its first trip. -/
def init0 (rp0 : ℕ) (h : rp0 + R ≤ 784) : Carry R :=
  (zeroAcc R, col0 T arg4 X4 rp0 h 0 (by decide), col0 T arg4 X4 rp0 h 1 (by decide), col0 T arg4 X4 rp0 h 2 (by decide),
    col0 T arg4 X4 rp0 h 3 (by decide), col0 T arg4 X4 rp0 h 4 (by decide), col0 T arg4 X4 rp0 h 5 (by decide),
    col0 T arg4 X4 rp0 h 6 (by decide), col0 T arg4 X4 rp0 h 7 (by decide))

variable {arg4 X4 arg5 X5} {B : ℕ → ℕ → ℕ → EReal}

/-- A block of columns loaded before the first trip, entry by entry. -/
theorem col0_apply (h4 : Holds4 arg4 X4 B) (rp0 : ℕ) (h : rp0 + R ≤ 784) (u : ℕ) (hu : u < 8) (r : Fin R) (kk : Fin 16) :
    col0 T arg4 X4 rp0 h u hu (ix2 r kk) = B u kk.val (rp0 + r.val) := by
  have hr := r.isLt
  rw [col0, T.col_apply, ldCol, View.readAt_apply, ← h4 ⟨u, by omega⟩ kk ⟨rp0 + r.val, by omega⟩]
  congr 1
  funext a
  apply Fin.ext
  match a with
  | 0 => show u + 1 * 0 = u; omega
  | 1 => show 0 + 1 * kk.val = kk.val; omega
  | 2 => show rp0 + 1 * r.val = rp0 + r.val; omega

/-- What a tile's loop carries into its first trip holds. -/
theorem init0_holds (h4 : Holds4 arg4 X4 B) (rp0 : ℕ) (h : rp0 + R ≤ 784) : Holds B rp0 0 (init0 T arg4 X4 rp0 h) := by
  refine ⟨fun r q => ?_, fun u r kk => ?_⟩
  · rw [Nat.mul_zero, Finset.sum_range_zero]
    unfold init0 zeroAcc
    pointwise
  · have e : min (8 * 0 + u.val) 31 = u.val := by omega
    rw [e, ← col0_apply T h4 rp0 h u.val u.isLt r kk]
    match u with
    | 0 | 1 | 2 | 3 | 4 | 5 | 6 | 7 => rfl

end

section

variable (arg4 : Mem4) (X4 : BufTy.Contents (Elt Ideal) arg4.view.ty)

/-- What the loop of a tile of 64 rows carries into its first trip. -/
def init64 (rp0 : ℕ) (h : rp0 + 64 ≤ 784) : Carry 64 :=
  (zeroAcc 64, col64 (ldCol 64 arg4 X4 rp0 h 0 (by decide)), col64 (ldCol 64 arg4 X4 rp0 h 1 (by decide)),
    col64 (ldCol 64 arg4 X4 rp0 h 2 (by decide)), col64 (ldCol 64 arg4 X4 rp0 h 3 (by decide)),
    col64 (ldCol 64 arg4 X4 rp0 h 4 (by decide)), col64 (ldCol 64 arg4 X4 rp0 h 5 (by decide)),
    col64 (ldCol 64 arg4 X4 rp0 h 6 (by decide)), col64 (ldCol 64 arg4 X4 rp0 h 7 (by decide)))

/-- What the loop of the tile of 16 rows carries into its first trip. -/
def init16 (rp0 : ℕ) (h : rp0 + 16 ≤ 784) : Carry 16 :=
  (zeroAcc 16, col16 (ldCol 16 arg4 X4 rp0 h 0 (by decide)), col16 (ldCol 16 arg4 X4 rp0 h 1 (by decide)),
    col16 (ldCol 16 arg4 X4 rp0 h 2 (by decide)), col16 (ldCol 16 arg4 X4 rp0 h 3 (by decide)),
    col16 (ldCol 16 arg4 X4 rp0 h 4 (by decide)), col16 (ldCol 16 arg4 X4 rp0 h 5 (by decide)),
    col16 (ldCol 16 arg4 X4 rp0 h 6 (by decide)), col16 (ldCol 16 arg4 X4 rp0 h 7 (by decide)))

/-- The tile's own columns are the common ones. -/
theorem init64_eq (rp0 : ℕ) (h : rp0 + 64 ≤ 784) : init64 arg4 X4 rp0 h = init0 tile64 arg4 X4 rp0 h := by
  unfold init0 col0 tile64
  rfl

/-- The tile's own columns are the common ones. -/
theorem init16_eq (rp0 : ℕ) (h : rp0 + 16 ≤ 784) : init16 arg4 X4 rp0 h = init0 tile16 arg4 X4 rp0 h := by
  unfold init0 col0 tile16
  rfl

end

/-- The distance of two positions: the sum over all channels. -/
def matOf (B : ℕ → ℕ → ℕ → EReal) (p q : ℕ) : EReal :=
  ∑ c ∈ Finset.range 32, ∑ kk ∈ Finset.range 16, dist (B c kk p) (B c kk q)

/-- A sum of columns taken further by one tile of 64 rows. -/
def sumStep (s : FVec Ideal S1x784 .f32) (a : FVec Ideal S64x784 .bf16) : FVec Ideal S1x784 .f32 :=
  addf s (shapeCast S1x784
      (multiReduction .add [0] S784 (extf .f32 a bitsLt_bf16_f32) 0x00000000#32 reduces_S64x784_S784 (.inl rfl) rfl)
      shapeCasts_S784_S1x784)

/-- The empty sum of columns. -/
def sum0 : FVec Ideal S1x784 .f32 := broadcast S1x784 (Scalar.ofBits .f32 0x00000000#32)

section

variable {B : ℕ → ℕ → ℕ → EReal}

variable (c : Dev nD) (i : grid0.Coords) (arg1 : Memref sig .tc .vmem S1x512x28x28 .f32) (harg1 : arg1.IsWhole)
  (arg2 : Memref sig .tc .vmem S1x28x28 .f32) (harg2 : arg2.IsWhole) (arg3 : Memref sig .tc .vmem S784x784 .f32) (harg3 : arg3.IsWhole)
  (arg4 : Memref sig .tc .vmem S32x16x784 .bf16) (harg4 : arg4.IsWhole) (arg5 : Memref sig .tc .vmem S32x16x16x784 .bf16) (harg5 : arg5.IsWhole)
  (X4 : BufTy.Contents (Elt Ideal) arg4.view.ty) (X5 : BufTy.Contents (Elt Ideal) arg5.view.ty)

/-- A trip of the loop of tile 0 is the common trip. -/
theorem trip_t2 𝒱 bd v1 v2 v5 v8 v11 v14 v17 v20 v23 v26 c0_i32_18 k acc :
    tripR_k0_t2 (F := Ideal) 𝒱 c bd i arg1 harg1 arg2 harg2 arg3 harg3 arg4 harg4 arg5 harg5 v1 v2 v5 v8 v11 v14 v17 v20 v23 v26 c0_i32_18 X4 X5 k acc
      = tripC tile64 arg4 X4 arg5 X5 k0_off50 (inb64 _ 0 (by decide) k0_off50_eq) k acc := by
  unfold tripR_k0_t2 trip_k0_t2
  rfl

/-- The accumulator of tile 0 after its loop. -/
def accTile0 : FVec Ideal S64x784 .bf16 :=
  (st_k0_t2 (F := Ideal) 𝒱₁ c none i arg1 harg1 arg2 harg2 arg3 harg3 arg4 harg4 arg5 harg5 sum0 (zeroAcc 64) (col64 (ldCol 64 arg4 X4 0 (by decide) 0 (by decide))) (col64 (ldCol 64 arg4 X4 0 (by decide) 1 (by decide))) (col64 (ldCol 64 arg4 X4 0 (by decide) 2 (by decide))) (col64 (ldCol 64 arg4 X4 0 (by decide) 3 (by decide))) (col64 (ldCol 64 arg4 X4 0 (by decide) 4 (by decide))) (col64 (ldCol 64 arg4 X4 0 (by decide) 5 (by decide))) (col64 (ldCol 64 arg4 X4 0 (by decide) 6 (by decide))) (col64 (ldCol 64 arg4 X4 0 (by decide) 7 (by decide))) 0#32 X4 X5
    (init64 arg4 X4 0 (by decide)) (Scf.trips k0_t2_loop.lb k0_t2_loop.ub k0_t2_loop.st)).1

/-- The accumulator of tile 0 holds its rows of distances. -/
theorem accTile0_apply (h4 : Holds4 arg4 X4 B) (h5 : Holds5 arg5 X5 B) (r : Fin 64) (q : Fin 784) :
    accTile0 c i arg1 harg1 arg2 harg2 arg3 harg3 arg4 harg4 arg5 harg5 X4 X5 (ix2 r q) = matOf B (0 + r.val) q.val := by
  refine (four_trips tile64 h4 h5 0 k0_off50 (inb64 _ 0 (by decide) k0_off50_eq) k0_off50_eq
    (fun n => st_k0_t2 (F := Ideal) 𝒱₁ c none i arg1 harg1 arg2 harg2 arg3 harg3 arg4 harg4 arg5 harg5 sum0 (zeroAcc 64) (col64 (ldCol 64 arg4 X4 0 (by decide) 0 (by decide))) (col64 (ldCol 64 arg4 X4 0 (by decide) 1 (by decide))) (col64 (ldCol 64 arg4 X4 0 (by decide) 2 (by decide))) (col64 (ldCol 64 arg4 X4 0 (by decide) 3 (by decide))) (col64 (ldCol 64 arg4 X4 0 (by decide) 4 (by decide))) (col64 (ldCol 64 arg4 X4 0 (by decide) 5 (by decide))) (col64 (ldCol 64 arg4 X4 0 (by decide) 6 (by decide))) (col64 (ldCol 64 arg4 X4 0 (by decide) 7 (by decide))) 0#32 X4 X5
      (init64 arg4 X4 0 (by decide)) n) ?_ ?_).1 r q
  · rw [st_k0_t2_zero, init64_eq]
    exact init0_holds tile64 h4 0 (by decide)
  · intro k
    refine (st_k0_t2_succ (F := Ideal) 𝒱₁ c none i arg1 harg1 arg2 harg2 arg3 harg3 arg4 harg4 arg5 harg5 _ _ _ _ _ _ _ _ _ _ _ X4 X5 _ k).trans ?_
    exact trip_t2 c i arg1 harg1 arg2 harg2 arg3 harg3 arg4 harg4 arg5 harg5 X4 X5 𝒱₁ none _ _ _ _ _ _ _ _ _ _ _ k _

/-- The sum of columns after tile 0. -/
def sumTile0 : FVec Ideal S1x784 .f32 := sumStep sum0 (accTile0 c i arg1 harg1 arg2 harg2 arg3 harg3 arg4 harg4 arg5 harg5 X4 X5)

/-- A trip of the loop of tile 1 is the common trip. -/
theorem trip_t3 𝒱 bd v35 v36 v39 v42 v45 v48 v51 v54 v57 k acc :
    tripR_k0_t3 (F := Ideal) 𝒱 c bd i arg1 harg1 arg2 harg2 arg3 harg3 arg4 harg4 arg5 harg5 v35 v36 v39 v42 v45 v48 v51 v54 v57 X4 X5 k acc
      = tripC tile64 arg4 X4 arg5 X5 k0_off67 (inb64 _ 64 (by decide) k0_off67_eq) k acc := by
  unfold tripR_k0_t3 trip_k0_t3
  rfl

/-- The accumulator of tile 1 after its loop. -/
def accTile1 : FVec Ideal S64x784 .bf16 :=
  (st_k0_t3 (F := Ideal) 𝒱₁ c none i arg1 harg1 arg2 harg2 arg3 harg3 arg4 harg4 arg5 harg5 (sumTile0 c i arg1 harg1 arg2 harg2 arg3 harg3 arg4 harg4 arg5 harg5 X4 X5) (zeroAcc 64) (col64 (ldCol 64 arg4 X4 64 (by decide) 0 (by decide))) (col64 (ldCol 64 arg4 X4 64 (by decide) 1 (by decide))) (col64 (ldCol 64 arg4 X4 64 (by decide) 2 (by decide))) (col64 (ldCol 64 arg4 X4 64 (by decide) 3 (by decide))) (col64 (ldCol 64 arg4 X4 64 (by decide) 4 (by decide))) (col64 (ldCol 64 arg4 X4 64 (by decide) 5 (by decide))) (col64 (ldCol 64 arg4 X4 64 (by decide) 6 (by decide))) X4 X5
    (init64 arg4 X4 64 (by decide)) (Scf.trips k0_t3_loop.lb k0_t3_loop.ub k0_t3_loop.st)).1

/-- The accumulator of tile 1 holds its rows of distances. -/
theorem accTile1_apply (h4 : Holds4 arg4 X4 B) (h5 : Holds5 arg5 X5 B) (r : Fin 64) (q : Fin 784) :
    accTile1 c i arg1 harg1 arg2 harg2 arg3 harg3 arg4 harg4 arg5 harg5 X4 X5 (ix2 r q) = matOf B (64 + r.val) q.val := by
  refine (four_trips tile64 h4 h5 64 k0_off67 (inb64 _ 64 (by decide) k0_off67_eq) k0_off67_eq
    (fun n => st_k0_t3 (F := Ideal) 𝒱₁ c none i arg1 harg1 arg2 harg2 arg3 harg3 arg4 harg4 arg5 harg5 (sumTile0 c i arg1 harg1 arg2 harg2 arg3 harg3 arg4 harg4 arg5 harg5 X4 X5) (zeroAcc 64) (col64 (ldCol 64 arg4 X4 64 (by decide) 0 (by decide))) (col64 (ldCol 64 arg4 X4 64 (by decide) 1 (by decide))) (col64 (ldCol 64 arg4 X4 64 (by decide) 2 (by decide))) (col64 (ldCol 64 arg4 X4 64 (by decide) 3 (by decide))) (col64 (ldCol 64 arg4 X4 64 (by decide) 4 (by decide))) (col64 (ldCol 64 arg4 X4 64 (by decide) 5 (by decide))) (col64 (ldCol 64 arg4 X4 64 (by decide) 6 (by decide))) X4 X5
      (init64 arg4 X4 64 (by decide)) n) ?_ ?_).1 r q
  · rw [st_k0_t3_zero, init64_eq]
    exact init0_holds tile64 h4 64 (by decide)
  · intro k
    refine (st_k0_t3_succ (F := Ideal) 𝒱₁ c none i arg1 harg1 arg2 harg2 arg3 harg3 arg4 harg4 arg5 harg5 _ _ _ _ _ _ _ _ _ X4 X5 _ k).trans ?_
    exact trip_t3 c i arg1 harg1 arg2 harg2 arg3 harg3 arg4 harg4 arg5 harg5 X4 X5 𝒱₁ none _ _ _ _ _ _ _ _ _ k _

/-- The sum of columns after tile 1. -/
def sumTile1 : FVec Ideal S1x784 .f32 := sumStep (sumTile0 c i arg1 harg1 arg2 harg2 arg3 harg3 arg4 harg4 arg5 harg5 X4 X5) (accTile1 c i arg1 harg1 arg2 harg2 arg3 harg3 arg4 harg4 arg5 harg5 X4 X5)

/-- A trip of the loop of tile 2 is the common trip. -/
theorem trip_t4 𝒱 bd v69 v70 v73 v76 v79 v82 v85 v87 k acc :
    tripR_k0_t4 (F := Ideal) 𝒱 c bd i arg1 harg1 arg2 harg2 arg3 harg3 arg4 harg4 arg5 harg5 v69 v70 v73 v76 v79 v82 v85 v87 X4 X5 k acc
      = tripC tile64 arg4 X4 arg5 X5 k0_off84 (inb64 _ 128 (by decide) k0_off84_eq) k acc := by
  unfold tripR_k0_t4 trip_k0_t4
  rfl

/-- The accumulator of tile 2 after its loop. -/
def accTile2 : FVec Ideal S64x784 .bf16 :=
  (st_k0_t4 (F := Ideal) 𝒱₁ c none i arg1 harg1 arg2 harg2 arg3 harg3 arg4 harg4 arg5 harg5 (sumTile1 c i arg1 harg1 arg2 harg2 arg3 harg3 arg4 harg4 arg5 harg5 X4 X5) (zeroAcc 64) (col64 (ldCol 64 arg4 X4 128 (by decide) 0 (by decide))) (col64 (ldCol 64 arg4 X4 128 (by decide) 1 (by decide))) (col64 (ldCol 64 arg4 X4 128 (by decide) 2 (by decide))) (col64 (ldCol 64 arg4 X4 128 (by decide) 3 (by decide))) (col64 (ldCol 64 arg4 X4 128 (by decide) 4 (by decide))) (shapeCast S16x64 (ldCol 64 arg4 X4 128 (by decide) 5 (by decide)) shapeCasts_S1x16x64_S16x64) X4 X5
    (init64 arg4 X4 128 (by decide)) (Scf.trips k0_t4_loop.lb k0_t4_loop.ub k0_t4_loop.st)).1

/-- The accumulator of tile 2 holds its rows of distances. -/
theorem accTile2_apply (h4 : Holds4 arg4 X4 B) (h5 : Holds5 arg5 X5 B) (r : Fin 64) (q : Fin 784) :
    accTile2 c i arg1 harg1 arg2 harg2 arg3 harg3 arg4 harg4 arg5 harg5 X4 X5 (ix2 r q) = matOf B (128 + r.val) q.val := by
  refine (four_trips tile64 h4 h5 128 k0_off84 (inb64 _ 128 (by decide) k0_off84_eq) k0_off84_eq
    (fun n => st_k0_t4 (F := Ideal) 𝒱₁ c none i arg1 harg1 arg2 harg2 arg3 harg3 arg4 harg4 arg5 harg5 (sumTile1 c i arg1 harg1 arg2 harg2 arg3 harg3 arg4 harg4 arg5 harg5 X4 X5) (zeroAcc 64) (col64 (ldCol 64 arg4 X4 128 (by decide) 0 (by decide))) (col64 (ldCol 64 arg4 X4 128 (by decide) 1 (by decide))) (col64 (ldCol 64 arg4 X4 128 (by decide) 2 (by decide))) (col64 (ldCol 64 arg4 X4 128 (by decide) 3 (by decide))) (col64 (ldCol 64 arg4 X4 128 (by decide) 4 (by decide))) (shapeCast S16x64 (ldCol 64 arg4 X4 128 (by decide) 5 (by decide)) shapeCasts_S1x16x64_S16x64) X4 X5
      (init64 arg4 X4 128 (by decide)) n) ?_ ?_).1 r q
  · rw [st_k0_t4_zero, init64_eq]
    exact init0_holds tile64 h4 128 (by decide)
  · intro k
    refine (st_k0_t4_succ (F := Ideal) 𝒱₁ c none i arg1 harg1 arg2 harg2 arg3 harg3 arg4 harg4 arg5 harg5 _ _ _ _ _ _ _ _ X4 X5 _ k).trans ?_
    exact trip_t4 c i arg1 harg1 arg2 harg2 arg3 harg3 arg4 harg4 arg5 harg5 X4 X5 𝒱₁ none _ _ _ _ _ _ _ _ k _

/-- The sum of columns after tile 2. -/
def sumTile2 : FVec Ideal S1x784 .f32 := sumStep (sumTile1 c i arg1 harg1 arg2 harg2 arg3 harg3 arg4 harg4 arg5 harg5 X4 X5) (accTile2 c i arg1 harg1 arg2 harg2 arg3 harg3 arg4 harg4 arg5 harg5 X4 X5)

/-- A trip of the loop of tile 3 is the common trip. -/
theorem trip_t5 𝒱 bd v103 v104 v107 v110 v113 v116 v117 k acc :
    tripR_k0_t5 (F := Ideal) 𝒱 c bd i arg1 harg1 arg2 harg2 arg3 harg3 arg4 harg4 arg5 harg5 v103 v104 v107 v110 v113 v116 v117 X4 X5 k acc
      = tripC tile64 arg4 X4 arg5 X5 k0_off101 (inb64 _ 192 (by decide) k0_off101_eq) k acc := by
  unfold tripR_k0_t5 trip_k0_t5
  rfl

/-- The accumulator of tile 3 after its loop. -/
def accTile3 : FVec Ideal S64x784 .bf16 :=
  (st_k0_t5 (F := Ideal) 𝒱₁ c none i arg1 harg1 arg2 harg2 arg3 harg3 arg4 harg4 arg5 harg5 (sumTile2 c i arg1 harg1 arg2 harg2 arg3 harg3 arg4 harg4 arg5 harg5 X4 X5) (zeroAcc 64) (col64 (ldCol 64 arg4 X4 192 (by decide) 0 (by decide))) (col64 (ldCol 64 arg4 X4 192 (by decide) 1 (by decide))) (col64 (ldCol 64 arg4 X4 192 (by decide) 2 (by decide))) (col64 (ldCol 64 arg4 X4 192 (by decide) 3 (by decide))) (ldCol 64 arg4 X4 192 (by decide) 4 (by decide)) X4 X5
    (init64 arg4 X4 192 (by decide)) (Scf.trips k0_t5_loop.lb k0_t5_loop.ub k0_t5_loop.st)).1

/-- The accumulator of tile 3 holds its rows of distances. -/
theorem accTile3_apply (h4 : Holds4 arg4 X4 B) (h5 : Holds5 arg5 X5 B) (r : Fin 64) (q : Fin 784) :
    accTile3 c i arg1 harg1 arg2 harg2 arg3 harg3 arg4 harg4 arg5 harg5 X4 X5 (ix2 r q) = matOf B (192 + r.val) q.val := by
  refine (four_trips tile64 h4 h5 192 k0_off101 (inb64 _ 192 (by decide) k0_off101_eq) k0_off101_eq
    (fun n => st_k0_t5 (F := Ideal) 𝒱₁ c none i arg1 harg1 arg2 harg2 arg3 harg3 arg4 harg4 arg5 harg5 (sumTile2 c i arg1 harg1 arg2 harg2 arg3 harg3 arg4 harg4 arg5 harg5 X4 X5) (zeroAcc 64) (col64 (ldCol 64 arg4 X4 192 (by decide) 0 (by decide))) (col64 (ldCol 64 arg4 X4 192 (by decide) 1 (by decide))) (col64 (ldCol 64 arg4 X4 192 (by decide) 2 (by decide))) (col64 (ldCol 64 arg4 X4 192 (by decide) 3 (by decide))) (ldCol 64 arg4 X4 192 (by decide) 4 (by decide)) X4 X5
      (init64 arg4 X4 192 (by decide)) n) ?_ ?_).1 r q
  · rw [st_k0_t5_zero, init64_eq]
    exact init0_holds tile64 h4 192 (by decide)
  · intro k
    refine (st_k0_t5_succ (F := Ideal) 𝒱₁ c none i arg1 harg1 arg2 harg2 arg3 harg3 arg4 harg4 arg5 harg5 _ _ _ _ _ _ _ X4 X5 _ k).trans ?_
    exact trip_t5 c i arg1 harg1 arg2 harg2 arg3 harg3 arg4 harg4 arg5 harg5 X4 X5 𝒱₁ none _ _ _ _ _ _ _ k _

/-- The sum of columns after tile 3. -/
def sumTile3 : FVec Ideal S1x784 .f32 := sumStep (sumTile2 c i arg1 harg1 arg2 harg2 arg3 harg3 arg4 harg4 arg5 harg5 X4 X5) (accTile3 c i arg1 harg1 arg2 harg2 arg3 harg3 arg4 harg4 arg5 harg5 X4 X5)

/-- A trip of the loop of tile 4 is the common trip. -/
theorem trip_t6 𝒱 bd v137 v138 v141 v144 v147 k acc :
    tripR_k0_t6 (F := Ideal) 𝒱 c bd i arg1 harg1 arg2 harg2 arg3 harg3 arg4 harg4 arg5 harg5 v137 v138 v141 v144 v147 X4 X5 k acc
      = tripC tile64 arg4 X4 arg5 X5 k0_off118 (inb64 _ 256 (by decide) k0_off118_eq) k acc := by
  unfold tripR_k0_t6 trip_k0_t6
  rfl

/-- The accumulator of tile 4 after its loop. -/
def accTile4 : FVec Ideal S64x784 .bf16 :=
  (st_k0_t6 (F := Ideal) 𝒱₁ c none i arg1 harg1 arg2 harg2 arg3 harg3 arg4 harg4 arg5 harg5 (sumTile3 c i arg1 harg1 arg2 harg2 arg3 harg3 arg4 harg4 arg5 harg5 X4 X5) (zeroAcc 64) (col64 (ldCol 64 arg4 X4 256 (by decide) 0 (by decide))) (col64 (ldCol 64 arg4 X4 256 (by decide) 1 (by decide))) (col64 (ldCol 64 arg4 X4 256 (by decide) 2 (by decide))) X4 X5
    (init64 arg4 X4 256 (by decide)) (Scf.trips k0_t6_loop.lb k0_t6_loop.ub k0_t6_loop.st)).1

/-- The accumulator of tile 4 holds its rows of distances. -/
theorem accTile4_apply (h4 : Holds4 arg4 X4 B) (h5 : Holds5 arg5 X5 B) (r : Fin 64) (q : Fin 784) :
    accTile4 c i arg1 harg1 arg2 harg2 arg3 harg3 arg4 harg4 arg5 harg5 X4 X5 (ix2 r q) = matOf B (256 + r.val) q.val := by
  refine (four_trips tile64 h4 h5 256 k0_off118 (inb64 _ 256 (by decide) k0_off118_eq) k0_off118_eq
    (fun n => st_k0_t6 (F := Ideal) 𝒱₁ c none i arg1 harg1 arg2 harg2 arg3 harg3 arg4 harg4 arg5 harg5 (sumTile3 c i arg1 harg1 arg2 harg2 arg3 harg3 arg4 harg4 arg5 harg5 X4 X5) (zeroAcc 64) (col64 (ldCol 64 arg4 X4 256 (by decide) 0 (by decide))) (col64 (ldCol 64 arg4 X4 256 (by decide) 1 (by decide))) (col64 (ldCol 64 arg4 X4 256 (by decide) 2 (by decide))) X4 X5
      (init64 arg4 X4 256 (by decide)) n) ?_ ?_).1 r q
  · rw [st_k0_t6_zero, init64_eq]
    exact init0_holds tile64 h4 256 (by decide)
  · intro k
    refine (st_k0_t6_succ (F := Ideal) 𝒱₁ c none i arg1 harg1 arg2 harg2 arg3 harg3 arg4 harg4 arg5 harg5 _ _ _ _ _ X4 X5 _ k).trans ?_
    exact trip_t6 c i arg1 harg1 arg2 harg2 arg3 harg3 arg4 harg4 arg5 harg5 X4 X5 𝒱₁ none _ _ _ _ _ k _

/-- The sum of columns after tile 4. -/
def sumTile4 : FVec Ideal S1x784 .f32 := sumStep (sumTile3 c i arg1 harg1 arg2 harg2 arg3 harg3 arg4 harg4 arg5 harg5 X4 X5) (accTile4 c i arg1 harg1 arg2 harg2 arg3 harg3 arg4 harg4 arg5 harg5 X4 X5)

/-- A trip of the loop of tile 5 is the common trip. -/
theorem trip_t7 𝒱 bd v171 v172 v175 v178 k acc :
    tripR_k0_t7 (F := Ideal) 𝒱 c bd i arg1 harg1 arg2 harg2 arg3 harg3 arg4 harg4 arg5 harg5 v171 v172 v175 v178 X4 X5 k acc
      = tripC tile64 arg4 X4 arg5 X5 k0_off135 (inb64 _ 320 (by decide) k0_off135_eq) k acc := by
  unfold tripR_k0_t7 trip_k0_t7
  rfl

/-- The accumulator of tile 5 after its loop. -/
def accTile5 : FVec Ideal S64x784 .bf16 :=
  (st_k0_t7 (F := Ideal) 𝒱₁ c none i arg1 harg1 arg2 harg2 arg3 harg3 arg4 harg4 arg5 harg5 (sumTile4 c i arg1 harg1 arg2 harg2 arg3 harg3 arg4 harg4 arg5 harg5 X4 X5) (zeroAcc 64) (col64 (ldCol 64 arg4 X4 320 (by decide) 0 (by decide))) (col64 (ldCol 64 arg4 X4 320 (by decide) 1 (by decide))) X4 X5
    (init64 arg4 X4 320 (by decide)) (Scf.trips k0_t7_loop.lb k0_t7_loop.ub k0_t7_loop.st)).1

/-- The accumulator of tile 5 holds its rows of distances. -/
theorem accTile5_apply (h4 : Holds4 arg4 X4 B) (h5 : Holds5 arg5 X5 B) (r : Fin 64) (q : Fin 784) :
    accTile5 c i arg1 harg1 arg2 harg2 arg3 harg3 arg4 harg4 arg5 harg5 X4 X5 (ix2 r q) = matOf B (320 + r.val) q.val := by
  refine (four_trips tile64 h4 h5 320 k0_off135 (inb64 _ 320 (by decide) k0_off135_eq) k0_off135_eq
    (fun n => st_k0_t7 (F := Ideal) 𝒱₁ c none i arg1 harg1 arg2 harg2 arg3 harg3 arg4 harg4 arg5 harg5 (sumTile4 c i arg1 harg1 arg2 harg2 arg3 harg3 arg4 harg4 arg5 harg5 X4 X5) (zeroAcc 64) (col64 (ldCol 64 arg4 X4 320 (by decide) 0 (by decide))) (col64 (ldCol 64 arg4 X4 320 (by decide) 1 (by decide))) X4 X5
      (init64 arg4 X4 320 (by decide)) n) ?_ ?_).1 r q
  · rw [st_k0_t7_zero, init64_eq]
    exact init0_holds tile64 h4 320 (by decide)
  · intro k
    refine (st_k0_t7_succ (F := Ideal) 𝒱₁ c none i arg1 harg1 arg2 harg2 arg3 harg3 arg4 harg4 arg5 harg5 _ _ _ _ X4 X5 _ k).trans ?_
    exact trip_t7 c i arg1 harg1 arg2 harg2 arg3 harg3 arg4 harg4 arg5 harg5 X4 X5 𝒱₁ none _ _ _ _ k _

/-- The sum of columns after tile 5. -/
def sumTile5 : FVec Ideal S1x784 .f32 := sumStep (sumTile4 c i arg1 harg1 arg2 harg2 arg3 harg3 arg4 harg4 arg5 harg5 X4 X5) (accTile5 c i arg1 harg1 arg2 harg2 arg3 harg3 arg4 harg4 arg5 harg5 X4 X5)

/-- A trip of the loop of tile 6 is the common trip. -/
theorem trip_t8 𝒱 bd v205 v206 v209 k acc :
    tripR_k0_t8 (F := Ideal) 𝒱 c bd i arg1 harg1 arg2 harg2 arg3 harg3 arg4 harg4 arg5 harg5 v205 v206 v209 X4 X5 k acc
      = tripC tile64 arg4 X4 arg5 X5 k0_off152 (inb64 _ 384 (by decide) k0_off152_eq) k acc := by
  unfold tripR_k0_t8 trip_k0_t8
  rfl

/-- The accumulator of tile 6 after its loop. -/
def accTile6 : FVec Ideal S64x784 .bf16 :=
  (st_k0_t8 (F := Ideal) 𝒱₁ c none i arg1 harg1 arg2 harg2 arg3 harg3 arg4 harg4 arg5 harg5 (sumTile5 c i arg1 harg1 arg2 harg2 arg3 harg3 arg4 harg4 arg5 harg5 X4 X5) (zeroAcc 64) (col64 (ldCol 64 arg4 X4 384 (by decide) 0 (by decide))) X4 X5
    (init64 arg4 X4 384 (by decide)) (Scf.trips k0_t8_loop.lb k0_t8_loop.ub k0_t8_loop.st)).1

/-- The accumulator of tile 6 holds its rows of distances. -/
theorem accTile6_apply (h4 : Holds4 arg4 X4 B) (h5 : Holds5 arg5 X5 B) (r : Fin 64) (q : Fin 784) :
    accTile6 c i arg1 harg1 arg2 harg2 arg3 harg3 arg4 harg4 arg5 harg5 X4 X5 (ix2 r q) = matOf B (384 + r.val) q.val := by
  refine (four_trips tile64 h4 h5 384 k0_off152 (inb64 _ 384 (by decide) k0_off152_eq) k0_off152_eq
    (fun n => st_k0_t8 (F := Ideal) 𝒱₁ c none i arg1 harg1 arg2 harg2 arg3 harg3 arg4 harg4 arg5 harg5 (sumTile5 c i arg1 harg1 arg2 harg2 arg3 harg3 arg4 harg4 arg5 harg5 X4 X5) (zeroAcc 64) (col64 (ldCol 64 arg4 X4 384 (by decide) 0 (by decide))) X4 X5
      (init64 arg4 X4 384 (by decide)) n) ?_ ?_).1 r q
  · rw [st_k0_t8_zero, init64_eq]
    exact init0_holds tile64 h4 384 (by decide)
  · intro k
    refine (st_k0_t8_succ (F := Ideal) 𝒱₁ c none i arg1 harg1 arg2 harg2 arg3 harg3 arg4 harg4 arg5 harg5 _ _ _ X4 X5 _ k).trans ?_
    exact trip_t8 c i arg1 harg1 arg2 harg2 arg3 harg3 arg4 harg4 arg5 harg5 X4 X5 𝒱₁ none _ _ _ k _

/-- The sum of columns after tile 6. -/
def sumTile6 : FVec Ideal S1x784 .f32 := sumStep (sumTile5 c i arg1 harg1 arg2 harg2 arg3 harg3 arg4 harg4 arg5 harg5 X4 X5) (accTile6 c i arg1 harg1 arg2 harg2 arg3 harg3 arg4 harg4 arg5 harg5 X4 X5)

/-- A trip of the loop of tile 7 is the common trip. -/
theorem trip_t9 𝒱 bd v240 k acc :
    tripR_k0_t9 (F := Ideal) 𝒱 c bd i arg1 harg1 arg2 harg2 arg3 harg3 arg4 harg4 arg5 harg5 v240 X4 X5 k acc
      = tripC tile64 arg4 X4 arg5 X5 k0_off169 (inb64 _ 448 (by decide) k0_off169_eq) k acc := by
  unfold tripR_k0_t9 trip_k0_t9
  rfl

/-- The accumulator of tile 7 after its loop. -/
def accTile7 : FVec Ideal S64x784 .bf16 :=
  (st_k0_t9 (F := Ideal) 𝒱₁ c none i arg1 harg1 arg2 harg2 arg3 harg3 arg4 harg4 arg5 harg5 (zeroAcc 64) X4 X5
    (init64 arg4 X4 448 (by decide)) (Scf.trips k0_t9_loop.lb k0_t9_loop.ub k0_t9_loop.st)).1

/-- The accumulator of tile 7 holds its rows of distances. -/
theorem accTile7_apply (h4 : Holds4 arg4 X4 B) (h5 : Holds5 arg5 X5 B) (r : Fin 64) (q : Fin 784) :
    accTile7 c i arg1 harg1 arg2 harg2 arg3 harg3 arg4 harg4 arg5 harg5 X4 X5 (ix2 r q) = matOf B (448 + r.val) q.val := by
  refine (four_trips tile64 h4 h5 448 k0_off169 (inb64 _ 448 (by decide) k0_off169_eq) k0_off169_eq
    (fun n => st_k0_t9 (F := Ideal) 𝒱₁ c none i arg1 harg1 arg2 harg2 arg3 harg3 arg4 harg4 arg5 harg5 (zeroAcc 64) X4 X5
      (init64 arg4 X4 448 (by decide)) n) ?_ ?_).1 r q
  · rw [st_k0_t9_zero, init64_eq]
    exact init0_holds tile64 h4 448 (by decide)
  · intro k
    refine (st_k0_t9_succ (F := Ideal) 𝒱₁ c none i arg1 harg1 arg2 harg2 arg3 harg3 arg4 harg4 arg5 harg5 _ X4 X5 _ k).trans ?_
    exact trip_t9 c i arg1 harg1 arg2 harg2 arg3 harg3 arg4 harg4 arg5 harg5 X4 X5 𝒱₁ none _ k _

/-- The sum of columns after tile 7. -/
def sumTile7 : FVec Ideal S1x784 .f32 := sumStep (sumTile6 c i arg1 harg1 arg2 harg2 arg3 harg3 arg4 harg4 arg5 harg5 X4 X5) (accTile7 c i arg1 harg1 arg2 harg2 arg3 harg3 arg4 harg4 arg5 harg5 X4 X5)

/-- A trip of the loop of tile 8 is the common trip. -/
theorem trip_t10 𝒱 bd v239 v267 v270 k acc :
    tripR_k0_t10 (F := Ideal) 𝒱 c bd i arg1 harg1 arg2 harg2 arg3 harg3 arg4 harg4 arg5 harg5 v239 v267 v270 X4 X5 k acc
      = tripC tile64 arg4 X4 arg5 X5 k0_off186 (inb64 _ 512 (by decide) k0_off186_eq) k acc := by
  unfold tripR_k0_t10 trip_k0_t10
  rfl

/-- The accumulator of tile 8 after its loop. -/
def accTile8 : FVec Ideal S64x784 .bf16 :=
  (st_k0_t10 (F := Ideal) 𝒱₁ c none i arg1 harg1 arg2 harg2 arg3 harg3 arg4 harg4 arg5 harg5 (sumTile6 c i arg1 harg1 arg2 harg2 arg3 harg3 arg4 harg4 arg5 harg5 X4 X5) (extf .f32 (accTile7 c i arg1 harg1 arg2 harg2 arg3 harg3 arg4 harg4 arg5 harg5 X4 X5) bitsLt_bf16_f32) (shapeCast S64x784 (extf .f32 (accTile7 c i arg1 harg1 arg2 harg2 arg3 harg3 arg4 harg4 arg5 harg5 X4 X5) bitsLt_bf16_f32) shapeCasts_S64x784_S64x784) X4 X5
    (init64 arg4 X4 512 (by decide)) (Scf.trips k0_t10_loop.lb k0_t10_loop.ub k0_t10_loop.st)).1

/-- The accumulator of tile 8 holds its rows of distances. -/
theorem accTile8_apply (h4 : Holds4 arg4 X4 B) (h5 : Holds5 arg5 X5 B) (r : Fin 64) (q : Fin 784) :
    accTile8 c i arg1 harg1 arg2 harg2 arg3 harg3 arg4 harg4 arg5 harg5 X4 X5 (ix2 r q) = matOf B (512 + r.val) q.val := by
  refine (four_trips tile64 h4 h5 512 k0_off186 (inb64 _ 512 (by decide) k0_off186_eq) k0_off186_eq
    (fun n => st_k0_t10 (F := Ideal) 𝒱₁ c none i arg1 harg1 arg2 harg2 arg3 harg3 arg4 harg4 arg5 harg5 (sumTile6 c i arg1 harg1 arg2 harg2 arg3 harg3 arg4 harg4 arg5 harg5 X4 X5) (extf .f32 (accTile7 c i arg1 harg1 arg2 harg2 arg3 harg3 arg4 harg4 arg5 harg5 X4 X5) bitsLt_bf16_f32) (shapeCast S64x784 (extf .f32 (accTile7 c i arg1 harg1 arg2 harg2 arg3 harg3 arg4 harg4 arg5 harg5 X4 X5) bitsLt_bf16_f32) shapeCasts_S64x784_S64x784) X4 X5
      (init64 arg4 X4 512 (by decide)) n) ?_ ?_).1 r q
  · rw [st_k0_t10_zero, init64_eq]
    exact init0_holds tile64 h4 512 (by decide)
  · intro k
    refine (st_k0_t10_succ (F := Ideal) 𝒱₁ c none i arg1 harg1 arg2 harg2 arg3 harg3 arg4 harg4 arg5 harg5 _ _ _ X4 X5 _ k).trans ?_
    exact trip_t10 c i arg1 harg1 arg2 harg2 arg3 harg3 arg4 harg4 arg5 harg5 X4 X5 𝒱₁ none _ _ _ k _

/-- The sum of columns after tile 8. -/
def sumTile8 : FVec Ideal S1x784 .f32 := sumStep (sumTile7 c i arg1 harg1 arg2 harg2 arg3 harg3 arg4 harg4 arg5 harg5 X4 X5) (accTile8 c i arg1 harg1 arg2 harg2 arg3 harg3 arg4 harg4 arg5 harg5 X4 X5)

/-- A trip of the loop of tile 9 is the common trip. -/
theorem trip_t11 𝒱 bd v307 v308 v311 v314 v317 v320 v323 v326 v329 v330 k acc :
    tripR_k0_t11 (F := Ideal) 𝒱 c bd i arg1 harg1 arg2 harg2 arg3 harg3 arg4 harg4 arg5 harg5 v307 v308 v311 v314 v317 v320 v323 v326 v329 v330 X4 X5 k acc
      = tripC tile64 arg4 X4 arg5 X5 k0_off203 (inb64 _ 576 (by decide) k0_off203_eq) k acc := by
  unfold tripR_k0_t11 trip_k0_t11
  rfl

/-- The accumulator of tile 9 after its loop. -/
def accTile9 : FVec Ideal S64x784 .bf16 :=
  (st_k0_t11 (F := Ideal) 𝒱₁ c none i arg1 harg1 arg2 harg2 arg3 harg3 arg4 harg4 arg5 harg5 (sumTile8 c i arg1 harg1 arg2 harg2 arg3 harg3 arg4 harg4 arg5 harg5 X4 X5) (zeroAcc 64) (col64 (ldCol 64 arg4 X4 576 (by decide) 0 (by decide))) (col64 (ldCol 64 arg4 X4 576 (by decide) 1 (by decide))) (col64 (ldCol 64 arg4 X4 576 (by decide) 2 (by decide))) (col64 (ldCol 64 arg4 X4 576 (by decide) 3 (by decide))) (col64 (ldCol 64 arg4 X4 576 (by decide) 4 (by decide))) (col64 (ldCol 64 arg4 X4 576 (by decide) 5 (by decide))) (col64 (ldCol 64 arg4 X4 576 (by decide) 6 (by decide))) (ldCol 64 arg4 X4 576 (by decide) 7 (by decide)) X4 X5
    (init64 arg4 X4 576 (by decide)) (Scf.trips k0_t11_loop.lb k0_t11_loop.ub k0_t11_loop.st)).1

/-- The accumulator of tile 9 holds its rows of distances. -/
theorem accTile9_apply (h4 : Holds4 arg4 X4 B) (h5 : Holds5 arg5 X5 B) (r : Fin 64) (q : Fin 784) :
    accTile9 c i arg1 harg1 arg2 harg2 arg3 harg3 arg4 harg4 arg5 harg5 X4 X5 (ix2 r q) = matOf B (576 + r.val) q.val := by
  refine (four_trips tile64 h4 h5 576 k0_off203 (inb64 _ 576 (by decide) k0_off203_eq) k0_off203_eq
    (fun n => st_k0_t11 (F := Ideal) 𝒱₁ c none i arg1 harg1 arg2 harg2 arg3 harg3 arg4 harg4 arg5 harg5 (sumTile8 c i arg1 harg1 arg2 harg2 arg3 harg3 arg4 harg4 arg5 harg5 X4 X5) (zeroAcc 64) (col64 (ldCol 64 arg4 X4 576 (by decide) 0 (by decide))) (col64 (ldCol 64 arg4 X4 576 (by decide) 1 (by decide))) (col64 (ldCol 64 arg4 X4 576 (by decide) 2 (by decide))) (col64 (ldCol 64 arg4 X4 576 (by decide) 3 (by decide))) (col64 (ldCol 64 arg4 X4 576 (by decide) 4 (by decide))) (col64 (ldCol 64 arg4 X4 576 (by decide) 5 (by decide))) (col64 (ldCol 64 arg4 X4 576 (by decide) 6 (by decide))) (ldCol 64 arg4 X4 576 (by decide) 7 (by decide)) X4 X5
      (init64 arg4 X4 576 (by decide)) n) ?_ ?_).1 r q
  · rw [st_k0_t11_zero, init64_eq]
    exact init0_holds tile64 h4 576 (by decide)
  · intro k
    refine (st_k0_t11_succ (F := Ideal) 𝒱₁ c none i arg1 harg1 arg2 harg2 arg3 harg3 arg4 harg4 arg5 harg5 _ _ _ _ _ _ _ _ _ _ X4 X5 _ k).trans ?_
    exact trip_t11 c i arg1 harg1 arg2 harg2 arg3 harg3 arg4 harg4 arg5 harg5 X4 X5 𝒱₁ none _ _ _ _ _ _ _ _ _ _ k _

/-- The sum of columns after tile 9. -/
def sumTile9 : FVec Ideal S1x784 .f32 := sumStep (sumTile8 c i arg1 harg1 arg2 harg2 arg3 harg3 arg4 harg4 arg5 harg5 X4 X5) (accTile9 c i arg1 harg1 arg2 harg2 arg3 harg3 arg4 harg4 arg5 harg5 X4 X5)

/-- A trip of the loop of tile 10 is the common trip. -/
theorem trip_t12 𝒱 bd v341 v342 v345 v348 v351 v354 v357 v360 k acc :
    tripR_k0_t12 (F := Ideal) 𝒱 c bd i arg1 harg1 arg2 harg2 arg3 harg3 arg4 harg4 arg5 harg5 v341 v342 v345 v348 v351 v354 v357 v360 X4 X5 k acc
      = tripC tile64 arg4 X4 arg5 X5 k0_off220 (inb64 _ 640 (by decide) k0_off220_eq) k acc := by
  unfold tripR_k0_t12 trip_k0_t12
  rfl

/-- The accumulator of tile 10 after its loop. -/
def accTile10 : FVec Ideal S64x784 .bf16 :=
  (st_k0_t12 (F := Ideal) 𝒱₁ c none i arg1 harg1 arg2 harg2 arg3 harg3 arg4 harg4 arg5 harg5 (sumTile9 c i arg1 harg1 arg2 harg2 arg3 harg3 arg4 harg4 arg5 harg5 X4 X5) (zeroAcc 64) (col64 (ldCol 64 arg4 X4 640 (by decide) 0 (by decide))) (col64 (ldCol 64 arg4 X4 640 (by decide) 1 (by decide))) (col64 (ldCol 64 arg4 X4 640 (by decide) 2 (by decide))) (col64 (ldCol 64 arg4 X4 640 (by decide) 3 (by decide))) (col64 (ldCol 64 arg4 X4 640 (by decide) 4 (by decide))) (col64 (ldCol 64 arg4 X4 640 (by decide) 5 (by decide))) X4 X5
    (init64 arg4 X4 640 (by decide)) (Scf.trips k0_t12_loop.lb k0_t12_loop.ub k0_t12_loop.st)).1

/-- The accumulator of tile 10 holds its rows of distances. -/
theorem accTile10_apply (h4 : Holds4 arg4 X4 B) (h5 : Holds5 arg5 X5 B) (r : Fin 64) (q : Fin 784) :
    accTile10 c i arg1 harg1 arg2 harg2 arg3 harg3 arg4 harg4 arg5 harg5 X4 X5 (ix2 r q) = matOf B (640 + r.val) q.val := by
  refine (four_trips tile64 h4 h5 640 k0_off220 (inb64 _ 640 (by decide) k0_off220_eq) k0_off220_eq
    (fun n => st_k0_t12 (F := Ideal) 𝒱₁ c none i arg1 harg1 arg2 harg2 arg3 harg3 arg4 harg4 arg5 harg5 (sumTile9 c i arg1 harg1 arg2 harg2 arg3 harg3 arg4 harg4 arg5 harg5 X4 X5) (zeroAcc 64) (col64 (ldCol 64 arg4 X4 640 (by decide) 0 (by decide))) (col64 (ldCol 64 arg4 X4 640 (by decide) 1 (by decide))) (col64 (ldCol 64 arg4 X4 640 (by decide) 2 (by decide))) (col64 (ldCol 64 arg4 X4 640 (by decide) 3 (by decide))) (col64 (ldCol 64 arg4 X4 640 (by decide) 4 (by decide))) (col64 (ldCol 64 arg4 X4 640 (by decide) 5 (by decide))) X4 X5
      (init64 arg4 X4 640 (by decide)) n) ?_ ?_).1 r q
  · rw [st_k0_t12_zero, init64_eq]
    exact init0_holds tile64 h4 640 (by decide)
  · intro k
    refine (st_k0_t12_succ (F := Ideal) 𝒱₁ c none i arg1 harg1 arg2 harg2 arg3 harg3 arg4 harg4 arg5 harg5 _ _ _ _ _ _ _ _ X4 X5 _ k).trans ?_
    exact trip_t12 c i arg1 harg1 arg2 harg2 arg3 harg3 arg4 harg4 arg5 harg5 X4 X5 𝒱₁ none _ _ _ _ _ _ _ _ k _

/-- The sum of columns after tile 10. -/
def sumTile10 : FVec Ideal S1x784 .f32 := sumStep (sumTile9 c i arg1 harg1 arg2 harg2 arg3 harg3 arg4 harg4 arg5 harg5 X4 X5) (accTile10 c i arg1 harg1 arg2 harg2 arg3 harg3 arg4 harg4 arg5 harg5 X4 X5)

/-- A trip of the loop of tile 11 is the common trip. -/
theorem trip_t13 𝒱 bd v375 v376 v379 v382 v385 v388 v391 k acc :
    tripR_k0_t13 (F := Ideal) 𝒱 c bd i arg1 harg1 arg2 harg2 arg3 harg3 arg4 harg4 arg5 harg5 v375 v376 v379 v382 v385 v388 v391 X4 X5 k acc
      = tripC tile64 arg4 X4 arg5 X5 k0_off237 (inb64 _ 704 (by decide) k0_off237_eq) k acc := by
  unfold tripR_k0_t13 trip_k0_t13
  rfl

/-- The accumulator of tile 11 after its loop. -/
def accTile11 : FVec Ideal S64x784 .bf16 :=
  (st_k0_t13 (F := Ideal) 𝒱₁ c none i arg1 harg1 arg2 harg2 arg3 harg3 arg4 harg4 arg5 harg5 (sumTile10 c i arg1 harg1 arg2 harg2 arg3 harg3 arg4 harg4 arg5 harg5 X4 X5) (zeroAcc 64) (col64 (ldCol 64 arg4 X4 704 (by decide) 0 (by decide))) (col64 (ldCol 64 arg4 X4 704 (by decide) 1 (by decide))) (col64 (ldCol 64 arg4 X4 704 (by decide) 2 (by decide))) (col64 (ldCol 64 arg4 X4 704 (by decide) 3 (by decide))) (col64 (ldCol 64 arg4 X4 704 (by decide) 4 (by decide))) X4 X5
    (init64 arg4 X4 704 (by decide)) (Scf.trips k0_t13_loop.lb k0_t13_loop.ub k0_t13_loop.st)).1

/-- The accumulator of tile 11 holds its rows of distances. -/
theorem accTile11_apply (h4 : Holds4 arg4 X4 B) (h5 : Holds5 arg5 X5 B) (r : Fin 64) (q : Fin 784) :
    accTile11 c i arg1 harg1 arg2 harg2 arg3 harg3 arg4 harg4 arg5 harg5 X4 X5 (ix2 r q) = matOf B (704 + r.val) q.val := by
  refine (four_trips tile64 h4 h5 704 k0_off237 (inb64 _ 704 (by decide) k0_off237_eq) k0_off237_eq
    (fun n => st_k0_t13 (F := Ideal) 𝒱₁ c none i arg1 harg1 arg2 harg2 arg3 harg3 arg4 harg4 arg5 harg5 (sumTile10 c i arg1 harg1 arg2 harg2 arg3 harg3 arg4 harg4 arg5 harg5 X4 X5) (zeroAcc 64) (col64 (ldCol 64 arg4 X4 704 (by decide) 0 (by decide))) (col64 (ldCol 64 arg4 X4 704 (by decide) 1 (by decide))) (col64 (ldCol 64 arg4 X4 704 (by decide) 2 (by decide))) (col64 (ldCol 64 arg4 X4 704 (by decide) 3 (by decide))) (col64 (ldCol 64 arg4 X4 704 (by decide) 4 (by decide))) X4 X5
      (init64 arg4 X4 704 (by decide)) n) ?_ ?_).1 r q
  · rw [st_k0_t13_zero, init64_eq]
    exact init0_holds tile64 h4 704 (by decide)
  · intro k
    refine (st_k0_t13_succ (F := Ideal) 𝒱₁ c none i arg1 harg1 arg2 harg2 arg3 harg3 arg4 harg4 arg5 harg5 _ _ _ _ _ _ _ X4 X5 _ k).trans ?_
    exact trip_t13 c i arg1 harg1 arg2 harg2 arg3 harg3 arg4 harg4 arg5 harg5 X4 X5 𝒱₁ none _ _ _ _ _ _ _ k _

/-- The sum of columns after tile 11. -/
def sumTile11 : FVec Ideal S1x784 .f32 := sumStep (sumTile10 c i arg1 harg1 arg2 harg2 arg3 harg3 arg4 harg4 arg5 harg5 X4 X5) (accTile11 c i arg1 harg1 arg2 harg2 arg3 harg3 arg4 harg4 arg5 harg5 X4 X5)

/-- A trip of the loop of tile 12 is the common trip. -/
theorem trip_t14 𝒱 bd v409 v410 v413 v416 v419 v422 k acc :
    tripR_k0_t14 (F := Ideal) 𝒱 c bd i arg1 harg1 arg2 harg2 arg3 harg3 arg4 harg4 arg5 harg5 v409 v410 v413 v416 v419 v422 X4 X5 k acc
      = tripC tile16 arg4 X4 arg5 X5 k0_off254 (inb16 _ 768 (by decide) k0_off254_eq) k acc := by
  unfold tripR_k0_t14 trip_k0_t14
  rfl

/-- The accumulator of tile 12 after its loop. -/
def accTile12 : FVec Ideal S16x784 .bf16 :=
  (st_k0_t14 (F := Ideal) 𝒱₁ c none i arg1 harg1 arg2 harg2 arg3 harg3 arg4 harg4 arg5 harg5 (sumTile11 c i arg1 harg1 arg2 harg2 arg3 harg3 arg4 harg4 arg5 harg5 X4 X5) (zeroAcc 16) (col16 (ldCol 16 arg4 X4 768 (by decide) 0 (by decide))) (col16 (ldCol 16 arg4 X4 768 (by decide) 1 (by decide))) (col16 (ldCol 16 arg4 X4 768 (by decide) 2 (by decide))) (col16 (ldCol 16 arg4 X4 768 (by decide) 3 (by decide))) X4 X5
    (init16 arg4 X4 768 (by decide)) (Scf.trips k0_t14_loop.lb k0_t14_loop.ub k0_t14_loop.st)).1

/-- The accumulator of tile 12 holds its rows of distances. -/
theorem accTile12_apply (h4 : Holds4 arg4 X4 B) (h5 : Holds5 arg5 X5 B) (r : Fin 16) (q : Fin 784) :
    accTile12 c i arg1 harg1 arg2 harg2 arg3 harg3 arg4 harg4 arg5 harg5 X4 X5 (ix2 r q) = matOf B (768 + r.val) q.val := by
  refine (four_trips tile16 h4 h5 768 k0_off254 (inb16 _ 768 (by decide) k0_off254_eq) k0_off254_eq
    (fun n => st_k0_t14 (F := Ideal) 𝒱₁ c none i arg1 harg1 arg2 harg2 arg3 harg3 arg4 harg4 arg5 harg5 (sumTile11 c i arg1 harg1 arg2 harg2 arg3 harg3 arg4 harg4 arg5 harg5 X4 X5) (zeroAcc 16) (col16 (ldCol 16 arg4 X4 768 (by decide) 0 (by decide))) (col16 (ldCol 16 arg4 X4 768 (by decide) 1 (by decide))) (col16 (ldCol 16 arg4 X4 768 (by decide) 2 (by decide))) (col16 (ldCol 16 arg4 X4 768 (by decide) 3 (by decide))) X4 X5
      (init16 arg4 X4 768 (by decide)) n) ?_ ?_).1 r q
  · rw [st_k0_t14_zero, init16_eq]
    exact init0_holds tile16 h4 768 (by decide)
  · intro k
    refine (st_k0_t14_succ (F := Ideal) 𝒱₁ c none i arg1 harg1 arg2 harg2 arg3 harg3 arg4 harg4 arg5 harg5 _ _ _ _ _ _ X4 X5 _ k).trans ?_
    exact trip_t14 c i arg1 harg1 arg2 harg2 arg3 harg3 arg4 harg4 arg5 harg5 X4 X5 𝒱₁ none _ _ _ _ _ _ k _

/-- The accumulators of the tiles of 64 rows. -/
def accTiles : Fin 12 → FVec Ideal S64x784 .bf16 :=
  ![accTile0 c i arg1 harg1 arg2 harg2 arg3 harg3 arg4 harg4 arg5 harg5 X4 X5,
    accTile1 c i arg1 harg1 arg2 harg2 arg3 harg3 arg4 harg4 arg5 harg5 X4 X5,
    accTile2 c i arg1 harg1 arg2 harg2 arg3 harg3 arg4 harg4 arg5 harg5 X4 X5,
    accTile3 c i arg1 harg1 arg2 harg2 arg3 harg3 arg4 harg4 arg5 harg5 X4 X5,
    accTile4 c i arg1 harg1 arg2 harg2 arg3 harg3 arg4 harg4 arg5 harg5 X4 X5,
    accTile5 c i arg1 harg1 arg2 harg2 arg3 harg3 arg4 harg4 arg5 harg5 X4 X5,
    accTile6 c i arg1 harg1 arg2 harg2 arg3 harg3 arg4 harg4 arg5 harg5 X4 X5,
    accTile7 c i arg1 harg1 arg2 harg2 arg3 harg3 arg4 harg4 arg5 harg5 X4 X5,
    accTile8 c i arg1 harg1 arg2 harg2 arg3 harg3 arg4 harg4 arg5 harg5 X4 X5,
    accTile9 c i arg1 harg1 arg2 harg2 arg3 harg3 arg4 harg4 arg5 harg5 X4 X5,
    accTile10 c i arg1 harg1 arg2 harg2 arg3 harg3 arg4 harg4 arg5 harg5 X4 X5,
    accTile11 c i arg1 harg1 arg2 harg2 arg3 harg3 arg4 harg4 arg5 harg5 X4 X5]

end

end

end Cert.Proof.KernelIdeal
-- ==== Proof.IdealProducts.lean ====
module

public import proofs.«01_k».proof.Proof.IdealTile

/-!
The ten products of a vector by the matrix, as the kernel's body names them: each a full product, or the part of one
that a stretch of the body leaves to the next.
-/

@[expose] public section

open Idealize.ShloMosaic

namespace Cert.Proof.KernelIdeal

open Cert.KernelIdeal Cert.KernelIdeal.Gen

noncomputable section

variable (r : FVec Ideal S1x784 .f32) (D : Fin 7 → Vec Ideal S112x784 .f32)

/-- A band of 112 columns lies in the vectors. -/
theorem slicesBand (t : ℕ) (ht : t < 7) : S8x784.Slices ![0, 112 * t] S8x112 := by
  have : ∀ t : Fin 7, S8x784.Slices ![0, 112 * t.val] S8x112 := by decide
  exact this ⟨t, ht⟩

/-- A band of the vectors. -/
def cut (u : FVec Ideal S8x784 .f32) (t : ℕ) (ht : t < 7) : FVec Ideal S8x112 .f32 :=
  extractStridedSlice S8x112 ![0, 112 * t] u (slicesBand t ht)

/-- A band of the vectors by a band of the matrix. -/
def bandProd (u : FVec Ideal S8x784 .f32) (t : ℕ) (ht : t < 7) : FVec Ideal S8x784 .f32 :=
  matmul (φ₂ := .f32) dot_S8x112_S112x784_S8x784_1_0_0_1_n_n none (cut u t ht) (D ⟨t, ht⟩) (constant S8x784 .f32 0x00000000#32)

/-- The product of the vectors by the first `t` bands of the matrix. -/
def prodN (u : FVec Ideal S8x784 .f32) : (t : ℕ) → t ≤ 7 → FVec Ideal S8x784 .f32
  | 0, _ => broadcast S8x784 (Scalar.ofBits .f32 0x00000000#32)
  | t + 1, h => addf (prodN u t (by omega)) (bandProd D u t h)

/-- One product by the matrix and by the reciprocals. -/
def stepV (u : FVec Ideal S8x784 .f32) : FVec Ideal S8x784 .f32 :=
  mulf (prodN D u 7 (Nat.le_refl 7)) (broadcastTo S8x784 r broadcasts_S1x784_S8x784)

/-- The vectors after `n` products. -/
def vecN : ℕ → FVec Ideal S8x784 .f32
  | 0 => broadcast S8x784 (Named.named κ "inv_p" 0x3AA72F05#32)
  | n + 1 => stepV r D (vecN n)

/-- A value of the body: a part of a product. -/
def w71 : FVec Ideal S8x784 .f32 :=
  k0_pay1127 (D 0)

/-- A value of the body: the vectors after 1 products. -/
def w72 : FVec Ideal S8x784 .f32 :=
  k0_pay1129 r (k0_pay1126 (F := Ideal)) (w71 D) (k0_pay1128 (F := Ideal)) (D 1) (D 2) (D 3) (D 4) (D 5) (D 6)

/-- A value of the body: a part of a product. -/
def w73 : FVec Ideal S8x784 .f32 :=
  k0_pay1130 r (k0_pay1126 (F := Ideal)) (w71 D) (k0_pay1128 (F := Ideal)) (D 1) (D 2) (D 3) (D 4) (D 5) (D 6) (D 0) (D 1)

/-- A value of the body: a part of a product. -/
def w74 : FVec Ideal S8x112 .f32 :=
  k0_pay1131 r (k0_pay1126 (F := Ideal)) (w71 D) (k0_pay1128 (F := Ideal)) (D 1) (D 2) (D 3) (D 4) (D 5) (D 6)

/-- A value of the body: the vectors after 2 products. -/
def w75 : FVec Ideal S8x784 .f32 :=
  k0_pay1132 r (w72 r D) (w73 r D) (w74 r D) (D 2) (D 3) (D 4) (D 5) (D 6)

/-- A value of the body: a part of a product. -/
def w76 : FVec Ideal S8x784 .f32 :=
  k0_pay1133 r (w72 r D) (w73 r D) (w74 r D) (D 2) (D 3) (D 4) (D 5) (D 6) (D 0) (D 1) (D 2)

/-- A value of the body: a part of a product. -/
def w77 : FVec Ideal S8x112 .f32 :=
  k0_pay1134 r (w72 r D) (w73 r D) (w74 r D) (D 2) (D 3) (D 4) (D 5) (D 6)

/-- A value of the body: the vectors after 3 products. -/
def w78 : FVec Ideal S8x784 .f32 :=
  k0_pay1135 r (w75 r D) (w76 r D) (w77 r D) (D 3) (D 4) (D 5) (D 6)

/-- A value of the body: a part of a product. -/
def w79 : FVec Ideal S8x784 .f32 :=
  k0_pay1136 r (w75 r D) (w76 r D) (w77 r D) (D 3) (D 4) (D 5) (D 6) (D 0) (D 1) (D 2) (D 3)

/-- A value of the body: a part of a product. -/
def w80 : FVec Ideal S8x112 .f32 :=
  k0_pay1137 r (w75 r D) (w76 r D) (w77 r D) (D 3) (D 4) (D 5) (D 6)

/-- A value of the body: the vectors after 4 products. -/
def w81 : FVec Ideal S8x784 .f32 :=
  k0_pay1138 r (w78 r D) (w79 r D) (w80 r D) (D 4) (D 5) (D 6)

/-- A value of the body: a part of a product. -/
def w82 : FVec Ideal S8x784 .f32 :=
  k0_pay1139 r (w78 r D) (w79 r D) (w80 r D) (D 4) (D 5) (D 6) (D 0) (D 1) (D 2) (D 3) (D 4)

/-- A value of the body: a part of a product. -/
def w83 : FVec Ideal S8x112 .f32 :=
  k0_pay1140 r (w78 r D) (w79 r D) (w80 r D) (D 4) (D 5) (D 6)

/-- A value of the body: a part of a product. -/
def w84 : FVec Ideal S8x784 .f32 :=
  k0_pay1142 r (w81 r D) (w82 r D) (w83 r D) (D 5) (D 6) (D 0) (D 1) (D 2) (D 3) (D 4) (D 5)

/-- A value of the body: a part of a product. -/
def w85 : FVec Ideal S8x112 .f32 :=
  k0_pay1143 r (w81 r D) (w82 r D) (w83 r D) (D 5) (D 6)

/-- A value of the body: the vectors after 7 products. -/
def w86 : FVec Ideal S8x784 .f32 :=
  k0_pay1144 r (w84 r D) (w85 r D) (D 6) (D 0) (D 1) (D 2) (D 3) (D 4) (D 5) (D 6)

/-- A value of the body: the vectors after 8 products. -/
def w87 : FVec Ideal S8x784 .f32 :=
  k0_pay1145 r (w86 r D) (Scalar.ofBits (F := Ideal) .f32 0x00000000#32) (D 0) (D 1) (D 2) (D 3) (D 4) (D 5) (D 6)

/-- A value of the body: a part of a product. -/
def w88 : FVec Ideal S8x784 .f32 :=
  k0_pay1147 r (w86 r D) (Scalar.ofBits (F := Ideal) .f32 0x00000000#32) (D 0) (D 1) (D 2) (D 3) (D 4) (D 5) (D 6) (D 0)

/-- A value of the body: the vectors after 9 products. -/
def w89 : FVec Ideal S8x784 .f32 :=
  k0_pay1148 r (w87 r D) (k0_pay1146 (F := Ideal)) (w88 r D) (D 1) (D 2) (D 3) (D 4) (D 5) (D 6)

/-- A value of the body: a part of a product. -/
def w90 : FVec Ideal S8x784 .f32 :=
  k0_pay1149 r (w87 r D) (k0_pay1146 (F := Ideal)) (w88 r D) (D 1) (D 2) (D 3) (D 4) (D 5) (D 6) (D 0)

/-- A value of the body: a part of a product. -/
def w91 : FVec Ideal S8x784 .f32 :=
  k0_pay1150 r (w87 r D) (k0_pay1146 (F := Ideal)) (w88 r D) (D 1) (D 2) (D 3) (D 4) (D 5) (D 6) (D 1)

/-- A value of the body: the vectors after 10 products. -/
def w92 : FVec Ideal S8x784 .f32 :=
  k0_pay1151 r (w89 r D) (w90 r D) (w91 r D) (D 2) (D 3) (D 4) (D 5) (D 6)

variable (u : FVec Ideal S8x784 .f32)

/-- Value 71. -/
theorem w71_eq : w71 D = prodN D (vecN r D 0) 1 (by decide) := rfl

/-- Value 72. -/
theorem w72_eq : w72 r D = vecN r D 1 := rfl

/-- Value 73. -/
theorem w73_eq : w73 r D = prodN D (vecN r D 1) 2 (by decide) := rfl

/-- Value 74. -/
theorem w74_eq : w74 r D = cut (vecN r D 1) 2 (by decide) := rfl

/-- Value 75, from any vectors. -/
theorem w75_of :
    k0_pay1132 r u (prodN D u 2 (by decide)) (cut u 2 (by decide)) (D 2) (D 3) (D 4) (D 5) (D 6)
      = (stepV r D u) := rfl

/-- Value 75. -/
theorem w75_eq : w75 r D = vecN r D 2 := by
  rw [w75, w72_eq, w73_eq, w74_eq]
  exact w75_of r D (vecN r D 1)

/-- Value 76, from any vectors. -/
theorem w76_of :
    k0_pay1133 r u (prodN D u 2 (by decide)) (cut u 2 (by decide)) (D 2) (D 3) (D 4) (D 5) (D 6) (D 0) (D 1) (D 2)
      = prodN D (stepV r D u) 3 (by decide) := rfl

/-- Value 76. -/
theorem w76_eq : w76 r D = prodN D (vecN r D 2) 3 (by decide) := by
  rw [w76, w72_eq, w73_eq, w74_eq]
  exact w76_of r D (vecN r D 1)

/-- Value 77, from any vectors. -/
theorem w77_of :
    k0_pay1134 r u (prodN D u 2 (by decide)) (cut u 2 (by decide)) (D 2) (D 3) (D 4) (D 5) (D 6)
      = cut (stepV r D u) 3 (by decide) := rfl

/-- Value 77. -/
theorem w77_eq : w77 r D = cut (vecN r D 2) 3 (by decide) := by
  rw [w77, w72_eq, w73_eq, w74_eq]
  exact w77_of r D (vecN r D 1)

/-- Value 78, from any vectors. -/
theorem w78_of :
    k0_pay1135 r u (prodN D u 3 (by decide)) (cut u 3 (by decide)) (D 3) (D 4) (D 5) (D 6)
      = (stepV r D u) := rfl

/-- Value 78. -/
theorem w78_eq : w78 r D = vecN r D 3 := by
  rw [w78, w75_eq, w76_eq, w77_eq]
  exact w78_of r D (vecN r D 2)

/-- Value 79, from any vectors. -/
theorem w79_of :
    k0_pay1136 r u (prodN D u 3 (by decide)) (cut u 3 (by decide)) (D 3) (D 4) (D 5) (D 6) (D 0) (D 1) (D 2) (D 3)
      = prodN D (stepV r D u) 4 (by decide) := rfl

/-- Value 79. -/
theorem w79_eq : w79 r D = prodN D (vecN r D 3) 4 (by decide) := by
  rw [w79, w75_eq, w76_eq, w77_eq]
  exact w79_of r D (vecN r D 2)

/-- Value 80, from any vectors. -/
theorem w80_of :
    k0_pay1137 r u (prodN D u 3 (by decide)) (cut u 3 (by decide)) (D 3) (D 4) (D 5) (D 6)
      = cut (stepV r D u) 4 (by decide) := rfl

/-- Value 80. -/
theorem w80_eq : w80 r D = cut (vecN r D 3) 4 (by decide) := by
  rw [w80, w75_eq, w76_eq, w77_eq]
  exact w80_of r D (vecN r D 2)

/-- Value 81, from any vectors. -/
theorem w81_of :
    k0_pay1138 r u (prodN D u 4 (by decide)) (cut u 4 (by decide)) (D 4) (D 5) (D 6)
      = (stepV r D u) := rfl

/-- Value 81. -/
theorem w81_eq : w81 r D = vecN r D 4 := by
  rw [w81, w78_eq, w79_eq, w80_eq]
  exact w81_of r D (vecN r D 3)

/-- Value 82, from any vectors. -/
theorem w82_of :
    k0_pay1139 r u (prodN D u 4 (by decide)) (cut u 4 (by decide)) (D 4) (D 5) (D 6) (D 0) (D 1) (D 2) (D 3) (D 4)
      = prodN D (stepV r D u) 5 (by decide) := rfl

/-- Value 82. -/
theorem w82_eq : w82 r D = prodN D (vecN r D 4) 5 (by decide) := by
  rw [w82, w78_eq, w79_eq, w80_eq]
  exact w82_of r D (vecN r D 3)

/-- Value 83, from any vectors. -/
theorem w83_of :
    k0_pay1140 r u (prodN D u 4 (by decide)) (cut u 4 (by decide)) (D 4) (D 5) (D 6)
      = cut (stepV r D u) 5 (by decide) := rfl

/-- Value 83. -/
theorem w83_eq : w83 r D = cut (vecN r D 4) 5 (by decide) := by
  rw [w83, w78_eq, w79_eq, w80_eq]
  exact w83_of r D (vecN r D 3)

/-- Value 84, from any vectors. -/
theorem w84_of :
    k0_pay1142 r u (prodN D u 5 (by decide)) (cut u 5 (by decide)) (D 5) (D 6) (D 0) (D 1) (D 2) (D 3) (D 4) (D 5)
      = prodN D (stepV r D u) 6 (by decide) := rfl

/-- Value 84. -/
theorem w84_eq : w84 r D = prodN D (vecN r D 5) 6 (by decide) := by
  rw [w84, w81_eq, w82_eq, w83_eq]
  exact w84_of r D (vecN r D 4)

/-- Value 85, from any vectors. -/
theorem w85_of :
    k0_pay1143 r u (prodN D u 5 (by decide)) (cut u 5 (by decide)) (D 5) (D 6)
      = cut (stepV r D u) 6 (by decide) := rfl

/-- Value 85. -/
theorem w85_eq : w85 r D = cut (vecN r D 5) 6 (by decide) := by
  rw [w85, w81_eq, w82_eq, w83_eq]
  exact w85_of r D (vecN r D 4)

/-- Value 86, from any vectors. -/
theorem w86_of :
    k0_pay1144 r (prodN D u 6 (by decide)) (cut u 6 (by decide)) (D 6) (D 0) (D 1) (D 2) (D 3) (D 4) (D 5) (D 6)
      = (stepV r D (stepV r D u)) := rfl

/-- Value 86. -/
theorem w86_eq : w86 r D = vecN r D 7 := by
  rw [w86, w84_eq, w85_eq]
  exact w86_of r D (vecN r D 5)

/-- Value 87, from any vectors. -/
theorem w87_of :
    k0_pay1145 r u (Scalar.ofBits (F := Ideal) .f32 0x00000000#32) (D 0) (D 1) (D 2) (D 3) (D 4) (D 5) (D 6)
      = (stepV r D u) := rfl

/-- Value 87. -/
theorem w87_eq : w87 r D = vecN r D 8 := by
  rw [w87, w86_eq]
  exact w87_of r D (vecN r D 7)

/-- Value 88, from any vectors. -/
theorem w88_of :
    k0_pay1147 r u (Scalar.ofBits (F := Ideal) .f32 0x00000000#32) (D 0) (D 1) (D 2) (D 3) (D 4) (D 5) (D 6) (D 0)
      = bandProd D (stepV r D u) 0 (by decide) := rfl

/-- Value 88. -/
theorem w88_eq : w88 r D = bandProd D (vecN r D 8) 0 (by decide) := by
  rw [w88, w86_eq]
  exact w88_of r D (vecN r D 7)

/-- Value 89, from any vectors. -/
theorem w89_of :
    k0_pay1148 r u (k0_pay1146 (F := Ideal)) (bandProd D u 0 (by decide)) (D 1) (D 2) (D 3) (D 4) (D 5) (D 6)
      = (stepV r D u) := rfl

/-- Value 89. -/
theorem w89_eq : w89 r D = vecN r D 9 := by
  rw [w89, w87_eq, w88_eq]
  exact w89_of r D (vecN r D 8)

/-- Value 90, from any vectors. -/
theorem w90_of :
    k0_pay1149 r u (k0_pay1146 (F := Ideal)) (bandProd D u 0 (by decide)) (D 1) (D 2) (D 3) (D 4) (D 5) (D 6) (D 0)
      = prodN D (stepV r D u) 1 (by decide) := rfl

/-- Value 90. -/
theorem w90_eq : w90 r D = prodN D (vecN r D 9) 1 (by decide) := by
  rw [w90, w87_eq, w88_eq]
  exact w90_of r D (vecN r D 8)

/-- Value 91, from any vectors. -/
theorem w91_of :
    k0_pay1150 r u (k0_pay1146 (F := Ideal)) (bandProd D u 0 (by decide)) (D 1) (D 2) (D 3) (D 4) (D 5) (D 6) (D 1)
      = bandProd D (stepV r D u) 1 (by decide) := rfl

/-- Value 91. -/
theorem w91_eq : w91 r D = bandProd D (vecN r D 9) 1 (by decide) := by
  rw [w91, w87_eq, w88_eq]
  exact w91_of r D (vecN r D 8)

/-- Value 92, from any vectors. -/
theorem w92_of :
    k0_pay1151 r u (prodN D u 1 (by decide)) (bandProd D u 1 (by decide)) (D 2) (D 3) (D 4) (D 5) (D 6)
      = (stepV r D u) := rfl

/-- Value 92. -/
theorem w92_eq : w92 r D = vecN r D 10 := by
  rw [w92, w89_eq, w90_eq, w91_eq]
  exact w92_of r D (vecN r D 9)

end

end Cert.Proof.KernelIdeal
-- ==== Proof.IdealChain.lean ====
module

public import proofs.«01_k».proof.Proof.IdealTile
public import proofs.«01_k».proof.Proof.IdealProducts
public import Idealize.ShloMosaic.Lib.WritesUnit

/-!
What the kernel's body does with its thirteen tiles of rows: it stores them as the distance matrix, sums the
columns, and multiplies a vector ten times by the matrix and by the reciprocals of the sums, before it
stores the vector row by row.
-/

@[expose] public section

open Idealize.ShloMosaic

namespace Cert.Proof.KernelIdeal

open Cert.KernelIdeal Cert.KernelIdeal.Gen

noncomputable section

/-- The scratch holding the distance matrix. -/
abbrev Mem3 := Memref sig .tc .vmem S784x784 .f32
/-- The output block. -/
abbrev Mem2 := Memref sig .tc .vmem S1x28x28 .f32

variable (A : Fin 12 → FVec Ideal S64x784 .bf16) (A12 : FVec Ideal S16x784 .bf16)

/-- A tile of 64 rows lies in the matrix. -/
theorem inbTile (n : ℕ) (hn : n < 12) (a : Fin 2) :
    (![64 * n, 0] : Fin 2 → ℕ) a + S64x784.size a ≤ S784x784.size a := by
  match a with
  | 0 => show 64 * n + 64 ≤ 784; omega
  | 1 => exact Nat.le_refl 784

/-- The stores of the first `n` tiles, the newest first. -/
def tilesN : (n : ℕ) → n ≤ 12 → List (View.Piece (Elt Ideal) S784x784 .f32)
  | 0, _ => []
  | n + 1, h => ⟨Rect.unit (s := S784x784) ![64 * n, 0] S64x784.size (inbTile n h),
      shapeCast S64x784 (extf .f32 (A ⟨n, h⟩) bitsLt_bf16_f32) shapeCasts_S64x784_S64x784⟩ :: tilesN n (by omega)

/-- The stores of all thirteen tiles. -/
def tilesAll : List (View.Piece (Elt Ideal) S784x784 .f32) :=
  ⟨Rect.unit (s := S784x784) ![768, 0] S16x784.size inb_S784x784_S16x784_768_0,
    shapeCast S16x784 (extf .f32 A12 bitsLt_bf16_f32) shapeCasts_S16x784_S16x784⟩ :: tilesN A 12 (Nat.le_refl 12)

/-- The column sums of the first `n` tiles. -/
def sumsN : (n : ℕ) → n ≤ 12 → FVec Ideal S1x784 .f32
  | 0, _ => broadcast S1x784 (Scalar.ofBits .f32 0x00000000#32)
  | n + 1, h => addf (sumsN n (by omega)) (shapeCast S1x784
      (multiReduction .add [0] S784 (extf .f32 (A ⟨n, h⟩) bitsLt_bf16_f32) 0x00000000#32 reduces_S64x784_S784 (.inl rfl) rfl)
      shapeCasts_S784_S1x784)

/-- The column sums of all thirteen tiles. -/
def sumsAll : FVec Ideal S1x784 .f32 :=
  addf (sumsN A 12 (Nat.le_refl 12)) (shapeCast S1x784
    (multiReduction .add [0] S784 (extf .f32 A12 bitsLt_bf16_f32) 0x00000000#32 reduces_S16x784_S784 (.inl rfl) rfl)
    shapeCasts_S784_S1x784)

/-- The reciprocals of the column sums, each held above a small constant. -/
def recips : FVec Ideal S1x784 .f32 :=
  divf (broadcast S1x784 (Scalar.ofBits .f32 0x3F800000#32))
    (maximumf (sumsAll A A12) (broadcast S1x784 (Scalar.ofBits .f32 0x2B8CBCCC#32)))

/-- A band of 112 rows lies in the matrix. -/
theorem inbBand (t : ℕ) (ht : t < 7) (a : Fin 2) :
    (![112 * t, 0] : Fin 2 → ℕ) a + S112x784.size a ≤ S784x784.size a := by
  match a with
  | 0 => show 112 * t + 112 ≤ 784; omega
  | 1 => exact Nat.le_refl 784

variable (arg3 : Mem3)

/-- A band of 112 rows of the matrix, as loaded back. -/
def band (t : ℕ) (ht : t < 7) : Vec Ideal S112x784 .f32 :=
  arg3.view.readCov (tilesAll A A12) (Rect.unit (s := S784x784) ![112 * t, 0] S112x784.size (inbBand t ht)).toLoadRect

/-- The seven bands of the matrix, as loaded back. -/
def bands : Fin 7 → Vec Ideal S112x784 .f32 := fun t => band A A12 arg3 t.val t.isLt

/-- A row lies in the output block. -/
theorem inbOut (n : ℕ) (hn : n < 28) (a : Fin 3) :
    (![0, n, 0] : Fin 3 → ℕ) a + S1x1x28.size a ≤ S1x28x28.size a := by
  match a with
  | 0 => exact Nat.le_refl 1
  | 1 => show n + 1 ≤ 28; omega
  | 2 => exact Nat.le_refl 28

/-- A row's entries lie in the vectors. -/
theorem slicesOut (n : ℕ) (hn : n < 28) : S8x784.Slices ![0, 28 * n] S1x28 := by
  have : ∀ t : Fin 28, S8x784.Slices ![0, 28 * t.val] S1x28 := by decide
  exact this ⟨n, hn⟩

/-- The stores of the first `n` rows of the output, the newest first. -/
def outN (u : FVec Ideal S8x784 .f32) : (n : ℕ) → n ≤ 28 → List (View.Piece (Elt Ideal) S1x28x28 .f32)
  | 0, _ => []
  | n + 1, h => ⟨Rect.unit (s := S1x28x28) ![0, n, 0] S1x1x28.size (inbOut n h),
      shapeCast S1x1x28 (extractStridedSlice S1x28 ![0, 28 * n] u (slicesOut n h)) shapeCasts_S1x28_S1x1x28⟩ :: outN u n (by omega)

/-- The output block after the first `n` stores. -/
theorem outN_apply (arg2 : Mem2) (f2 : BufTy.Contents (Elt Ideal) arg2.view.ty) (u : FVec Ideal S8x784 .f32)
    (n : ℕ) (hn : n ≤ 28) (i j : Fin 28) (hi : i.val < n) :
    arg2.view.read (Elt Ideal) (arg2.view.writes (Elt Ideal) f2 (outN u n hn)) (ix3 0 i j)
      = u (ix2 0 ⟨28 * i.val + j.val, by omega⟩) := by
  induction n with
  | zero => omega
  | succ n ih =>
    rw [outN]
    by_cases h : i.val = n
    · refine (View.read_writes_cons_unit_of_mem arg2.view f2 (inbOut n hn) _ _ _
        (ix3 (0 : Fin 1) (0 : Fin 1) j) rfl ?_).trans ?_
      · intro a
        match a with
        | 0 => rfl
        | 1 => exact h
        | 2 => exact (Nat.zero_add _).symm
      · subst h
        pointwise
    · rw [← ih (by omega) (by omega)]
      exact View.read_writes_cons_miss_of_axis arg2.view f2 _ _ _ 1 n 1 rfl rfl rfl (by show i.val < n ∨ n + 1 ≤ i.val; omega)

variable (D : ℕ → ℕ → EReal)

/-- The tiles hold the matrix. -/
def TilesHold : Prop :=
  (∀ (n : Fin 12) (r : Fin 64) (q : Fin 784), A n (ix2 r q) = D (64 * n.val + r.val) q.val) ∧
    ∀ (r : Fin 16) (q : Fin 784), A12 (ix2 r q) = D (768 + r.val) q.val

variable {A A12 D}

/-- The matrix after the first `n` stores. -/
theorem tilesN_apply (hA : TilesHold A A12 D) (f3 : BufTy.Contents (Elt Ideal) arg3.view.ty)
    (n : ℕ) (hn : n ≤ 12) (p q : Fin 784) (hp : p.val < 64 * n) :
    arg3.view.read (Elt Ideal) (arg3.view.writes (Elt Ideal) f3 (tilesN A n hn)) (ix2 p q) = D p.val q.val := by
  induction n with
  | zero => omega
  | succ n ih =>
    rw [tilesN]
    by_cases h : 64 * n ≤ p.val
    · refine (View.read_writes_cons_unit_of_mem arg3.view f3 (inbTile n hn) _ _ _
        (ix2 (⟨p.val - 64 * n, by omega⟩ : Fin 64) q) rfl ?_).trans ?_
      · intro a
        match a with
        | 0 => show p.val = 64 * n + (p.val - 64 * n); omega
        | 1 => exact (Nat.zero_add _).symm
      · have := hA.1 ⟨n, hn⟩ ⟨p.val - 64 * n, by omega⟩ q
        rw [show 64 * (⟨n, hn⟩ : Fin 12).val + (p.val - 64 * n) = p.val by show 64 * n + _ = _; omega] at this
        rw [← this]
        pointwise
    · rw [← ih (by omega) (by omega)]
      exact View.read_writes_cons_miss_of_axis arg3.view f3 _ _ _ 0 (64 * n) 64 rfl rfl rfl (by show p.val < 64 * n ∨ 64 * n + 64 ≤ p.val; omega)

/-- The matrix after all stores. -/
theorem tilesAll_apply (hA : TilesHold A A12 D) (f3 : BufTy.Contents (Elt Ideal) arg3.view.ty) (p q : Fin 784) :
    arg3.view.read (Elt Ideal) (arg3.view.writes (Elt Ideal) f3 (tilesAll A A12)) (ix2 p q) = D p.val q.val := by
  rw [tilesAll]
  by_cases h : 768 ≤ p.val
  · refine (View.read_writes_cons_unit_of_mem arg3.view f3 inb_S784x784_S16x784_768_0 _ _ _
      (ix2 (⟨p.val - 768, by omega⟩ : Fin 16) q) rfl ?_).trans ?_
    · intro a
      match a with
      | 0 => show p.val = 768 + (p.val - 768); omega
      | 1 => exact (Nat.zero_add _).symm
    · have := hA.2 ⟨p.val - 768, by omega⟩ q
      rw [show 768 + (p.val - 768) = p.val by omega] at this
      rw [← this]
      pointwise
  · rw [← tilesN_apply arg3 hA f3 12 (Nat.le_refl 12) p q (by omega)]
    exact View.read_writes_cons_miss_of_axis arg3.view f3 _ _ _ 0 768 16 rfl rfl rfl (by show p.val < 768 ∨ 768 + 16 ≤ p.val; omega)

/-- A band of the matrix. -/
theorem band_apply (hA : TilesHold A A12 D) (t : ℕ) (ht : t < 7) (r : Fin 112) (q : Fin 784) :
    band A A12 arg3 t ht (ix2 r q) = D (112 * t + r.val) q.val := by
  rw [← tilesAll_apply arg3 hA arg3.view.junk ⟨112 * t + r.val, by omega⟩ q]
  unfold band View.readCov
  rw [View.readAt_apply]
  congr 1
  funext a
  apply Fin.ext
  match a with
  | 0 => show 112 * t + 1 * r.val = 112 * t + r.val; omega
  | 1 => show 0 + 1 * q.val = q.val; omega

/-- The column sums of the first `n` tiles. -/
theorem sumsN_apply (hA : TilesHold A A12 D) (n : ℕ) (hn : n ≤ 12) (q : Fin 784) :
    sumsN A n hn (ix2 0 q) = ∑ p ∈ Finset.range (64 * n), D p q.val := by
  induction n with
  | zero =>
    rw [sumsN, Nat.mul_zero, Finset.sum_range_zero]
    pointwise
  | succ n ih =>
    have h : ∀ r : Fin 64, A ⟨n, hn⟩ (ix2 r q) = D (64 * n + r.val) q.val := fun r => hA.1 ⟨n, hn⟩ r q
    rw [sumsN, Nat.mul_succ, Finset.sum_range_add, ← ih (by omega), ← Fin.sum_univ_eq_sum_range (fun r => D (64 * n + r) q.val) 64]
    pointwise [h]

/-- The column sums. -/
theorem sumsAll_apply (hA : TilesHold A A12 D) (q : Fin 784) :
    sumsAll A A12 (ix2 0 q) = ∑ p ∈ Finset.range 784, D p q.val := by
  have h : ∀ r : Fin 16, A12 (ix2 r q) = D (768 + r.val) q.val := fun r => hA.2 r q
  rw [sumsAll]
  refine Eq.trans ?_ (Finset.sum_range_add (fun p => D p q.val) (64 * 12) 16).symm
  rw [← sumsN_apply hA 12 (Nat.le_refl 12) q,
    ← Fin.sum_univ_eq_sum_range (fun r => D (64 * 12 + r) q.val) 16]
  pointwise [h]

/-- The reciprocals. -/
theorem recips_apply (hA : TilesHold A A12 D) (q : Fin 784) :
    recips A A12 (ix2 0 q) = Ideal.div 1 (max (∑ p ∈ Finset.range 784, D p q.val) (Ideal.ofBits .f32 0x2B8CBCCC#32)) := by
  rw [← sumsAll_apply hA]
  unfold recips
  pointwise

/-- The product by the first `t` bands. -/
theorem prodN_apply (hA : TilesHold A A12 D) (u : FVec Ideal S8x784 .f32) (w : ℕ → EReal)
    (hu : ∀ p : Fin 784, u (ix2 0 p) = w p.val) (t : ℕ) (ht : t ≤ 7) (q : Fin 784) :
    prodN (bands A A12 arg3) u t ht (ix2 0 q) = ∑ p ∈ Finset.range (112 * t), w p * D p q.val := by
  induction t with
  | zero =>
    rw [prodN, Nat.mul_zero, Finset.sum_range_zero]
    pointwise
  | succ t ih =>
    have h : ∀ r : Fin 112, bands A A12 arg3 ⟨t, ht⟩ (ix2 r q) = D (112 * t + r.val) q.val := fun r => band_apply arg3 hA t ht r q
    have h' : ∀ r : Fin 112, u (ix2 0 ⟨112 * t + r.val, by omega⟩) = w (112 * t + r.val) := fun r => hu _
    rw [prodN, Nat.mul_succ, Finset.sum_range_add, ← ih (by omega), ← Fin.sum_univ_eq_sum_range (fun r => w (112 * t + r) * D (112 * t + r) q.val) 112]
    unfold bandProd cut
    pointwise [h, h']

/-- The vector after `n` products, in the terms of the matrix. -/
def iter (D : ℕ → ℕ → EReal) : ℕ → ℕ → EReal
  | 0, _ => ((784⁻¹ : ℝ) : EReal)
  | n + 1, q => (∑ p ∈ Finset.range 784, iter D n p * D p q)
      * Ideal.div 1 (max (∑ p ∈ Finset.range 784, D p q) (Ideal.ofBits .f32 0x2B8CBCCC#32))

/-- The vector after `n` products. -/
theorem vecN_apply (hA : TilesHold A A12 D) (n : ℕ) (q : Fin 784) :
    vecN (recips A A12) (bands A A12 arg3) n (ix2 0 q) = iter D n q.val := by
  induction n generalizing q with
  | zero =>
    rw [vecN, iter]
    pointwise
    rfl
  | succ n ih =>
    rw [vecN, iter, ← recips_apply hA, ← prodN_apply arg3 hA (vecN (recips A A12) (bands A A12 arg3) n) (iter D n) ih 7 (Nat.le_refl 7) q]
    unfold stepV
    pointwise

/-- The output block. -/
theorem out_apply (hA : TilesHold A A12 D) (arg2 : Mem2) (f2 : BufTy.Contents (Elt Ideal) arg2.view.ty) (i j : Fin 28) :
    arg2.view.read (Elt Ideal) (arg2.view.writes (Elt Ideal) f2 (outN (w92 (recips A A12) (bands A A12 arg3)) 28 (Nat.le_refl 28))) (ix3 0 i j)
      = iter D 10 (28 * i.val + j.val) := by
  rw [outN_apply arg2 f2 _ 28 (Nat.le_refl 28) i j i.isLt, w92_eq, vecN_apply arg3 hA]

end

end Cert.Proof.KernelIdeal
-- ==== Proof.ValueBody.lean ====
/- The kernel's body with what it computes: from the input block and four buffers of any contents, it leaves in the
   output block the vector after ten products by the matrix of distances. -/
module

public import proofs.«01_k».proof.Proof.IdealLoops
public import proofs.«01_k».proof.Proof.IdealChain

public import proofs.«01_k».proof.Proof.Gen.KernelIdeal.Loops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (c : Dev nD) (i : grid0.Coords) (arg1 : Memref sig .tc .vmem S1x512x28x28 .f32) (harg1 : arg1.IsWhole)
  (arg2 : Memref sig .tc .vmem S1x28x28 .f32) (harg2 : arg2.IsWhole) (arg3 : Memref sig .tc .vmem S784x784 .f32) (harg3 : arg3.IsWhole)
  (arg4 : Memref sig .tc .vmem S32x16x784 .bf16) (harg4 : arg4.IsWhole) (arg5 : Memref sig .tc .vmem S32x16x16x784 .bf16) (harg5 : arg5.IsWhole)

local notation "𝕄" => MT nD τ sig Unit (Elt Ideal) ℕ (UR sig nD τ) ℕ

variable (X4 : BufTy.Contents (Elt Ideal) arg4.view.ty) (X5 : BufTy.Contents (Elt Ideal) arg5.view.ty)

/-- The tiles the loops leave hold the matrix of distances. -/
theorem tiles_hold {B : ℕ → ℕ → ℕ → EReal} (h4 : Holds4 arg4 X4 B) (h5 : Holds5 arg5 X5 B) :
    TilesHold (accTiles c i arg1 harg1 arg2 harg2 arg3 harg3 arg4 harg4 arg5 harg5 X4 X5)
      (accTile12 c i arg1 harg1 arg2 harg2 arg3 harg3 arg4 harg4 arg5 harg5 X4 X5) (matOf B) := by
  refine ⟨fun n r q => ?_, fun r q => ?_⟩
  · match n with
    | 0 => exact accTile0_apply c i arg1 harg1 arg2 harg2 arg3 harg3 arg4 harg4 arg5 harg5 X4 X5 h4 h5 r q
    | 1 => exact accTile1_apply c i arg1 harg1 arg2 harg2 arg3 harg3 arg4 harg4 arg5 harg5 X4 X5 h4 h5 r q
    | 2 => exact accTile2_apply c i arg1 harg1 arg2 harg2 arg3 harg3 arg4 harg4 arg5 harg5 X4 X5 h4 h5 r q
    | 3 => exact accTile3_apply c i arg1 harg1 arg2 harg2 arg3 harg3 arg4 harg4 arg5 harg5 X4 X5 h4 h5 r q
    | 4 => exact accTile4_apply c i arg1 harg1 arg2 harg2 arg3 harg3 arg4 harg4 arg5 harg5 X4 X5 h4 h5 r q
    | 5 => exact accTile5_apply c i arg1 harg1 arg2 harg2 arg3 harg3 arg4 harg4 arg5 harg5 X4 X5 h4 h5 r q
    | 6 => exact accTile6_apply c i arg1 harg1 arg2 harg2 arg3 harg3 arg4 harg4 arg5 harg5 X4 X5 h4 h5 r q
    | 7 => exact accTile7_apply c i arg1 harg1 arg2 harg2 arg3 harg3 arg4 harg4 arg5 harg5 X4 X5 h4 h5 r q
    | 8 => exact accTile8_apply c i arg1 harg1 arg2 harg2 arg3 harg3 arg4 harg4 arg5 harg5 X4 X5 h4 h5 r q
    | 9 => exact accTile9_apply c i arg1 harg1 arg2 harg2 arg3 harg3 arg4 harg4 arg5 harg5 X4 X5 h4 h5 r q
    | 10 => exact accTile10_apply c i arg1 harg1 arg2 harg2 arg3 harg3 arg4 harg4 arg5 harg5 X4 X5 h4 h5 r q
    | 11 => exact accTile11_apply c i arg1 harg1 arg2 harg2 arg3 harg3 arg4 harg4 arg5 harg5 X4 X5 h4 h5 r q
  · exact accTile12_apply c i arg1 harg1 arg2 harg2 arg3 harg3 arg4 harg4 arg5 harg5 X4 X5 h4 h5 r q

/-- The output block after its stores. -/
theorem outStores_apply (X1 : BufTy.Contents (Elt Ideal) arg1.view.ty) (f2 : BufTy.Contents (Elt Ideal) arg2.view.ty)
    (h4 : ∀ (ci : Fin 32) (kk : Fin 16) (q : Fin 784), ci.val < Scf.trips k0_t1_loop.lb k0_t1_loop.ub k0_t1_loop.st →
      arg4.view.read (Elt Ideal) X4 (ix3 ci kk q) = rowsOf (arg1.view.read (Elt Ideal) X1) ci.val kk.val q.val)
    (h5 : ∀ (ci : Fin 32) (kk : Fin 16) (j : Fin 16) (q : Fin 784), ci.val < Scf.trips k0_t1_loop.lb k0_t1_loop.ub k0_t1_loop.st →
      arg5.view.read (Elt Ideal) X5 (ix4 ci kk j q) = rowsOf (arg1.view.read (Elt Ideal) X1) ci.val kk.val q.val)
    (u : FVec Ideal S8x784 .f32)
    (hu : u = w92
      (recips (accTiles c i arg1 harg1 arg2 harg2 arg3 harg3 arg4 harg4 arg5 harg5 X4 X5) (accTile12 c i arg1 harg1 arg2 harg2 arg3 harg3 arg4 harg4 arg5 harg5 X4 X5))
      (bands (accTiles c i arg1 harg1 arg2 harg2 arg3 harg3 arg4 harg4 arg5 harg5 X4 X5) (accTile12 c i arg1 harg1 arg2 harg2 arg3 harg3 arg4 harg4 arg5 harg5 X4 X5) arg3))
    (a b : Fin 28) :
    arg2.view.read (Elt Ideal) (arg2.view.writes (Elt Ideal) f2
        (outN u 28 (Nat.le_refl 28))) (ix3 0 a b)
      = iter (matOf (rowsOf (arg1.view.read (Elt Ideal) X1))) 10 (28 * a.val + b.val) := by
  subst hu
  have ht : Scf.trips k0_t1_loop.lb k0_t1_loop.ub k0_t1_loop.st = 32 := by decide
  exact out_apply arg3 (tiles_hold c i arg1 harg1 arg2 harg2 arg3 harg3 arg4 harg4 arg5 harg5 X4 X5
    (fun ci kk q => h4 ci kk q (by rw [ht]; exact ci.isLt)) (fun ci kk j q => h5 ci kk j q (by rw [ht]; exact ci.isLt))) arg2 f2 a b

set_option maxHeartbeats 8000000 in
/-- The body runs from the input block at `X1` and the other buffers at any contents; it leaves the input block as it
    found it, the vector after ten products in the output block, and the scratch buffers at some contents. -/
theorem body_val (X1 : BufTy.Contents (Elt Ideal) arg1.view.ty) (K : PUnit → sProp 𝕄) :
    iprop((arg1.view.loc (c : Thread nD τ) ↦[arg1.view.set]{fullShare} X1)
        ∗ ((∃ f2, arg2.view.loc (c : Thread nD τ) ↦[arg2.view.set]{fullShare} f2)
    ∗ (∃ f3, arg3.view.loc (c : Thread nD τ) ↦[arg3.view.set]{fullShare} f3)
    ∗ (∃ f4, arg4.view.loc (c : Thread nD τ) ↦[arg4.view.set]{fullShare} f4)
    ∗ (∃ f5, arg5.view.loc (c : Thread nD τ) ↦[arg5.view.set]{fullShare} f5))
        ∗ (iprop((arg1.view.loc (c : Thread nD τ) ↦[arg1.view.set]{fullShare} X1)
            ∗ (∃ f2, ⌜∀ a b : Fin 28, arg2.view.read (Elt Ideal) f2 (ix3 0 a b)
                = iter (matOf (rowsOf (arg1.view.read (Elt Ideal) X1))) 10 (28 * a.val + b.val)⌝
              ∗ arg2.view.loc (c : Thread nD τ) ↦[arg2.view.set]{fullShare} f2)
    ∗ (∃ f3, arg3.view.loc (c : Thread nD τ) ↦[arg3.view.set]{fullShare} f3)
    ∗ (∃ f4, arg4.view.loc (c : Thread nD τ) ↦[arg4.view.set]{fullShare} f4)
    ∗ (∃ f5, arg5.view.loc (c : Thread nD τ) ↦[arg5.view.set]{fullShare} f5)) -∗ K ⟨⟩))
      ⊢ wp frame (wpE (defs₀ (F := Ideal)) 𝒱₁ (c : Thread nD τ) none) Set.univ
        (cc0__oam_body (F := Ideal) i arg1 harg1 arg2 harg2 arg3 harg3 arg4 harg4 arg5 harg5) K := by
  iintro ⟨H1, ⟨⟨%f2, H2⟩, ⟨%f3, H3⟩, ⟨%f4, H4⟩, ⟨%f5, H5⟩⟩, Hk⟩
  have h0 : ∀ {n : ℕ} {p : Prop}, n < 0 → p := fun h => absurd h (Nat.not_lt_zero _)
  sl_exec_parts
  sl_step
  iapply Hk
  isplitl [H1]; · iexact H1
  isplitl [H2]
  · iexists _
    isplitr; rotate_left
    · iexact H2
    · ipureintro
      have e70 : body_val.sl.r_70 c i arg1 harg1 arg2 harg2 arg3 harg3 arg4 harg4 arg5 harg5 f4L0 f5L1 = (recips (accTiles c i arg1 harg1 arg2 harg2 arg3 harg3 arg4 harg4 arg5 harg5 f4L0 f5L1) (accTile12 c i arg1 harg1 arg2 harg2 arg3 harg3 arg4 harg4 arg5 harg5 f4L0 f5L1)) := rfl
      have d0 : body_val.sl.v451 c i arg1 harg1 arg2 harg2 arg3 harg3 arg4 harg4 arg5 harg5 f4L0 f5L1 = (bands (accTiles c i arg1 harg1 arg2 harg2 arg3 harg3 arg4 harg4 arg5 harg5 f4L0 f5L1) (accTile12 c i arg1 harg1 arg2 harg2 arg3 harg3 arg4 harg4 arg5 harg5 f4L0 f5L1) arg3) 0 := rfl
      have d1 : body_val.sl.v455 c i arg1 harg1 arg2 harg2 arg3 harg3 arg4 harg4 arg5 harg5 f4L0 f5L1 = (bands (accTiles c i arg1 harg1 arg2 harg2 arg3 harg3 arg4 harg4 arg5 harg5 f4L0 f5L1) (accTile12 c i arg1 harg1 arg2 harg2 arg3 harg3 arg4 harg4 arg5 harg5 f4L0 f5L1) arg3) 1 := rfl
      have d2 : body_val.sl.v459 c i arg1 harg1 arg2 harg2 arg3 harg3 arg4 harg4 arg5 harg5 f4L0 f5L1 = (bands (accTiles c i arg1 harg1 arg2 harg2 arg3 harg3 arg4 harg4 arg5 harg5 f4L0 f5L1) (accTile12 c i arg1 harg1 arg2 harg2 arg3 harg3 arg4 harg4 arg5 harg5 f4L0 f5L1) arg3) 2 := rfl
      have d3 : body_val.sl.v463 c i arg1 harg1 arg2 harg2 arg3 harg3 arg4 harg4 arg5 harg5 f4L0 f5L1 = (bands (accTiles c i arg1 harg1 arg2 harg2 arg3 harg3 arg4 harg4 arg5 harg5 f4L0 f5L1) (accTile12 c i arg1 harg1 arg2 harg2 arg3 harg3 arg4 harg4 arg5 harg5 f4L0 f5L1) arg3) 3 := rfl
      have d4 : body_val.sl.v467 c i arg1 harg1 arg2 harg2 arg3 harg3 arg4 harg4 arg5 harg5 f4L0 f5L1 = (bands (accTiles c i arg1 harg1 arg2 harg2 arg3 harg3 arg4 harg4 arg5 harg5 f4L0 f5L1) (accTile12 c i arg1 harg1 arg2 harg2 arg3 harg3 arg4 harg4 arg5 harg5 f4L0 f5L1) arg3) 4 := rfl
      have d5 : body_val.sl.v471 c i arg1 harg1 arg2 harg2 arg3 harg3 arg4 harg4 arg5 harg5 f4L0 f5L1 = (bands (accTiles c i arg1 harg1 arg2 harg2 arg3 harg3 arg4 harg4 arg5 harg5 f4L0 f5L1) (accTile12 c i arg1 harg1 arg2 harg2 arg3 harg3 arg4 harg4 arg5 harg5 f4L0 f5L1) arg3) 5 := rfl
      have d6 : body_val.sl.v475 c i arg1 harg1 arg2 harg2 arg3 harg3 arg4 harg4 arg5 harg5 f4L0 f5L1 = (bands (accTiles c i arg1 harg1 arg2 harg2 arg3 harg3 arg4 harg4 arg5 harg5 f4L0 f5L1) (accTile12 c i arg1 harg1 arg2 harg2 arg3 harg3 arg4 harg4 arg5 harg5 f4L0 f5L1) arg3) 6 := rfl
      have e71 : body_val.sl.r_71 c i arg1 harg1 arg2 harg2 arg3 harg3 arg4 harg4 arg5 harg5 f4L0 f5L1 = w71 (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_71 w71
        rw [d0]
      have e72 : body_val.sl.r_72 c i arg1 harg1 arg2 harg2 arg3 harg3 arg4 harg4 arg5 harg5 f4L0 f5L1 = w72 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_72 w72
        rw [e70, e71, d1, d2, d3, d4, d5, d6]
      have e73 : body_val.sl.r_73 c i arg1 harg1 arg2 harg2 arg3 harg3 arg4 harg4 arg5 harg5 f4L0 f5L1 = w73 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_73 w73
        rw [e70, e71, d0, d1, d2, d3, d4, d5, d6]
      have e74 : body_val.sl.r_74 c i arg1 harg1 arg2 harg2 arg3 harg3 arg4 harg4 arg5 harg5 f4L0 f5L1 = w74 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_74 w74
        rw [e70, e71, d1, d2, d3, d4, d5, d6]
      have e75 : body_val.sl.r_75 c i arg1 harg1 arg2 harg2 arg3 harg3 arg4 harg4 arg5 harg5 f4L0 f5L1 = w75 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_75 w75
        rw [e70, e72, e73, e74, d2, d3, d4, d5, d6]
      have e76 : body_val.sl.r_76 c i arg1 harg1 arg2 harg2 arg3 harg3 arg4 harg4 arg5 harg5 f4L0 f5L1 = w76 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_76 w76
        rw [e70, e72, e73, e74, d0, d1, d2, d3, d4, d5, d6]
      have e77 : body_val.sl.r_77 c i arg1 harg1 arg2 harg2 arg3 harg3 arg4 harg4 arg5 harg5 f4L0 f5L1 = w77 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_77 w77
        rw [e70, e72, e73, e74, d2, d3, d4, d5, d6]
      have e78 : body_val.sl.r_78 c i arg1 harg1 arg2 harg2 arg3 harg3 arg4 harg4 arg5 harg5 f4L0 f5L1 = w78 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_78 w78
        rw [e70, e75, e76, e77, d3, d4, d5, d6]
      have e79 : body_val.sl.r_79 c i arg1 harg1 arg2 harg2 arg3 harg3 arg4 harg4 arg5 harg5 f4L0 f5L1 = w79 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_79 w79
        rw [e70, e75, e76, e77, d0, d1, d2, d3, d4, d5, d6]
      have e80 : body_val.sl.r_80 c i arg1 harg1 arg2 harg2 arg3 harg3 arg4 harg4 arg5 harg5 f4L0 f5L1 = w80 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_80 w80
        rw [e70, e75, e76, e77, d3, d4, d5, d6]
      have e81 : body_val.sl.r_81 c i arg1 harg1 arg2 harg2 arg3 harg3 arg4 harg4 arg5 harg5 f4L0 f5L1 = w81 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_81 w81
        rw [e70, e78, e79, e80, d4, d5, d6]
      have e82 : body_val.sl.r_82 c i arg1 harg1 arg2 harg2 arg3 harg3 arg4 harg4 arg5 harg5 f4L0 f5L1 = w82 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_82 w82
        rw [e70, e78, e79, e80, d0, d1, d2, d3, d4, d5, d6]
      have e83 : body_val.sl.r_83 c i arg1 harg1 arg2 harg2 arg3 harg3 arg4 harg4 arg5 harg5 f4L0 f5L1 = w83 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_83 w83
        rw [e70, e78, e79, e80, d4, d5, d6]
      have e84 : body_val.sl.r_84 c i arg1 harg1 arg2 harg2 arg3 harg3 arg4 harg4 arg5 harg5 f4L0 f5L1 = w84 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_84 w84
        rw [e70, e81, e82, e83, d0, d1, d2, d3, d4, d5, d6]
      have e85 : body_val.sl.r_85 c i arg1 harg1 arg2 harg2 arg3 harg3 arg4 harg4 arg5 harg5 f4L0 f5L1 = w85 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_85 w85
        rw [e70, e81, e82, e83, d5, d6]
      have e86 : body_val.sl.r_86 c i arg1 harg1 arg2 harg2 arg3 harg3 arg4 harg4 arg5 harg5 f4L0 f5L1 = w86 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_86 w86
        rw [e70, e84, e85, d0, d1, d2, d3, d4, d5, d6]
      have e87 : body_val.sl.r_87 c i arg1 harg1 arg2 harg2 arg3 harg3 arg4 harg4 arg5 harg5 f4L0 f5L1 = w87 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_87 w87
        rw [e70, e86, d0, d1, d2, d3, d4, d5, d6]
        rfl
      have e88 : body_val.sl.r_88 c i arg1 harg1 arg2 harg2 arg3 harg3 arg4 harg4 arg5 harg5 f4L0 f5L1 = w88 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_88 w88
        rw [e70, e86, d0, d1, d2, d3, d4, d5, d6]
        rfl
      have e89 : body_val.sl.r_89 c i arg1 harg1 arg2 harg2 arg3 harg3 arg4 harg4 arg5 harg5 f4L0 f5L1 = w89 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_89 w89
        rw [e70, e87, e88, d1, d2, d3, d4, d5, d6]
      have e90 : body_val.sl.r_90 c i arg1 harg1 arg2 harg2 arg3 harg3 arg4 harg4 arg5 harg5 f4L0 f5L1 = w90 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_90 w90
        rw [e70, e87, e88, d0, d1, d2, d3, d4, d5, d6]
      have e91 : body_val.sl.r_91 c i arg1 harg1 arg2 harg2 arg3 harg3 arg4 harg4 arg5 harg5 f4L0 f5L1 = w91 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_91 w91
        rw [e70, e87, e88, d1, d2, d3, d4, d5, d6]
      have e92 : body_val.sl.r_92 c i arg1 harg1 arg2 harg2 arg3 harg3 arg4 harg4 arg5 harg5 f4L0 f5L1 = w92 (recips (accTiles c i arg1 harg1 arg2 harg2 arg3 harg3 arg4 harg4 arg5 harg5 f4L0 f5L1) (accTile12 c i arg1 harg1 arg2 harg2 arg3 harg3 arg4 harg4 arg5 harg5 f4L0 f5L1)) (bands (accTiles c i arg1 harg1 arg2 harg2 arg3 harg3 arg4 harg4 arg5 harg5 f4L0 f5L1) (accTile12 c i arg1 harg1 arg2 harg2 arg3 harg3 arg4 harg4 arg5 harg5 f4L0 f5L1) arg3) := by
        unfold body_val.sl.r_92 w92
        rw [e70, e89, e90, e91, d2, d3, d4, d5, d6]
      exact outStores_apply c i arg1 harg1 arg2 harg2 arg3 harg3 arg4 harg4 arg5 harg5 f4L0 f5L1 X1 f2 hL1 hL3 (body_val.sl.r_92 c i arg1 harg1 arg2 harg2 arg3 harg3 arg4 harg4 arg5 harg5 f4L0 f5L1) e92
  isplitl [H3]; · iexists _; iexact H3
  isplitl [H4]; · iexists _; iexact H4
  iexists _; iexact H5

end Cert.Proof.KernelIdeal

end
-- ==== Proof.ValueFrame.lean ====
/- The run of the idealized kernel with what it computes: at every grid point the output block is the vector after ten
   products by the matrix of distances of the input block, and so is the array, block by block. -/
module

public import proofs.«01_k».proof.Proof.ValueBody
public import proofs.«01_k».proof.Proof.Gen.KernelIdeal.Frame
public import Idealize.ShloMosaic.Lib.Pipeline.Frame
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The output block of an input block: at row `a` and column `b` of the image, the vector after ten products at the
    pixel `28 * a + b`. -/
def blockOut (X : Vec Ideal S1x512x28x28 .f32) : Vec Ideal S1x28x28 .f32 :=
  fun y => iter (matOf (rowsOf X)) 10 (28 * (y 1).val + (y 2).val)

/-- The proof data: the arrays as the region finds them, the input block left in place, the output block holding what
    the body computes of it, the scratch buffers at some contents between points. -/
def dats (_ : Fin 1) (c : Dev nD) : Dat τ (Elt Ideal) Unit ℕ (UR sig nD τ) ℕ cfg0 c where
  A w := Gen.V m c (Pipeline.arrRef spec0 w)
  after w t := match w with
    | ⟨0, _⟩ => Gen.iblk m c 0 t
    | ⟨1, _⟩ => blockOut (Gen.iblk m c 0 t)
  Φ _ := Pipeline.ΦA spec0 c
  q _ := fullShare
  owed _ := 0

/-- A whole buffer held through its whole memref is the buffer held. -/
theorem whole_held (c : Dev nD) (b : Ref sig .tc) (f : b.ty.Contents (Elt Ideal)) :
    ((Memref.whole b).view.loc (c : Thread nD τ) ↦[(Memref.whole b).view.set]{fullShare} f : sProp 𝕄)
      = (((c : Thread nD τ).loc b) ↦{fullShare} f : sProp 𝕄) := by
  rw [show (Memref.whole b).view.set = Finset.univ from View.set_whole b]

/-- A block that agrees with the vector at every image row and column is the output block. -/
theorem eq_blockOut {X : Vec Ideal S1x512x28x28 .f32} {Y : Vec Ideal S1x28x28 .f32}
    (h : ∀ a b : Fin 28, Y (ix3 0 a b) = iter (matOf (rowsOf X)) 10 (28 * a.val + b.val)) : Y = blockOut X := by
  funext y
  have e : y = ix3 (n0 := 1) (n1 := 28) (n2 := 28) 0 (y 1) (y 2) := by
    funext k
    match k with
    | ⟨0, _⟩ => exact Subsingleton.elim (α := Fin 1) _ _
    | ⟨1, _⟩ => rfl
    | ⟨2, _⟩ => rfl
  rw [e]
  exact h (y 1) (y 2)

/-- The body's obligation at every grid point. -/
theorem body_obligation (c : Dev nD) : BodyObligationLoose (dats m 0 c) (defs₀ (F := Ideal)) 𝒱₁ () Set.univ := fun t => by
  rw [bigSep_W0, bigSep_W0]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl]
  unfold Pipeline.ΦA
  rw [scopedRest0_eq c]
  simp only [← whole_held]
  unfold owns
  iintro ⟨⟨⟨⟨%f3, H3⟩, ⟨%f4, H4⟩, ⟨%f5, H5⟩⟩, Hr⟩, Ho, ⟨%d0, ⟨%f1, %hf1, H1⟩⟩, ⟨%d1, ⟨%f2, -, H2⟩⟩⟩
  rw [before0_0_of m (dats m 0 c) rfl (fun _ => rfl) t d0] at hf1
  iapply (body_val c (grid0.coords t) _ (hstage0_0 ((cfg0.slots t 0).cast nbuf0_0)) _ (hstage0_1 ((cfg0.slots t 1).cast nbuf0_1))
    (Memref.whole cc0_scratch0) (Memref.isWhole_whole _) (Memref.whole cc0_scratch1) (Memref.isWhole_whole _)
    (Memref.whole cc0_scratch2) (Memref.isWhole_whole _) f1 _)
  isplitl [H1]; · iexact H1
  isplitl [H2 H3 H4 H5]
  · isplitl [H2]; · iexists f2; iexact H2
    isplitl [H3]; · iexists f3; iexact H3
    isplitl [H4]; · iexists f4; iexact H4
    iexists f5; iexact H5
  iintro ⟨H1, ⟨%g2, %hg2, H2⟩, H3, H4, H5⟩
  isplitl [H3 H4 H5 Hr]
  · isplitr [Hr]
    · isplitl [H3]; · iexact H3
      isplitl [H4]; · iexact H4
      iexact H5
    iexact Hr
  isplitl [Ho]; · iexact Ho
  isplitl [H1]
  · iexists f1; isplitr
    · ipureintro; exact hf1
    iexact H1
  iexists g2; isplitr
  · ipureintro
    exact (eq_blockOut hg2).trans (congrArg blockOut hf1)
  iexact H2

/-- One image of the argument array, as a block. -/
def image (A : Vec Ideal S16x512x28x28 .f32) (b : Fin 16) : Vec Ideal S1x512x28x28 .f32 :=
  fun y => A (ix4 b (y 1) (y 2) (y 3))

/-- The result array of the argument array: image by image, the output block of that image. -/
def outOf (A : Vec Ideal S16x512x28x28 .f32) : Vec Ideal S16x28x28 .f32 :=
  fun y => iter (matOf (rowsOf (image A (y 0)))) 10 (28 * (y 1).val + (y 2).val)

/-- The input block at a grid point is the image of that number. -/
theorem iblk_eq_image (c : Dev nD) (t : Fin cfg0.N) (b : Fin 16) (hb : b.val = t.val) :
    (Gen.iblk m c 0 t : Vec Ideal S1x512x28x28 .f32) = image (m ((c.tc : Thread nD τ).loc main_arg0)) b := by
  funext y
  have e0 : ∀ t : Fin cfg0.N, win0_0.index t = ![t.val, 0, 0, 0] := (by decide +kernel : ∀ t : Fin grid0.N, _)
  blk_simp [Gen.iblk, Gen.V, e0]
  refine congrArg (m ((c.tc : Thread nD τ).loc main_arg0)) ?_
  have hy : (y 0).val = 0 := Nat.lt_one_iff.mp (y 0).isLt
  funext k
  refine Fin.ext ?_
  match k with
  | ⟨0, _⟩ => blk_simp [e0]; simp [hb, hy]
  | ⟨1, _⟩ => blk_simp [e0]; simp
  | ⟨2, _⟩ => blk_simp [e0]; simp
  | ⟨3, _⟩ => blk_simp [e0]; simp

/-- The result array after the last write-back. -/
theorem final_out (c : Dev nD) : (dats m 0 c).arrAt 1 cfg0.N = outOf (m ((c.tc : Thread nD τ).loc main_arg0)) := by
  refine (dats m 0 c).arrAt_eq_of_covers 1 _ (by decide +kernel) fun t hf y => ?_
  have e1 : ∀ t : Fin cfg0.N, win0_1.index t = ![t.val, 0, 0] := (by decide +kernel : ∀ t : Fin grid0.N, _)
  blk_simp [e1]
  have hb : t.val < 16 := t.isLt
  have e : (win0_1.blk t).view.emb y = ix3 (n0 := 16) (n1 := 28) (n2 := 28) ⟨t.val, hb⟩ (y 1) (y 2) := by
    have hy : (y 0).val = 0 := Nat.lt_one_iff.mp (y 0).isLt
    funext k
    refine Fin.ext ?_
    match k with
    | ⟨0, _⟩ => blk_simp [e1]
    | ⟨1, _⟩ => blk_simp [e1]; simp
    | ⟨2, _⟩ => blk_simp [e1]; simp
  rw [e]
  exact congrArg (fun X : Vec Ideal S1x512x28x28 .f32 => iter (matOf (rowsOf X)) 10 (28 * (y 1).val + (y 2).val)) (iblk_eq_image m c t ⟨t.val, hb⟩ rfl)

/-- The run of the idealized kernel: the counters end at zero, the result array is the argument's, and the argument
    array is as launched. -/
theorem run_exact : θ_run defs (onTc (τ := τ) (main (F := Ideal))) ⟨m, fun _ => 0, ρ⟩ (fun r => (∀ c : Dev nD,
      r.2.mem ((c.tc : Thread nD τ).loc main_v0) = outOf (m ((c.tc : Thread nD τ).loc main_arg0))
      ∧ r.2.mem ((c.tc : Thread nD τ).loc main_arg0) = m ((c.tc : Thread nD τ).loc main_arg0)) ∧ r.2.sem = fun _ => 0) :=
  Pipeline.θ_run_frame cfgs (dats m) 0 Gen.launch0 defs₀ 𝒱₁ m ρ main (body_obligation m)
    (hshare := fun _ w => match w with | ⟨0, _⟩ => rfl | ⟨1, _⟩ => rfl) (howed := fun _ _ => rfl) (V := Gen.V m) (hmain := Gen.hmain m 𝒱₁) (hA := fun _ _ => rfl) (hΦ := fun _ _ => rfl)
    (Q' := _) (hQ' := fun _ h => ⟨fun c => ⟨((h.1 c).1 1).trans (final_out m c), ((h.1 c).1 0).trans ((dats m 0 c).arrAt_in 0 rfl _)⟩, h.2⟩)

end Cert.Proof.KernelIdeal

end
-- ==== Proof.RefValue.lean ====
/- The reference's result read at coordinates. -/
module

public import proofs.«01_k».proof.Proof.Gen.ReferenceIdeal.Run
public import Idealize.ShloMosaic.Lib.Pointwise

@[expose] public section

noncomputable section

namespace Cert.Proof.ReferenceIdeal

open Cert.ReferenceIdeal Cert.ReferenceIdeal.Gen Cert.ReferenceIdeal.Value
open Idealize.ShloMosaic Idealize.ShloMosaic.TcCoe Idealize.ShloMosaic.Tactic

variable (A : Vec Ideal S16x512x28x28 .f32)

/-- The channels last. -/
def flat : Vec Ideal S16x784x512 .f32 :=
  transpose S16x784x512 [0, 2, 1] (shapeCast S16x512x784 A shapeCasts_S16x512x28x28_S16x512x784) transposes_S16x512x784_S16x784x512_0_2_1

/-- The distances. -/
def dists (T : Vec Ideal S16x784x512 .f32) : FVec Ideal S16x784x784 .f32 :=
  Host.reduceAdd (Host.absf (subf (broadcastInDim S16x784x784x512 ![0, 1, 2, 3] bcast_S16x784x1x512_S16x784x784x512_0_1_2_3 (broadcastInDim S16x784x1x512 ![0, 1, 3] bcast_S16x784x512_S16x784x1x512_0_1_3 T)) (broadcastInDim S16x784x784x512 ![0, 1, 2, 3] bcast_S16x1x784x512_S16x784x784x512_0_1_2_3 (broadcastInDim S16x1x784x512 ![0, 2, 3] bcast_S16x784x512_S16x1x784x512_0_2_3 T)))) (constant S_ .f32 0x00000000#32) reducesTo_S16x784x784x512_S16x784x784_d3 h_S_

/-- The distances divided by their row sums. -/
def rows (D : FVec Ideal S16x784x784 .f32) : FVec Ideal S16x784x784 .f32 :=
  Host.divf D (broadcastInDim S16x784x784 ![0, 1, 2] bcast_S16x784x1_S16x784x784_0_1_2 (maximumf (broadcastInDim S16x784x1 ![0, 1] bcast_S16x784_S16x784x1_0_1 (Host.reduceAdd D (constant S_ .f32 0x00000000#32) reducesTo_S16x784x784_S16x784_d2 h_S_)) (broadcastInDim S16x784x1 ![] bcast_S_S16x784x1 (constant S_ .f32 0x2B8CBCCC#32))))

/-- A product of the matrices of every image. -/
def mul (L R : FVec Ideal S16x784x784 .f32) : FVec Ideal S16x784x784 .f32 :=
  Host.dotGeneral dot_S16x784x784_S16x784x784_S16x784x784_2_1_1_2_0_0 none L R

/-- The means of the rows. -/
def means (L : FVec Ideal S16x784x784 .f32) : Vec Ideal S16x28x28 .f32 :=
  shapeCast S16x28x28 (Host.divf (Host.reduceAdd L (constant S_ .f32 0x00000000#32) reducesTo_S16x784x784_S16x784_d2 h_S_) (broadcastInDim S16x784 ![] bcast_S_S16x784 (constant S_ .f32 0x44440000#32))) shapeCasts_S16x784_S16x28x28

/-- The tenth power by squares. -/
def tenth (M : FVec Ideal S16x784x784 .f32) : FVec Ideal S16x784x784 .f32 :=
  mul (mul M M) (mul (mul (mul M M) (mul M M)) (mul (mul M M) (mul M M)))

/-- The reference's result in parts. -/
theorem res_eq (m : (ℓ : Loc nD τ sig) → Buf (Elt Ideal) ℓ) (c : Dev nD) :
    res_out0 m c = means (tenth (rows (dists (flat (m ((c.tc : Thread nD τ).loc main_arg0)))))) := rfl

/-- The channels last, at coordinates. -/
theorem flat_apply (b : Fin 16) (p : Fin 784) (c : Fin 512) :
    flat A (ix3 b p c) = A (ix4 b c ⟨p.val / 28, by omega⟩ ⟨p.val % 28, by omega⟩) := by
  unfold flat
  pointwise

/-- A distance is the sum over the channels. -/
theorem dists_apply (T : Vec Ideal S16x784x512 .f32) (b : Fin 16) (p q : Fin 784) :
    dists T (ix3 b p q) = ∑ c : Fin 512, FloatOps.absf (F := Ideal) (φ := .f32) (T (ix3 b p c) - T (ix3 b q c)) := by
  unfold dists
  pointwise

/-- A normalised distance. -/
theorem rows_apply (D : FVec Ideal S16x784x784 .f32) (b : Fin 16) (p q : Fin 784) :
    rows D (ix3 b p q) = Ideal.div (D (ix3 b p q)) (max (∑ k : Fin 784, D (ix3 b p k)) (Ideal.ofBits .f32 0x2B8CBCCC#32)) := by
  unfold rows
  pointwise

/-- An entry of a product. -/
theorem mul_apply (L R : FVec Ideal S16x784x784 .f32) (b : Fin 16) (p q : Fin 784) :
    mul L R (ix3 b p q) = ∑ k : Fin 784, L (ix3 b p k) * R (ix3 b k q) := by
  unfold mul
  pointwise

/-- A mean of a row, placed in the image. -/
theorem means_apply (L : FVec Ideal S16x784x784 .f32) (b : Fin 16) (i j : Fin 28) :
    means L (ix3 b i j) = Ideal.div (∑ k : Fin 784, L (ix3 b ⟨28 * i.val + j.val, by omega⟩ k)) (Ideal.ofBits .f32 0x44440000#32) := by
  unfold means
  pointwise
  rw [show (⟨i.val * 28 + j.val, by omega⟩ : Fin 784) = ⟨28 * i.val + j.val, by omega⟩ from Fin.ext (by simp only [Nat.mul_comm])]

end Cert.Proof.ReferenceIdeal

end
-- ==== Proof.TenthPower.lean ====
/- The mathematics of the claim: ten products of the uniform vector by the normalised matrix of distances are the means
   of the rows of its tenth power. The distances are symmetric and not negative, so everything happens among the
   extended nonnegative reals, where addition and multiplication are associative and distribute. -/
module

public import proofs.«01_k».proof.Proof.IdealChain
public import Mathlib.Data.Matrix.Mul
public import Mathlib.Data.EReal.Inv

@[expose] public section

noncomputable section

namespace Cert.Proof.KernelIdeal

open Idealize.ShloMosaic
open scoped ENNReal

/-- The distance does not depend on the order of the two values. -/
theorem dist_comm (a b : EReal) : dist a b = dist b a := by
  rcases eq_or_ne a b with h | h
  · rw [h]
  have h1 : a ≠ ⊥ ∨ b ≠ ⊥ := by
    by_contra hc
    simp only [not_or, ne_eq, not_not] at hc
    exact h (hc.1.trans hc.2.symm)
  have h2 : a ≠ ⊤ ∨ b ≠ ⊤ := by
    by_contra hc
    simp only [not_or, ne_eq, not_not] at hc
    exact h (hc.1.trans hc.2.symm)
  unfold dist
  rw [Ideal.absf_def, Ideal.absf_def]
  have e : b - a = -(a - b) := by
    rw [EReal.neg_sub h1 h2, add_comm, sub_eq_add_neg]
  rw [e, neg_neg, max_comm]

/-- A distance is not negative. -/
theorem dist_nonneg (a b : EReal) : 0 ≤ dist a b := by
  unfold dist
  rw [Ideal.absf_def]
  rcases le_total 0 (a - b) with h | h
  · exact le_max_of_le_left h
  · exact le_max_of_le_right (EReal.neg_nonneg.mpr h)

/-- A finite sum of extended nonnegative reals, seen among the extended reals. -/
theorem coe_sum {ι : Type} (s : Finset ι) (f : ι → ℝ≥0∞) :
    ((∑ i ∈ s, f i : ℝ≥0∞) : EReal) = ∑ i ∈ s, (f i : EReal) := by
  classical
  induction s using Finset.induction_on with
  | empty => simp
  | insert a s ha ih => rw [Finset.sum_insert ha, Finset.sum_insert ha, EReal.coe_ennreal_add, ih]

/-- The least divisor is positive. -/
theorem least_pos : (0 : EReal) < Ideal.ofBits .f32 0x2B8CBCCC#32 := by
  simp [Ideal.ofBits, Ideal.ieee, -EReal.coe_mul]

/-- The number of pixels. -/
theorem ofBits_pixels : Ideal.ofBits .f32 0x44440000#32 = ((784 : ℝ) : EReal) := by
  simp [Ideal.ofBits, Ideal.ieee, -EReal.coe_mul]
  norm_num

/-- A quotient by a positive divisor is the product by its inverse. -/
theorem div_eq_mul_inv_of_pos {x y : EReal} (hy : 0 < y) : Ideal.div x y = x * y⁻¹ := by
  unfold Ideal.div
  rw [if_neg hy.ne']

variable (d : Fin 784 → Fin 784 → ℝ≥0∞) (ρ : Fin 784 → ℝ≥0∞)

/-- The normalised matrix. -/
def normed : Matrix (Fin 784) (Fin 784) ℝ≥0∞ := fun p q => d p q * ρ p

/-- The product of two square matrices of extended reals, entry by entry. -/
def prodOf (L R : Fin 784 → Fin 784 → EReal) (p q : Fin 784) : EReal := ∑ k : Fin 784, L p k * R k q

/-- The tenth power, by squares. -/
def tenthOf (M : Fin 784 → Fin 784 → EReal) : Fin 784 → Fin 784 → EReal :=
  prodOf (prodOf M M) (prodOf (prodOf (prodOf M M) (prodOf M M)) (prodOf (prodOf M M) (prodOf M M)))

/-- The product of two matrices of extended nonnegative reals, seen among the extended reals. -/
theorem prodOf_coe (L R : Matrix (Fin 784) (Fin 784) ℝ≥0∞) :
    prodOf (fun p q => (L p q : EReal)) (fun p q => (R p q : EReal)) = fun p q => (((L * R) p q : ℝ≥0∞) : EReal) := by
  funext p q
  unfold prodOf
  rw [Matrix.mul_apply, coe_sum]
  exact Finset.sum_congr rfl fun k _ => (EReal.coe_ennreal_mul _ _).symm

/-- The tenth power by squares is the tenth power. -/
theorem tenthOf_coe (M : Matrix (Fin 784) (Fin 784) ℝ≥0∞) :
    tenthOf (fun p q => (M p q : EReal)) = fun p q => (((M ^ 10) p q : ℝ≥0∞) : EReal) := by
  unfold tenthOf
  rw [prodOf_coe, prodOf_coe, prodOf_coe, prodOf_coe]
  rw [show M * M * (M * M * (M * M) * (M * M * (M * M))) = M ^ 10 by
    rw [← pow_two, ← pow_add, ← pow_add, ← pow_add]]

/-- The uniform vector after `n` products, among the extended nonnegative reals. -/
def vec (u : ℝ≥0∞) (n : ℕ) : Fin 784 → ℝ≥0∞ := Matrix.mulVec (normed d ρ ^ n) fun _ => u

/-- One more product, for a symmetric matrix of distances. -/
theorem vec_succ (hd : ∀ p q, d p q = d q p) (u : ℝ≥0∞) (n : ℕ) (q : Fin 784) :
    vec d ρ u (n + 1) q = (∑ p : Fin 784, vec d ρ u n p * d p q) * ρ q := by
  unfold vec
  rw [pow_succ', ← Matrix.mulVec_mulVec, Finset.sum_mul]
  show ∑ p, normed d ρ q p * _ = _
  refine Finset.sum_congr rfl fun p _ => ?_
  unfold normed
  rw [hd q p]
  ring

/-- The vector after `n` products is the row sums of the power times the first entry. -/
theorem vec_eq (u : ℝ≥0∞) (n : ℕ) (p : Fin 784) : vec d ρ u n p = (∑ q : Fin 784, (normed d ρ ^ n) p q) * u := by
  unfold vec
  rw [Finset.sum_mul]
  rfl

/-- The ten products are the row means of the tenth power. -/
theorem iter_ten (D : ℕ → ℕ → EReal) (hn : ∀ p q, 0 ≤ D p q) (hs : ∀ p q, D p q = D q p) (p : Fin 784) :
    iter D 10 p = Ideal.div (∑ q : Fin 784, tenthOf (fun p q => Ideal.div (D p q)
      (max (∑ k : Fin 784, D p k) (Ideal.ofBits .f32 0x2B8CBCCC#32))) p q) (Ideal.ofBits .f32 0x44440000#32) := by
  have hpos : ∀ p : Fin 784, 0 < max (∑ k : Fin 784, D p k) (Ideal.ofBits .f32 0x2B8CBCCC#32) :=
    fun p => lt_of_lt_of_le least_pos (le_max_right _ _)
  let d : Fin 784 → Fin 784 → ℝ≥0∞ := fun p q => (D p q).toENNReal
  let ρ : Fin 784 → ℝ≥0∞ := fun p => ((max (∑ k : Fin 784, D p k) (Ideal.ofBits .f32 0x2B8CBCCC#32))⁻¹).toENNReal
  have hD : ∀ p q : Fin 784, D p q = (d p q : EReal) := fun p q => (EReal.coe_toENNReal (hn p q)).symm
  have hρ : ∀ p : Fin 784, (max (∑ k : Fin 784, D p k) (Ideal.ofBits .f32 0x2B8CBCCC#32))⁻¹ = (ρ p : EReal) :=
    fun p => (EReal.coe_toENNReal (EReal.inv_nonneg_of_nonneg (hpos p).le)).symm
  have hd : ∀ p q, d p q = d q p := fun p q => by
    show (D p q).toENNReal = (D q p).toENNReal
    rw [hs]
  let u : ℝ≥0∞ := (((784⁻¹ : ℝ) : EReal)).toENNReal
  have hu : ((784⁻¹ : ℝ) : EReal) = (u : EReal) :=
    (EReal.coe_toENNReal (EReal.coe_nonneg.mpr (by norm_num))).symm
  have hi : ∀ (n : ℕ) (q : Fin 784), iter D n q = (vec d ρ u n q : EReal) := by
    intro n
    induction n with
    | zero =>
      intro q
      have e : vec d ρ u 0 q = u := by
        unfold vec
        rw [pow_zero, Matrix.one_mulVec]
      rw [e, ← hu]
      rfl
    | succ n ih =>
      intro q
      rw [vec_succ d ρ hd, EReal.coe_ennreal_mul, coe_sum, ← hρ]
      show (∑ p ∈ Finset.range 784, iter D n p * D p q) * Ideal.div 1 (max (∑ p ∈ Finset.range 784, D p q) _) = _
      rw [Finset.sum_range, Finset.sum_range]
      have e : ∑ p : Fin 784, D p q = ∑ k : Fin 784, D q k := Finset.sum_congr rfl fun p _ => hs p q
      rw [e, div_eq_mul_inv_of_pos (hpos q), one_mul]
      congr 1
      refine Finset.sum_congr rfl fun p _ => ?_
      rw [ih p, hD p q, EReal.coe_ennreal_mul]
  have hM : (fun p q : Fin 784 => Ideal.div (D p q) (max (∑ k : Fin 784, D p k) (Ideal.ofBits .f32 0x2B8CBCCC#32)))
      = fun p q => (normed d ρ p q : EReal) := by
    funext p q
    rw [div_eq_mul_inv_of_pos (hpos p), hρ p, hD p q]
    exact (EReal.coe_ennreal_mul _ _).symm
  rw [hM, tenthOf_coe, hi, vec_eq, EReal.coe_ennreal_mul, coe_sum, ← hu, ofBits_pixels,
    div_eq_mul_inv_of_pos (EReal.coe_pos.mpr (by norm_num)), EReal.coe_inv]

end Cert.Proof.KernelIdeal

end
-- ==== Proof.Agree.lean ====
/- The kernel's result and the reference's are the same function of the argument array. -/
module

public import proofs.«01_k».proof.Proof.ValueFrame
public import proofs.«01_k».proof.Proof.RefValue
public import proofs.«01_k».proof.Proof.TenthPower

@[expose] public section

noncomputable section

namespace Cert.Proof.KernelIdeal

open Cert.KernelIdeal Cert.KernelIdeal.Gen
open Idealize.ShloMosaic Idealize.ShloMosaic.TcCoe

variable (A : Vec Ideal S16x512x28x28 .f32)

/-- A sum over the 512 channels, taken sixteen at a time. -/
theorem sum_channels (f : ℕ → EReal) :
    ∑ c : Fin 512, f c = ∑ ci ∈ Finset.range 32, ∑ kk ∈ Finset.range 16, f (16 * ci + kk) := by
  have h : ∀ n : ℕ, ∑ c ∈ Finset.range (16 * n), f c = ∑ ci ∈ Finset.range n, ∑ kk ∈ Finset.range 16, f (16 * ci + kk) := by
    intro n
    induction n with
    | zero => rw [Nat.mul_zero, Finset.sum_range_zero, Finset.sum_range_zero]
    | succ n ih => rw [Nat.mul_succ, Finset.sum_range_add, ih, Finset.sum_range_succ (fun ci => ∑ kk ∈ Finset.range 16, f (16 * ci + kk))]
  rw [← h 32, Finset.sum_range]

/-- The value of a channel at a pixel of an image. -/
def pixel (b : Fin 16) (c p : ℕ) : EReal :=
  if h : c < 512 ∧ p < 784 then A (ix4 b ⟨c, by omega⟩ ⟨p / 28, by omega⟩ ⟨p % 28, by omega⟩) else 0

/-- The kernel's grouping of the channels reads the same values. -/
theorem rowsOf_image (b : Fin 16) (ci kk : ℕ) (p : Fin 784) (hc : ci < 32) (hk : kk < 16) :
    rowsOf (image A b) ci kk p.val = pixel A b (16 * ci + kk) p.val := by
  unfold rowsOf pixel
  rw [dif_pos ⟨hc, hk, p.isLt⟩, dif_pos ⟨by omega, p.isLt⟩]
  rfl

/-- The reference's distances are the kernel's. -/
theorem dists_eq (b : Fin 16) (p q : Fin 784) :
    ReferenceIdeal.dists (ReferenceIdeal.flat A) (ix3 b p q) = matOf (rowsOf (image A b)) p.val q.val := by
  rw [ReferenceIdeal.dists_apply]
  refine Eq.trans ?_ ((sum_channels fun c => dist (pixel A b c p.val) (pixel A b c q.val)).trans ?_)
  · refine Finset.sum_congr rfl fun c _ => ?_
    rw [ReferenceIdeal.flat_apply, ReferenceIdeal.flat_apply]
    unfold pixel
    rw [dif_pos ⟨c.isLt, p.isLt⟩, dif_pos ⟨c.isLt, q.isLt⟩]
    rfl
  · unfold matOf
    refine Finset.sum_congr rfl fun ci hc => Finset.sum_congr rfl fun kk hk => ?_
    rw [rowsOf_image A b ci kk p (Finset.mem_range.mp hc) (Finset.mem_range.mp hk),
      rowsOf_image A b ci kk q (Finset.mem_range.mp hc) (Finset.mem_range.mp hk)]

/-- The matrix of distances is symmetric. -/
theorem matOf_comm (B : ℕ → ℕ → ℕ → EReal) (p q : ℕ) : matOf B p q = matOf B q p := by
  unfold matOf
  exact Finset.sum_congr rfl fun c _ => Finset.sum_congr rfl fun kk _ => dist_comm _ _

/-- The matrix of distances has no negative entry. -/
theorem matOf_nonneg (B : ℕ → ℕ → ℕ → EReal) (p q : ℕ) : 0 ≤ matOf B p q := by
  unfold matOf
  exact Finset.sum_nonneg fun c _ => Finset.sum_nonneg fun kk _ => dist_nonneg _ _

/-- One image's matrix. -/
def slice (L : FVec Ideal Cert.ReferenceIdeal.S16x784x784 .f32) (b : Fin 16) (p q : Fin 784) : EReal := L (ix3 b p q)

/-- A product of the matrices of every image is the product image by image. -/
theorem slice_mul (L R : FVec Ideal Cert.ReferenceIdeal.S16x784x784 .f32) (b : Fin 16) :
    slice (ReferenceIdeal.mul L R) b = prodOf (slice L b) (slice R b) := by
  funext p q
  exact ReferenceIdeal.mul_apply L R b p q

/-- The tenth power of the matrices of every image is the tenth power image by image. -/
theorem slice_tenth (M : FVec Ideal Cert.ReferenceIdeal.S16x784x784 .f32) (b : Fin 16) :
    slice (ReferenceIdeal.tenth M) b = tenthOf (slice M b) := by
  unfold ReferenceIdeal.tenth tenthOf
  simp only [slice_mul]

/-- The normalised matrix of one image. -/
theorem slice_rows (b : Fin 16) :
    slice (ReferenceIdeal.rows (ReferenceIdeal.dists (ReferenceIdeal.flat A))) b
      = fun p q : Fin 784 => Ideal.div (matOf (rowsOf (image A b)) p q)
          (max (∑ k : Fin 784, matOf (rowsOf (image A b)) p k) (Ideal.ofBits .f32 0x2B8CBCCC#32)) := by
  funext p q
  unfold slice
  rw [ReferenceIdeal.rows_apply, dists_eq]
  simp only [dists_eq]

/-- The reference's result at an image, a row and a column. -/
theorem result_apply (b : Fin 16) (i j : Fin 28) :
    ReferenceIdeal.means (ReferenceIdeal.tenth (ReferenceIdeal.rows (ReferenceIdeal.dists (ReferenceIdeal.flat A)))) (ix3 b i j)
      = iter (matOf (rowsOf (image A b))) 10 (28 * i.val + j.val) := by
  rw [ReferenceIdeal.means_apply]
  refine Eq.trans ?_ (iter_ten (matOf (rowsOf (image A b))) (matOf_nonneg _) (matOf_comm _) ⟨28 * i.val + j.val, by omega⟩).symm
  rw [← slice_rows, ← slice_tenth]
  rfl

/-- The reference's result is the kernel's. -/
theorem result_eq :
    ReferenceIdeal.means (ReferenceIdeal.tenth (ReferenceIdeal.rows (ReferenceIdeal.dists (ReferenceIdeal.flat A)))) = outOf A := by
  funext y
  have e : y = ix3 (n0 := 16) (n1 := 28) (n2 := 28) (y 0) (y 1) (y 2) := by
    funext k
    match k with
    | ⟨0, _⟩ => rfl
    | ⟨1, _⟩ => rfl
    | ⟨2, _⟩ => rfl
  exact (congrArg _ e).trans (result_apply A (y 0) (y 1) (y 2))

end Cert.Proof.KernelIdeal

end
-- ==== Proof.lean ====
/- The claim: the two kernels and the reference run to the end with every counter zero and the input as launched, the
   constant's real value rounds to the float the kernel prints, and over the extended reals the kernel and the reference
   leave the same result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.Agree
public import Idealize.ShloMosaic.Adequacy
public import Idealize.ShloMosaic.Init

@[expose] public section

noncomputable section

namespace Cert.Proof

open Idealize.ShloMosaic Idealize.SL Idealize.SL.RA Idealize.SL.BI

/-- The kernel runs safely. -/
theorem kernel_quiescent : Cert.quiescent_Kernel (hKernel := Cert.Kernel.Gen.facts) := fun m g _ =>
  Cert.Proof.Kernel.quiescent (F := Bits) m g

/-- The idealized kernel runs safely. -/
theorem ideal_quiescent : Cert.quiescent_KernelIdeal (hKernelIdeal := Cert.KernelIdeal.Gen.facts) := fun m g _ =>
  (θ_run Cert.KernelIdeal.defs _ _).mono (fun _ h => ⟨fun c => (h.1 c).2, h.2⟩) (Cert.Proof.KernelIdeal.run_exact m g)

/-- The reference runs safely: it is host operations alone, and the program declares no semaphore. -/
theorem reference_quiescent : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The named constant is the table's value. -/
theorem named_value : Cert.preserves_Kernel_KernelIdeal :=
  IdealRules.named_const.statement Cert.KernelIdeal.κ "inv_p" .f32 0x3AA72F05#32 _ rfl

/-- The idealized kernel and the reference leave the same result, for arguments that agree: each leaves the function
    `outOf` of its argument array. -/
theorem same_result : Cert.algebraic_KernelIdeal_ReferenceIdeal (hKernelIdeal := Cert.KernelIdeal.Gen.facts)
    (hReferenceIdeal := Cert.ReferenceIdeal.Gen.facts) := fun m g m' g' _ hm =>
  ⟨fun c => Cert.Proof.KernelIdeal.outOf (m ((c.tc : Thread Cert.KernelIdeal.nD Cert.KernelIdeal.τ).loc Cert.KernelIdeal.main_arg0)),
    (θ_run Cert.KernelIdeal.defs _ _).mono (fun _ h => h.1) (Cert.Proof.KernelIdeal.run_exact m g),
    (θ_run Cert.ReferenceIdeal.defs _ _).mono
      (fun _ h c => ⟨((h c).1.trans (Cert.Proof.ReferenceIdeal.res_eq m' c)).trans
        ((Cert.Proof.KernelIdeal.result_eq _).trans (congrArg Cert.Proof.KernelIdeal.outOf (hm c))), (h c).2⟩)
      (Cert.ReferenceIdeal.Value.run (F := Ideal) m' g')⟩

/-- Everything claimed. -/
theorem claim : Cert.Claim := ⟨Cert.Kernel.Gen.facts, Cert.KernelIdeal.Gen.facts, Cert.ReferenceIdeal.Gen.facts,
  kernel_quiescent, ideal_quiescent, reference_quiescent, named_value, same_result⟩

end Cert.Proof

end
